-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 1024]⟩ ⟨2, ![65536, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S8192x256 : Shape := ⟨2, ![8192, 256]⟩
abbrev S2x8192x256 : Shape := ⟨3, ![2, 8192, 256]⟩
abbrev S_ : Shape := ⟨0, ![]⟩
abbrev S2 : Shape := ⟨1, ![2]⟩
abbrev S8 : Shape := ⟨1, ![8]⟩
abbrev S512x256 : Shape := ⟨2, ![512, 256]⟩
abbrev S256x2x1x256 : Shape := ⟨4, ![256, 2, 1, 256]⟩
abbrev S256x1x1x256 : Shape := ⟨4, ![256, 1, 1, 256]⟩
abbrev S256x1x256 : Shape := ⟨3, ![256, 1, 256]⟩
abbrev S256x1x1 : Shape := ⟨3, ![256, 1, 1]⟩
abbrev S128x2x2x256 : Shape := ⟨4, ![128, 2, 2, 256]⟩
abbrev S128x1x2x256 : Shape := ⟨4, ![128, 1, 2, 256]⟩
abbrev S128x2x256 : Shape := ⟨3, ![128, 2, 256]⟩
abbrev S128x1x1 : Shape := ⟨3, ![128, 1, 1]⟩
abbrev S64x2x4x256 : Shape := ⟨4, ![64, 2, 4, 256]⟩
abbrev S64x1x4x256 : Shape := ⟨4, ![64, 1, 4, 256]⟩
abbrev S64x4x256 : Shape := ⟨3, ![64, 4, 256]⟩
abbrev S64x1x1 : Shape := ⟨3, ![64, 1, 1]⟩
abbrev S32x2x8x256 : Shape := ⟨4, ![32, 2, 8, 256]⟩
abbrev S32x1x8x256 : Shape := ⟨4, ![32, 1, 8, 256]⟩
abbrev S32x8x256 : Shape := ⟨3, ![32, 8, 256]⟩
abbrev S32x1x1 : Shape := ⟨3, ![32, 1, 1]⟩
abbrev S16x2x16x256 : Shape := ⟨4, ![16, 2, 16, 256]⟩
abbrev S16x1x16x256 : Shape := ⟨4, ![16, 1, 16, 256]⟩
abbrev S16x16x256 : Shape := ⟨3, ![16, 16, 256]⟩
abbrev S16x1x1 : Shape := ⟨3, ![16, 1, 1]⟩
abbrev S8x2x32x256 : Shape := ⟨4, ![8, 2, 32, 256]⟩
abbrev S8x1x32x256 : Shape := ⟨4, ![8, 1, 32, 256]⟩
abbrev S8x32x256 : Shape := ⟨3, ![8, 32, 256]⟩
abbrev S8x1x1 : Shape := ⟨3, ![8, 1, 1]⟩
abbrev S4x2x64x256 : Shape := ⟨4, ![4, 2, 64, 256]⟩
abbrev S4x1x64x256 : Shape := ⟨4, ![4, 1, 64, 256]⟩
abbrev S4x64x256 : Shape := ⟨3, ![4, 64, 256]⟩
abbrev S4x1x1 : Shape := ⟨3, ![4, 1, 1]⟩
abbrev S2x2x128x256 : Shape := ⟨4, ![2, 2, 128, 256]⟩
abbrev S2x1x128x256 : Shape := ⟨4, ![2, 1, 128, 256]⟩
abbrev S2x128x256 : Shape := ⟨3, ![2, 128, 256]⟩
abbrev S2x1x1 : Shape := ⟨3, ![2, 1, 1]⟩
abbrev S1x2x256x256 : Shape := ⟨4, ![1, 2, 256, 256]⟩
abbrev S1x1x256x256 : Shape := ⟨4, ![1, 1, 256, 256]⟩
abbrev S1x256x256 : Shape := ⟨3, ![1, 256, 256]⟩
abbrev S1x1x1 : Shape := ⟨3, ![1, 1, 1]⟩
abbrev S1 : Shape := ⟨1, ![1]⟩
abbrev S1x8192x256 : Shape := ⟨3, ![1, 8192, 256]⟩
abbrev S1x512x256 : Shape := ⟨3, ![1, 512, 256]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S8192x256, .f32⟩
  | .local _ .vmem, ⟨1, _⟩ => ⟨S2x8192x256, .f32⟩
  | _, _ => ⟨S8192x1024, .f32⟩

abbrev bufScoped : (cs : CoreSpace) → Fin (nBuf (.core cs)) → Bool
  | .vmem, ⟨0, _⟩ => true
  | .vmem, ⟨1, _⟩ => true
  | _, _ => false

abbrev semScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 8 5 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩

abbrev nD : Nat := 8
abbrev τ : Topo := Topo.v7x

variable {F : FTy → Type} [FloatOps F]

abbrev grid0 : Pipeline.Grid := .none

@[reducible] def k0_t1_loop : Scf.Loop 32 :=
  let c0_i32 : BitVec 32 := 0#32
  let c4_i32 : BitVec 32 := 4#32
  let v3 : BitVec 32 := Scalar.addi c0_i32 c4_i32
  let c1_i32_0 : BitVec 32 := 1#32
  ⟨c0_i32, v3, c1_i32_0⟩
def k0_off1 (k0_t1 : Fin k0_t1_loop.trips) : Fin 2 → Nat :=
  let c0_i32_2 : BitVec 32 := 0#32
  let c0_i32 : BitVec 32 := 0#32
  let c1_i32_0 : BitVec 32 := 1#32
  let arg8 : BitVec 32 := Scf.iv c0_i32 c1_i32_0 k0_t1
  let c256_i32 : BitVec 32 := 256#32
  let v4 : BitVec 32 := Scalar.muli arg8 c256_i32
  ![0, v4.toNat]
@[reducible] def k0_t2_loop : Scf.Loop 32 :=
  let c0_i32_4 : BitVec 32 := 0#32
  let c16_i32 : BitVec 32 := 16#32
  let v7 : BitVec 32 := Scalar.addi c0_i32_4 c16_i32
  let c1_i32_5 : BitVec 32 := 1#32
  ⟨c0_i32_4, v7, c1_i32_5⟩
def k0_off2 (k0_t2 : Fin k0_t2_loop.trips) : Fin 2 → Nat :=
  let c0_i32_4 : BitVec 32 := 0#32
  let c1_i32_5 : BitVec 32 := 1#32
  let arg9 : BitVec 32 := Scf.iv c0_i32_4 c1_i32_5 k0_t2
  let c512_i32 : BitVec 32 := 512#32
  let v400 : BitVec 32 := Scalar.muli arg9 c512_i32
  let v401 : Index := Scalar.indexCast v400
  let c0 : Index := 0#32
  ![v401.toNat, 0]
@[reducible] def k0_t3_loop : Scf.Loop 32 :=
  let c0_i32_7 : BitVec 32 := 0#32
  let c16_i32_8 : BitVec 32 := 16#32
  let v8 : BitVec 32 := Scalar.addi c0_i32_7 c16_i32_8
  let c1_i32_9 : BitVec 32 := 1#32
  ⟨c0_i32_7, v8, c1_i32_9⟩
def k0_off3 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c512_i32 : BitVec 32 := 512#32
  let v400 : BitVec 32 := Scalar.muli arg9 c512_i32
  let v401 : Index := Scalar.indexCast v400
  let c0 : Index := 0#32
  ![v401.toNat, 0]
@[reducible] def k0_t4_loop : Scf.Loop 32 :=
  let c0_i32_11 : BitVec 32 := 0#32
  let c16_i32_12 : BitVec 32 := 16#32
  let v9 : BitVec 32 := Scalar.addi c0_i32_11 c16_i32_12
  let c1_i32_13 : BitVec 32 := 1#32
  ⟨c0_i32_11, v9, c1_i32_13⟩
def k0_off4 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c512_i32 : BitVec 32 := 512#32
  let v400 : BitVec 32 := Scalar.muli arg9 c512_i32
  let v401 : Index := Scalar.indexCast v400
  let c0 : Index := 0#32
  ![v401.toNat, 0]
@[reducible] def k0_t5_loop : Scf.Loop 32 :=
  let c0_i32_15 : BitVec 32 := 0#32
  let c16_i32_16 : BitVec 32 := 16#32
  let v10 : BitVec 32 := Scalar.addi c0_i32_15 c16_i32_16
  let c1_i32_17 : BitVec 32 := 1#32
  ⟨c0_i32_15, v10, c1_i32_17⟩
def k0_off5 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c512_i32 : BitVec 32 := 512#32
  let v400 : BitVec 32 := Scalar.muli arg9 c512_i32
  let v401 : Index := Scalar.indexCast v400
  let c0 : Index := 0#32
  ![v401.toNat, 0]
@[reducible] def k0_t6_loop : Scf.Loop 32 :=
  let c0_i32_19 : BitVec 32 := 0#32
  let c16_i32_20 : BitVec 32 := 16#32
  let v11 : BitVec 32 := Scalar.addi c0_i32_19 c16_i32_20
  let c1_i32_21 : BitVec 32 := 1#32
  ⟨c0_i32_19, v11, c1_i32_21⟩
def k0_off6 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c512_i32 : BitVec 32 := 512#32
  let v400 : BitVec 32 := Scalar.muli arg9 c512_i32
  let v401 : Index := Scalar.indexCast v400
  let c0 : Index := 0#32
  ![v401.toNat, 0]
@[reducible] def k0_t7_loop : Scf.Loop 32 :=
  let c0_i32_23 : BitVec 32 := 0#32
  let c16_i32_24 : BitVec 32 := 16#32
  let v12 : BitVec 32 := Scalar.addi c0_i32_23 c16_i32_24
  let c1_i32_25 : BitVec 32 := 1#32
  ⟨c0_i32_23, v12, c1_i32_25⟩
def k0_off7 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c512_i32 : BitVec 32 := 512#32
  let v400 : BitVec 32 := Scalar.muli arg9 c512_i32
  let v401 : Index := Scalar.indexCast v400
  let c0 : Index := 0#32
  ![v401.toNat, 0]
@[reducible] def k0_t8_loop : Scf.Loop 32 :=
  let c0_i32_27 : BitVec 32 := 0#32
  let c16_i32_28 : BitVec 32 := 16#32
  let v13 : BitVec 32 := Scalar.addi c0_i32_27 c16_i32_28
  let c1_i32_29 : BitVec 32 := 1#32
  ⟨c0_i32_27, v13, c1_i32_29⟩
def k0_off8 (k0_t8 : Fin k0_t8_loop.trips) : Fin 2 → Nat :=
  let c0_i32_27 : BitVec 32 := 0#32
  let c1_i32_29 : BitVec 32 := 1#32
  let arg9 : BitVec 32 := Scf.iv c0_i32_27 c1_i32_29 k0_t8
  let c512_i32 : BitVec 32 := 512#32
  let v400 : BitVec 32 := Scalar.muli arg9 c512_i32
  let v401 : Index := Scalar.indexCast v400
  let c0 : Index := 0#32
  ![v401.toNat, 0]
@[reducible] def k0_t9_loop : Scf.Loop 32 :=
  let c0_i32_31 : BitVec 32 := 0#32
  let c16_i32_32 : BitVec 32 := 16#32
  let v14 : BitVec 32 := Scalar.addi c0_i32_31 c16_i32_32
  let c1_i32_33 : BitVec 32 := 1#32
  ⟨c0_i32_31, v14, c1_i32_33⟩
def k0_off9 (k0_t9 : Fin k0_t9_loop.trips) : Fin 2 → Nat :=
  let c0_i32_31 : BitVec 32 := 0#32
  let c1_i32_33 : BitVec 32 := 1#32
  let arg9 : BitVec 32 := Scf.iv c0_i32_31 c1_i32_33 k0_t9
  let c512_i32 : BitVec 32 := 512#32
  let v400 : BitVec 32 := Scalar.muli arg9 c512_i32
  let v401 : Index := Scalar.indexCast v400
  let c0 : Index := 0#32
  ![v401.toNat, 0]
@[reducible] def k0_t10_loop : Scf.Loop 32 :=
  let c0_i32_35 : BitVec 32 := 0#32
  let c16_i32_36 : BitVec 32 := 16#32
  let v15 : BitVec 32 := Scalar.addi c0_i32_35 c16_i32_36
  let c1_i32_37 : BitVec 32 := 1#32
  ⟨c0_i32_35, v15, c1_i32_37⟩
def k0_off10 (k0_t10 : Fin k0_t10_loop.trips) : Fin 2 → Nat :=
  let c0_i32_35 : BitVec 32 := 0#32
  let c1_i32_37 : BitVec 32 := 1#32
  let arg9 : BitVec 32 := Scf.iv c0_i32_35 c1_i32_37 k0_t10
  let c512_i32 : BitVec 32 := 512#32
  let v400 : BitVec 32 := Scalar.muli arg9 c512_i32
  let v401 : Index := Scalar.indexCast v400
  let c0 : Index := 0#32
  ![v401.toNat, 0]
@[reducible] def k0_t11_loop : Scf.Loop 32 :=
  let c0_i32_39 : BitVec 32 := 0#32
  let c16_i32_40 : BitVec 32 := 16#32
  let v16 : BitVec 32 := Scalar.addi c0_i32_39 c16_i32_40
  let c1_i32_41 : BitVec 32 := 1#32
  ⟨c0_i32_39, v16, c1_i32_41⟩
def k0_off11 (k0_t11 : Fin k0_t11_loop.trips) : Fin 2 → Nat :=
  let c0_i32_39 : BitVec 32 := 0#32
  let c1_i32_41 : BitVec 32 := 1#32
  let arg9 : BitVec 32 := Scf.iv c0_i32_39 c1_i32_41 k0_t11
  let c512_i32 : BitVec 32 := 512#32
  let v400 : BitVec 32 := Scalar.muli arg9 c512_i32
  let v401 : Index := Scalar.indexCast v400
  let c0 : Index := 0#32
  ![v401.toNat, 0]
@[reducible] def k0_t12_loop : Scf.Loop 32 :=
  let c0_i32_43 : BitVec 32 := 0#32
  let c16_i32_44 : BitVec 32 := 16#32
  let v17 : BitVec 32 := Scalar.addi c0_i32_43 c16_i32_44
  let c1_i32_45 : BitVec 32 := 1#32
  ⟨c0_i32_43, v17, c1_i32_45⟩
def k0_off12 (k0_t12 : Fin k0_t12_loop.trips) : Fin 2 → Nat :=
  let c0_i32_43 : BitVec 32 := 0#32
  let c1_i32_45 : BitVec 32 := 1#32
  let arg9 : BitVec 32 := Scf.iv c0_i32_43 c1_i32_45 k0_t12
  let c512_i32 : BitVec 32 := 512#32
  let v400 : BitVec 32 := Scalar.muli arg9 c512_i32
  let v401 : Index := Scalar.indexCast v400
  let c0 : Index := 0#32
  ![v401.toNat, 0]
@[reducible] def k0_t13_loop : Scf.Loop 32 :=
  let c0_i32_47 : BitVec 32 := 0#32
  let c16_i32_48 : BitVec 32 := 16#32
  let v18 : BitVec 32 := Scalar.addi c0_i32_47 c16_i32_48
  let c1_i32_49 : BitVec 32 := 1#32
  ⟨c0_i32_47, v18, c1_i32_49⟩
def k0_off13 (k0_t13 : Fin k0_t13_loop.trips) : Fin 2 → Nat :=
  let c0_i32_47 : BitVec 32 := 0#32
  let c1_i32_49 : BitVec 32 := 1#32
  let arg9 : BitVec 32 := Scf.iv c0_i32_47 c1_i32_49 k0_t13
  let c512_i32 : BitVec 32 := 512#32
  let v400 : BitVec 32 := Scalar.muli arg9 c512_i32
  let v401 : Index := Scalar.indexCast v400
  let c0 : Index := 0#32
  ![v401.toNat, 0]
@[reducible] def k0_t14_loop : Scf.Loop 32 :=
  let c0_i32_51 : BitVec 32 := 0#32
  let c16_i32_52 : BitVec 32 := 16#32
  let v19 : BitVec 32 := Scalar.addi c0_i32_51 c16_i32_52
  let c1_i32_53 : BitVec 32 := 1#32
  ⟨c0_i32_51, v19, c1_i32_53⟩
def k0_off14 (k0_t14 : Fin k0_t14_loop.trips) : Fin 2 → Nat :=
  let c0_i32_51 : BitVec 32 := 0#32
  let c1_i32_53 : BitVec 32 := 1#32
  let arg9 : BitVec 32 := Scf.iv c0_i32_51 c1_i32_53 k0_t14
  let c512_i32 : BitVec 32 := 512#32
  let v400 : BitVec 32 := Scalar.muli arg9 c512_i32
  let v401 : Index := Scalar.indexCast v400
  let c0 : Index := 0#32
  ![v401.toNat, 0]
@[reducible] def k0_t15_loop : Scf.Loop 32 :=
  let c0_i32_55 : BitVec 32 := 0#32
  let c16_i32_56 : BitVec 32 := 16#32
  let v20 : BitVec 32 := Scalar.addi c0_i32_55 c16_i32_56
  let c1_i32_57 : BitVec 32 := 1#32
  ⟨c0_i32_55, v20, c1_i32_57⟩
def k0_off15 (k0_t15 : Fin k0_t15_loop.trips) : Fin 2 → Nat :=
  let c0_i32_55 : BitVec 32 := 0#32
  let c1_i32_57 : BitVec 32 := 1#32
  let arg9 : BitVec 32 := Scf.iv c0_i32_55 c1_i32_57 k0_t15
  let c512_i32 : BitVec 32 := 512#32
  let v400 : BitVec 32 := Scalar.muli arg9 c512_i32
  let v401 : Index := Scalar.indexCast v400
  let c0 : Index := 0#32
  ![v401.toNat, 0]
@[reducible] def k0_t16_loop : Scf.Loop 32 :=
  let c0_i32_59 : BitVec 32 := 0#32
  let c16_i32_60 : BitVec 32 := 16#32
  let v21 : BitVec 32 := Scalar.addi c0_i32_59 c16_i32_60
  let c1_i32_61 : BitVec 32 := 1#32
  ⟨c0_i32_59, v21, c1_i32_61⟩
def k0_off16 (k0_t16 : Fin k0_t16_loop.trips) : Fin 2 → Nat :=
  let c0_i32_59 : BitVec 32 := 0#32
  let c1_i32_61 : BitVec 32 := 1#32
  let arg9 : BitVec 32 := Scf.iv c0_i32_59 c1_i32_61 k0_t16
  let c512_i32 : BitVec 32 := 512#32
  let v400 : BitVec 32 := Scalar.muli arg9 c512_i32
  let v401 : Index := Scalar.indexCast v400
  let c0 : Index := 0#32
  ![v401.toNat, 0]
@[reducible] def k0_t17_loop : Scf.Loop 32 :=
  let c0_i32_63 : BitVec 32 := 0#32
  let c16_i32_64 : BitVec 32 := 16#32
  let v22 : BitVec 32 := Scalar.addi c0_i32_63 c16_i32_64
  let c1_i32_65 : BitVec 32 := 1#32
  ⟨c0_i32_63, v22, c1_i32_65⟩
def k0_off17 (k0_t17 : Fin k0_t17_loop.trips) : Fin 2 → Nat :=
  let c0_i32_63 : BitVec 32 := 0#32
  let c1_i32_65 : BitVec 32 := 1#32
  let arg9 : BitVec 32 := Scf.iv c0_i32_63 c1_i32_65 k0_t17
  let c512_i32 : BitVec 32 := 512#32
  let v400 : BitVec 32 := Scalar.muli arg9 c512_i32
  let v401 : Index := Scalar.indexCast v400
  let c0 : Index := 0#32
  ![v401.toNat, 0]
@[reducible] def k0_t18_loop : Scf.Loop 32 :=
  let c0_i32_67 : BitVec 32 := 0#32
  let c16_i32_68 : BitVec 32 := 16#32
  let v23 : BitVec 32 := Scalar.addi c0_i32_67 c16_i32_68
  let c1_i32_69 : BitVec 32 := 1#32
  ⟨c0_i32_67, v23, c1_i32_69⟩
def k0_off18 (k0_t18 : Fin k0_t18_loop.trips) : Fin 2 → Nat :=
  let c0_i32_67 : BitVec 32 := 0#32
  let c1_i32_69 : BitVec 32 := 1#32
  let arg9 : BitVec 32 := Scf.iv c0_i32_67 c1_i32_69 k0_t18
  let c512_i32 : BitVec 32 := 512#32
  let v400 : BitVec 32 := Scalar.muli arg9 c512_i32
  let v401 : Index := Scalar.indexCast v400
  let c0 : Index := 0#32
  ![v401.toNat, 0]
@[reducible] def k0_t19_loop : Scf.Loop 32 :=
  let c0_i32_71 : BitVec 32 := 0#32
  let c16_i32_72 : BitVec 32 := 16#32
  let v24 : BitVec 32 := Scalar.addi c0_i32_71 c16_i32_72
  let c1_i32_73 : BitVec 32 := 1#32
  ⟨c0_i32_71, v24, c1_i32_73⟩
def k0_off19 (k0_t19 : Fin k0_t19_loop.trips) : Fin 2 → Nat :=
  let c0_i32_71 : BitVec 32 := 0#32
  let c1_i32_73 : BitVec 32 := 1#32
  let arg9 : BitVec 32 := Scf.iv c0_i32_71 c1_i32_73 k0_t19
  let c512_i32 : BitVec 32 := 512#32
  let v400 : BitVec 32 := Scalar.muli arg9 c512_i32
  let v401 : Index := Scalar.indexCast v400
  let c0 : Index := 0#32
  ![v401.toNat, 0]
@[reducible] def k0_t20_loop : Scf.Loop 32 :=
  let c0_i32_75 : BitVec 32 := 0#32
  let c16_i32_76 : BitVec 32 := 16#32
  let v25 : BitVec 32 := Scalar.addi c0_i32_75 c16_i32_76
  let c1_i32_77 : BitVec 32 := 1#32
  ⟨c0_i32_75, v25, c1_i32_77⟩
def k0_off20 (k0_t20 : Fin k0_t20_loop.trips) : Fin 2 → Nat :=
  let c0_i32_75 : BitVec 32 := 0#32
  let c1_i32_77 : BitVec 32 := 1#32
  let arg9 : BitVec 32 := Scf.iv c0_i32_75 c1_i32_77 k0_t20
  let c512_i32 : BitVec 32 := 512#32
  let v400 : BitVec 32 := Scalar.muli arg9 c512_i32
  let v401 : Index := Scalar.indexCast v400
  let c0 : Index := 0#32
  ![v401.toNat, 0]
@[reducible] def k0_t21_loop : Scf.Loop 32 :=
  let c0_i32_79 : BitVec 32 := 0#32
  let c16_i32_80 : BitVec 32 := 16#32
  let v26 : BitVec 32 := Scalar.addi c0_i32_79 c16_i32_80
  let c1_i32_81 : BitVec 32 := 1#32
  ⟨c0_i32_79, v26, c1_i32_81⟩
def k0_off21 (k0_t21 : Fin k0_t21_loop.trips) : Fin 2 → Nat :=
  let c0_i32_79 : BitVec 32 := 0#32
  let c1_i32_81 : BitVec 32 := 1#32
  let arg9 : BitVec 32 := Scf.iv c0_i32_79 c1_i32_81 k0_t21
  let c512_i32 : BitVec 32 := 512#32
  let v400 : BitVec 32 := Scalar.muli arg9 c512_i32
  let v401 : Index := Scalar.indexCast v400
  let c0 : Index := 0#32
  ![v401.toNat, 0]
@[reducible] def k0_t22_loop : Scf.Loop 32 :=
  let c0_i32_83 : BitVec 32 := 0#32
  let c16_i32_84 : BitVec 32 := 16#32
  let v27 : BitVec 32 := Scalar.addi c0_i32_83 c16_i32_84
  let c1_i32_85 : BitVec 32 := 1#32
  ⟨c0_i32_83, v27, c1_i32_85⟩
def k0_off22 (k0_t22 : Fin k0_t22_loop.trips) : Fin 2 → Nat :=
  let c0_i32_83 : BitVec 32 := 0#32
  let c1_i32_85 : BitVec 32 := 1#32
  let arg9 : BitVec 32 := Scf.iv c0_i32_83 c1_i32_85 k0_t22
  let c512_i32 : BitVec 32 := 512#32
  let v400 : BitVec 32 := Scalar.muli arg9 c512_i32
  let v401 : Index := Scalar.indexCast v400
  let c0 : Index := 0#32
  ![v401.toNat, 0]
@[reducible] def k0_t23_loop : Scf.Loop 32 :=
  let c0_i32_87 : BitVec 32 := 0#32
  let c16_i32_88 : BitVec 32 := 16#32
  let v28 : BitVec 32 := Scalar.addi c0_i32_87 c16_i32_88
  let c1_i32_89 : BitVec 32 := 1#32
  ⟨c0_i32_87, v28, c1_i32_89⟩
def k0_off23 (k0_t23 : Fin k0_t23_loop.trips) : Fin 2 → Nat :=
  let c0_i32_87 : BitVec 32 := 0#32
  let c1_i32_89 : BitVec 32 := 1#32
  let arg9 : BitVec 32 := Scf.iv c0_i32_87 c1_i32_89 k0_t23
  let c512_i32 : BitVec 32 := 512#32
  let v400 : BitVec 32 := Scalar.muli arg9 c512_i32
  let v401 : Index := Scalar.indexCast v400
  let c0 : Index := 0#32
  ![v401.toNat, 0]
@[reducible] def k0_t24_loop : Scf.Loop 32 :=
  let c0_i32_91 : BitVec 32 := 0#32
  let c16_i32_92 : BitVec 32 := 16#32
  let v29 : BitVec 32 := Scalar.addi c0_i32_91 c16_i32_92
  let c1_i32_93 : BitVec 32 := 1#32
  ⟨c0_i32_91, v29, c1_i32_93⟩
def k0_off24 (k0_t24 : Fin k0_t24_loop.trips) : Fin 2 → Nat :=
  let c0_i32_91 : BitVec 32 := 0#32
  let c1_i32_93 : BitVec 32 := 1#32
  let arg9 : BitVec 32 := Scf.iv c0_i32_91 c1_i32_93 k0_t24
  let c512_i32 : BitVec 32 := 512#32
  let v400 : BitVec 32 := Scalar.muli arg9 c512_i32
  let v401 : Index := Scalar.indexCast v400
  let c0 : Index := 0#32
  ![v401.toNat, 0]
@[reducible] def k0_t25_loop : Scf.Loop 32 :=
  let c0_i32_95 : BitVec 32 := 0#32
  let c16_i32_96 : BitVec 32 := 16#32
  let v30 : BitVec 32 := Scalar.addi c0_i32_95 c16_i32_96
  let c1_i32_97 : BitVec 32 := 1#32
  ⟨c0_i32_95, v30, c1_i32_97⟩
def k0_off25 (k0_t25 : Fin k0_t25_loop.trips) : Fin 2 → Nat :=
  let c0_i32_95 : BitVec 32 := 0#32
  let c1_i32_97 : BitVec 32 := 1#32
  let arg9 : BitVec 32 := Scf.iv c0_i32_95 c1_i32_97 k0_t25
  let c512_i32 : BitVec 32 := 512#32
  let v400 : BitVec 32 := Scalar.muli arg9 c512_i32
  let v401 : Index := Scalar.indexCast v400
  let c0 : Index := 0#32
  ![v401.toNat, 0]
@[reducible] def k0_t26_loop : Scf.Loop 32 :=
  let c0_i32_99 : BitVec 32 := 0#32
  let c16_i32_100 : BitVec 32 := 16#32
  let v31 : BitVec 32 := Scalar.addi c0_i32_99 c16_i32_100
  let c1_i32_101 : BitVec 32 := 1#32
  ⟨c0_i32_99, v31, c1_i32_101⟩
def k0_off26 (k0_t26 : Fin k0_t26_loop.trips) : Fin 2 → Nat :=
  let c0_i32_99 : BitVec 32 := 0#32
  let c1_i32_101 : BitVec 32 := 1#32
  let arg9 : BitVec 32 := Scf.iv c0_i32_99 c1_i32_101 k0_t26
  let c512_i32 : BitVec 32 := 512#32
  let v400 : BitVec 32 := Scalar.muli arg9 c512_i32
  let v401 : Index := Scalar.indexCast v400
  let c0 : Index := 0#32
  ![v401.toNat, 0]
@[reducible] def k0_t27_loop : Scf.Loop 32 :=
  let c0_i32_103 : BitVec 32 := 0#32
  let c16_i32_104 : BitVec 32 := 16#32
  let v32 : BitVec 32 := Scalar.addi c0_i32_103 c16_i32_104
  let c1_i32_105 : BitVec 32 := 1#32
  ⟨c0_i32_103, v32, c1_i32_105⟩
def k0_off27 (k0_t27 : Fin k0_t27_loop.trips) : Fin 2 → Nat :=
  let c0_i32_103 : BitVec 32 := 0#32
  let c1_i32_105 : BitVec 32 := 1#32
  let arg9 : BitVec 32 := Scf.iv c0_i32_103 c1_i32_105 k0_t27
  let c512_i32 : BitVec 32 := 512#32
  let v400 : BitVec 32 := Scalar.muli arg9 c512_i32
  let v401 : Index := Scalar.indexCast v400
  let c0 : Index := 0#32
  ![v401.toNat, 0]
@[reducible] def k0_t28_loop : Scf.Loop 32 :=
  let c0_i32_107 : BitVec 32 := 0#32
  let c16_i32_108 : BitVec 32 := 16#32
  let v33 : BitVec 32 := Scalar.addi c0_i32_107 c16_i32_108
  let c1_i32_109 : BitVec 32 := 1#32
  ⟨c0_i32_107, v33, c1_i32_109⟩
def k0_off28 (k0_t28 : Fin k0_t28_loop.trips) : Fin 2 → Nat :=
  let c0_i32_107 : BitVec 32 := 0#32
  let c1_i32_109 : BitVec 32 := 1#32
  let arg9 : BitVec 32 := Scf.iv c0_i32_107 c1_i32_109 k0_t28
  let c512_i32 : BitVec 32 := 512#32
  let v400 : BitVec 32 := Scalar.muli arg9 c512_i32
  let v401 : Index := Scalar.indexCast v400
  let c0 : Index := 0#32
  ![v401.toNat, 0]
@[reducible] def k0_t29_loop : Scf.Loop 32 :=
  let c0_i32_111 : BitVec 32 := 0#32
  let c16_i32_112 : BitVec 32 := 16#32
  let v34 : BitVec 32 := Scalar.addi c0_i32_111 c16_i32_112
  let c1_i32_113 : BitVec 32 := 1#32
  ⟨c0_i32_111, v34, c1_i32_113⟩
def k0_off29 (k0_t29 : Fin k0_t29_loop.trips) : Fin 2 → Nat :=
  let c0_i32_111 : BitVec 32 := 0#32
  let c1_i32_113 : BitVec 32 := 1#32
  let arg9 : BitVec 32 := Scf.iv c0_i32_111 c1_i32_113 k0_t29
  let c512_i32 : BitVec 32 := 512#32
  let v400 : BitVec 32 := Scalar.muli arg9 c512_i32
  let v401 : Index := Scalar.indexCast v400
  let c0 : Index := 0#32
  ![v401.toNat, 0]
@[reducible] def k0_t30_loop : Scf.Loop 32 :=
  let c0_i32_115 : BitVec 32 := 0#32
  let c16_i32_116 : BitVec 32 := 16#32
  let v35 : BitVec 32 := Scalar.addi c0_i32_115 c16_i32_116
  let c1_i32_117 : BitVec 32 := 1#32
  ⟨c0_i32_115, v35, c1_i32_117⟩
def k0_off30 (k0_t30 : Fin k0_t30_loop.trips) : Fin 2 → Nat :=
  let c0_i32_115 : BitVec 32 := 0#32
  let c1_i32_117 : BitVec 32 := 1#32
  let arg9 : BitVec 32 := Scf.iv c0_i32_115 c1_i32_117 k0_t30
  let c512_i32 : BitVec 32 := 512#32
  let v400 : BitVec 32 := Scalar.muli arg9 c512_i32
  let v401 : Index := Scalar.indexCast v400
  let c0 : Index := 0#32
  ![v401.toNat, 0]
@[reducible] def k0_t31_loop : Scf.Loop 32 :=
  let c0_i32_119 : BitVec 32 := 0#32
  let c16_i32_120 : BitVec 32 := 16#32
  let v36 : BitVec 32 := Scalar.addi c0_i32_119 c16_i32_120
  let c1_i32_121 : BitVec 32 := 1#32
  ⟨c0_i32_119, v36, c1_i32_121⟩
def k0_off31 (k0_t31 : Fin k0_t31_loop.trips) : Fin 2 → Nat :=
  let c0_i32_119 : BitVec 32 := 0#32
  let c1_i32_121 : BitVec 32 := 1#32
  let arg9 : BitVec 32 := Scf.iv c0_i32_119 c1_i32_121 k0_t31
  let c512_i32 : BitVec 32 := 512#32
  let v400 : BitVec 32 := Scalar.muli arg9 c512_i32
  let v401 : Index := Scalar.indexCast v400
  let c0 : Index := 0#32
  ![v401.toNat, 0]
@[reducible] def k0_t32_loop : Scf.Loop 32 :=
  let c0_i32_123 : BitVec 32 := 0#32
  let c16_i32_124 : BitVec 32 := 16#32
  let v37 : BitVec 32 := Scalar.addi c0_i32_123 c16_i32_124
  let c1_i32_125 : BitVec 32 := 1#32
  ⟨c0_i32_123, v37, c1_i32_125⟩
def k0_off32 (k0_t32 : Fin k0_t32_loop.trips) : Fin 2 → Nat :=
  let c0_i32_123 : BitVec 32 := 0#32
  let c1_i32_125 : BitVec 32 := 1#32
  let arg9 : BitVec 32 := Scf.iv c0_i32_123 c1_i32_125 k0_t32
  let c512_i32 : BitVec 32 := 512#32
  let v400 : BitVec 32 := Scalar.muli arg9 c512_i32
  let v401 : Index := Scalar.indexCast v400
  let c0 : Index := 0#32
  ![v401.toNat, 0]
@[reducible] def k0_t33_loop : Scf.Loop 32 :=
  let c0_i32_127 : BitVec 32 := 0#32
  let c16_i32_128 : BitVec 32 := 16#32
  let v38 : BitVec 32 := Scalar.addi c0_i32_127 c16_i32_128
  let c1_i32_129 : BitVec 32 := 1#32
  ⟨c0_i32_127, v38, c1_i32_129⟩
def k0_off33 (k0_t33 : Fin k0_t33_loop.trips) : Fin 2 → Nat :=
  let c0_i32_127 : BitVec 32 := 0#32
  let c1_i32_129 : BitVec 32 := 1#32
  let arg9 : BitVec 32 := Scf.iv c0_i32_127 c1_i32_129 k0_t33
  let c512_i32 : BitVec 32 := 512#32
  let v400 : BitVec 32 := Scalar.muli arg9 c512_i32
  let v401 : Index := Scalar.indexCast v400
  let c0 : Index := 0#32
  ![v401.toNat, 0]
@[reducible] def k0_t34_loop : Scf.Loop 32 :=
  let c0_i32_131 : BitVec 32 := 0#32
  let c16_i32_132 : BitVec 32 := 16#32
  let v39 : BitVec 32 := Scalar.addi c0_i32_131 c16_i32_132
  let c1_i32_133 : BitVec 32 := 1#32
  ⟨c0_i32_131, v39, c1_i32_133⟩
def k0_off34 (k0_t34 : Fin k0_t34_loop.trips) : Fin 2 → Nat :=
  let c0_i32_131 : BitVec 32 := 0#32
  let c1_i32_133 : BitVec 32 := 1#32
  let arg9 : BitVec 32 := Scf.iv c0_i32_131 c1_i32_133 k0_t34
  let c512_i32 : BitVec 32 := 512#32
  let v400 : BitVec 32 := Scalar.muli arg9 c512_i32
  let v401 : Index := Scalar.indexCast v400
  let c0 : Index := 0#32
  ![v401.toNat, 0]
@[reducible] def k0_t35_loop : Scf.Loop 32 :=
  let c0_i32_135 : BitVec 32 := 0#32
  let c16_i32_136 : BitVec 32 := 16#32
  let v40 : BitVec 32 := Scalar.addi c0_i32_135 c16_i32_136
  let c1_i32_137 : BitVec 32 := 1#32
  ⟨c0_i32_135, v40, c1_i32_137⟩
def k0_off35 (k0_t35 : Fin k0_t35_loop.trips) : Fin 2 → Nat :=
  let c0_i32_135 : BitVec 32 := 0#32
  let c1_i32_137 : BitVec 32 := 1#32
  let arg9 : BitVec 32 := Scf.iv c0_i32_135 c1_i32_137 k0_t35
  let c512_i32 : BitVec 32 := 512#32
  let v400 : BitVec 32 := Scalar.muli arg9 c512_i32
  let v401 : Index := Scalar.indexCast v400
  let c0 : Index := 0#32
  ![v401.toNat, 0]
@[reducible] def k0_t36_loop : Scf.Loop 32 :=
  let c0_i32_139 : BitVec 32 := 0#32
  let c16_i32_140 : BitVec 32 := 16#32
  let v41 : BitVec 32 := Scalar.addi c0_i32_139 c16_i32_140
  let c1_i32_141 : BitVec 32 := 1#32
  ⟨c0_i32_139, v41, c1_i32_141⟩
def k0_off36 (k0_t36 : Fin k0_t36_loop.trips) : Fin 2 → Nat :=
  let c0_i32_139 : BitVec 32 := 0#32
  let c1_i32_141 : BitVec 32 := 1#32
  let arg9 : BitVec 32 := Scf.iv c0_i32_139 c1_i32_141 k0_t36
  let c512_i32 : BitVec 32 := 512#32
  let v400 : BitVec 32 := Scalar.muli arg9 c512_i32
  let v401 : Index := Scalar.indexCast v400
  let c0 : Index := 0#32
  ![v401.toNat, 0]
@[reducible] def k0_t37_loop : Scf.Loop 32 :=
  let c0_i32_143 : BitVec 32 := 0#32
  let c16_i32_144 : BitVec 32 := 16#32
  let v42 : BitVec 32 := Scalar.addi c0_i32_143 c16_i32_144
  let c1_i32_145 : BitVec 32 := 1#32
  ⟨c0_i32_143, v42, c1_i32_145⟩
def k0_off37 (k0_t37 : Fin k0_t37_loop.trips) : Fin 2 → Nat :=
  let c0_i32_143 : BitVec 32 := 0#32
  let c1_i32_145 : BitVec 32 := 1#32
  let arg9 : BitVec 32 := Scf.iv c0_i32_143 c1_i32_145 k0_t37
  let c512_i32 : BitVec 32 := 512#32
  let v400 : BitVec 32 := Scalar.muli arg9 c512_i32
  let v401 : Index := Scalar.indexCast v400
  let c0 : Index := 0#32
  ![v401.toNat, 0]
@[reducible] def k0_t38_loop : Scf.Loop 32 :=
  let c0_i32_147 : BitVec 32 := 0#32
  let c16_i32_148 : BitVec 32 := 16#32
  let v43 : BitVec 32 := Scalar.addi c0_i32_147 c16_i32_148
  let c1_i32_149 : BitVec 32 := 1#32
  ⟨c0_i32_147, v43, c1_i32_149⟩
def k0_off38 (k0_t38 : Fin k0_t38_loop.trips) : Fin 2 → Nat :=
  let c0_i32_147 : BitVec 32 := 0#32
  let c1_i32_149 : BitVec 32 := 1#32
  let arg9 : BitVec 32 := Scf.iv c0_i32_147 c1_i32_149 k0_t38
  let c512_i32 : BitVec 32 := 512#32
  let v400 : BitVec 32 := Scalar.muli arg9 c512_i32
  let v401 : Index := Scalar.indexCast v400
  let c0 : Index := 0#32
  ![v401.toNat, 0]
@[reducible] def k0_t39_loop : Scf.Loop 32 :=
  let c0_i32_151 : BitVec 32 := 0#32
  let c16_i32_152 : BitVec 32 := 16#32
  let v44 : BitVec 32 := Scalar.addi c0_i32_151 c16_i32_152
  let c1_i32_153 : BitVec 32 := 1#32
  ⟨c0_i32_151, v44, c1_i32_153⟩
def k0_off39 (k0_t39 : Fin k0_t39_loop.trips) : Fin 2 → Nat :=
  let c0_i32_151 : BitVec 32 := 0#32
  let c1_i32_153 : BitVec 32 := 1#32
  let arg9 : BitVec 32 := Scf.iv c0_i32_151 c1_i32_153 k0_t39
  let c512_i32 : BitVec 32 := 512#32
  let v400 : BitVec 32 := Scalar.muli arg9 c512_i32
  let v401 : Index := Scalar.indexCast v400
  let c0 : Index := 0#32
  ![v401.toNat, 0]
@[reducible] def k0_t40_loop : Scf.Loop 32 :=
  let c0_i32_155 : BitVec 32 := 0#32
  let c16_i32_156 : BitVec 32 := 16#32
  let v45 : BitVec 32 := Scalar.addi c0_i32_155 c16_i32_156
  let c1_i32_157 : BitVec 32 := 1#32
  ⟨c0_i32_155, v45, c1_i32_157⟩
def k0_off40 (k0_t40 : Fin k0_t40_loop.trips) : Fin 2 → Nat :=
  let c0_i32_155 : BitVec 32 := 0#32
  let c1_i32_157 : BitVec 32 := 1#32
  let arg9 : BitVec 32 := Scf.iv c0_i32_155 c1_i32_157 k0_t40
  let c512_i32 : BitVec 32 := 512#32
  let v400 : BitVec 32 := Scalar.muli arg9 c512_i32
  let v401 : Index := Scalar.indexCast v400
  let c0 : Index := 0#32
  ![v401.toNat, 0]
@[reducible] def k0_t41_loop : Scf.Loop 32 :=
  let c0_i32_159 : BitVec 32 := 0#32
  let c16_i32_160 : BitVec 32 := 16#32
  let v46 : BitVec 32 := Scalar.addi c0_i32_159 c16_i32_160
  let c1_i32_161 : BitVec 32 := 1#32
  ⟨c0_i32_159, v46, c1_i32_161⟩
def k0_off41 (k0_t41 : Fin k0_t41_loop.trips) : Fin 2 → Nat :=
  let c0_i32_159 : BitVec 32 := 0#32
  let c1_i32_161 : BitVec 32 := 1#32
  let arg9 : BitVec 32 := Scf.iv c0_i32_159 c1_i32_161 k0_t41
  let c512_i32 : BitVec 32 := 512#32
  let v400 : BitVec 32 := Scalar.muli arg9 c512_i32
  let v401 : Index := Scalar.indexCast v400
  let c0 : Index := 0#32
  ![v401.toNat, 0]
@[reducible] def k0_t42_loop : Scf.Loop 32 :=
  let c0_i32_163 : BitVec 32 := 0#32
  let c16_i32_164 : BitVec 32 := 16#32
  let v47 : BitVec 32 := Scalar.addi c0_i32_163 c16_i32_164
  let c1_i32_165 : BitVec 32 := 1#32
  ⟨c0_i32_163, v47, c1_i32_165⟩
def k0_off42 (k0_t42 : Fin k0_t42_loop.trips) : Fin 2 → Nat :=
  let c0_i32_163 : BitVec 32 := 0#32
  let c1_i32_165 : BitVec 32 := 1#32
  let arg9 : BitVec 32 := Scf.iv c0_i32_163 c1_i32_165 k0_t42
  let c512_i32 : BitVec 32 := 512#32
  let v400 : BitVec 32 := Scalar.muli arg9 c512_i32
  let v401 : Index := Scalar.indexCast v400
  let c0 : Index := 0#32
  ![v401.toNat, 0]
@[reducible] def k0_t43_loop : Scf.Loop 32 :=
  let c0_i32_167 : BitVec 32 := 0#32
  let c16_i32_168 : BitVec 32 := 16#32
  let v48 : BitVec 32 := Scalar.addi c0_i32_167 c16_i32_168
  let c1_i32_169 : BitVec 32 := 1#32
  ⟨c0_i32_167, v48, c1_i32_169⟩
def k0_off43 (k0_t43 : Fin k0_t43_loop.trips) : Fin 2 → Nat :=
  let c0_i32_167 : BitVec 32 := 0#32
  let c1_i32_169 : BitVec 32 := 1#32
  let arg9 : BitVec 32 := Scf.iv c0_i32_167 c1_i32_169 k0_t43
  let c512_i32 : BitVec 32 := 512#32
  let v400 : BitVec 32 := Scalar.muli arg9 c512_i32
  let v401 : Index := Scalar.indexCast v400
  let c0 : Index := 0#32
  ![v401.toNat, 0]
@[reducible] def k0_t44_loop : Scf.Loop 32 :=
  let c0_i32_171 : BitVec 32 := 0#32
  let c16_i32_172 : BitVec 32 := 16#32
  let v49 : BitVec 32 := Scalar.addi c0_i32_171 c16_i32_172
  let c1_i32_173 : BitVec 32 := 1#32
  ⟨c0_i32_171, v49, c1_i32_173⟩
def k0_off44 (k0_t44 : Fin k0_t44_loop.trips) : Fin 2 → Nat :=
  let c0_i32_171 : BitVec 32 := 0#32
  let c1_i32_173 : BitVec 32 := 1#32
  let arg9 : BitVec 32 := Scf.iv c0_i32_171 c1_i32_173 k0_t44
  let c512_i32 : BitVec 32 := 512#32
  let v400 : BitVec 32 := Scalar.muli arg9 c512_i32
  let v401 : Index := Scalar.indexCast v400
  let c0 : Index := 0#32
  ![v401.toNat, 0]
@[reducible] def k0_t45_loop : Scf.Loop 32 :=
  let c0_i32_175 : BitVec 32 := 0#32
  let c16_i32_176 : BitVec 32 := 16#32
  let v50 : BitVec 32 := Scalar.addi c0_i32_175 c16_i32_176
  let c1_i32_177 : BitVec 32 := 1#32
  ⟨c0_i32_175, v50, c1_i32_177⟩
def k0_off45 (k0_t45 : Fin k0_t45_loop.trips) : Fin 2 → Nat :=
  let c0_i32_175 : BitVec 32 := 0#32
  let c1_i32_177 : BitVec 32 := 1#32
  let arg9 : BitVec 32 := Scf.iv c0_i32_175 c1_i32_177 k0_t45
  let c512_i32 : BitVec 32 := 512#32
  let v400 : BitVec 32 := Scalar.muli arg9 c512_i32
  let v401 : Index := Scalar.indexCast v400
  let c0 : Index := 0#32
  ![v401.toNat, 0]
@[reducible] def k0_t46_loop : Scf.Loop 32 :=
  let c0_i32_179 : BitVec 32 := 0#32
  let c16_i32_180 : BitVec 32 := 16#32
  let v51 : BitVec 32 := Scalar.addi c0_i32_179 c16_i32_180
  let c1_i32_181 : BitVec 32 := 1#32
  ⟨c0_i32_179, v51, c1_i32_181⟩
def k0_off46 (k0_t46 : Fin k0_t46_loop.trips) : Fin 2 → Nat :=
  let c0_i32_179 : BitVec 32 := 0#32
  let c1_i32_181 : BitVec 32 := 1#32
  let arg9 : BitVec 32 := Scf.iv c0_i32_179 c1_i32_181 k0_t46
  let c512_i32 : BitVec 32 := 512#32
  let v400 : BitVec 32 := Scalar.muli arg9 c512_i32
  let v401 : Index := Scalar.indexCast v400
  let c0 : Index := 0#32
  ![v401.toNat, 0]
@[reducible] def k0_t47_loop : Scf.Loop 32 :=
  let c0_i32_183 : BitVec 32 := 0#32
  let c8_i32_184 : BitVec 32 := 8#32
  let v52 : BitVec 32 := Scalar.addi c0_i32_183 c8_i32_184
  let c1_i32_185 : BitVec 32 := 1#32
  ⟨c0_i32_183, v52, c1_i32_185⟩
def k0_off47 (k0_t47 : Fin k0_t47_loop.trips) : Fin 2 → Nat :=
  let c0_i32_183 : BitVec 32 := 0#32
  let c1_i32_185 : BitVec 32 := 1#32
  let arg9 : BitVec 32 := Scf.iv c0_i32_183 c1_i32_185 k0_t47
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let v432 : Index := Scalar.indexCast v430
  let c0 : Index := 0#32
  ![v432.toNat, 0]
def k0_off48 (k0_t47 : Fin k0_t47_loop.trips) : Fin 2 → Nat :=
  let c0_i32_183 : BitVec 32 := 0#32
  let c1_i32_185 : BitVec 32 := 1#32
  let arg9 : BitVec 32 := Scf.iv c0_i32_183 c1_i32_185 k0_t47
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let c512_i32_786 : BitVec 32 := 512#32
  let v431 : BitVec 32 := Scalar.addi v430 c512_i32_786
  let v434 : Index := Scalar.indexCast v431
  let c0_787 : Index := 0#32
  ![v434.toNat, 0]
@[reducible] def k0_t48_loop : Scf.Loop 32 :=
  let c0_i32_187 : BitVec 32 := 0#32
  let c16_i32_188 : BitVec 32 := 16#32
  let v53 : BitVec 32 := Scalar.addi c0_i32_187 c16_i32_188
  let c1_i32_189 : BitVec 32 := 1#32
  ⟨c0_i32_187, v53, c1_i32_189⟩
def k0_off49 (k0_t48 : Fin k0_t48_loop.trips) : Fin 2 → Nat :=
  let c0_i32_187 : BitVec 32 := 0#32
  let c1_i32_189 : BitVec 32 := 1#32
  let arg9 : BitVec 32 := Scf.iv c0_i32_187 c1_i32_189 k0_t48
  let c512_i32 : BitVec 32 := 512#32
  let v400 : BitVec 32 := Scalar.muli arg9 c512_i32
  let v401 : Index := Scalar.indexCast v400
  let c0 : Index := 0#32
  ![v401.toNat, 0]
@[reducible] def k0_t49_loop : Scf.Loop 32 :=
  let c0_i32_191 : BitVec 32 := 0#32
  let c16_i32_192 : BitVec 32 := 16#32
  let v54 : BitVec 32 := Scalar.addi c0_i32_191 c16_i32_192
  let c1_i32_193 : BitVec 32 := 1#32
  ⟨c0_i32_191, v54, c1_i32_193⟩
def k0_off50 (k0_t49 : Fin k0_t49_loop.trips) : Fin 2 → Nat :=
  let c0_i32_191 : BitVec 32 := 0#32
  let c1_i32_193 : BitVec 32 := 1#32
  let arg9 : BitVec 32 := Scf.iv c0_i32_191 c1_i32_193 k0_t49
  let c512_i32 : BitVec 32 := 512#32
  let v400 : BitVec 32 := Scalar.muli arg9 c512_i32
  let v401 : Index := Scalar.indexCast v400
  let c0 : Index := 0#32
  ![v401.toNat, 0]
@[reducible] def k0_t50_loop : Scf.Loop 32 :=
  let c0_i32_195 : BitVec 32 := 0#32
  let c16_i32_196 : BitVec 32 := 16#32
  let v55 : BitVec 32 := Scalar.addi c0_i32_195 c16_i32_196
  let c1_i32_197 : BitVec 32 := 1#32
  ⟨c0_i32_195, v55, c1_i32_197⟩
def k0_off51 (k0_t50 : Fin k0_t50_loop.trips) : Fin 2 → Nat :=
  let c0_i32_195 : BitVec 32 := 0#32
  let c1_i32_197 : BitVec 32 := 1#32
  let arg9 : BitVec 32 := Scf.iv c0_i32_195 c1_i32_197 k0_t50
  let c512_i32 : BitVec 32 := 512#32
  let v400 : BitVec 32 := Scalar.muli arg9 c512_i32
  let v401 : Index := Scalar.indexCast v400
  let c0 : Index := 0#32
  ![v401.toNat, 0]
@[reducible] def k0_t51_loop : Scf.Loop 32 :=
  let c0_i32_199 : BitVec 32 := 0#32
  let c16_i32_200 : BitVec 32 := 16#32
  let v56 : BitVec 32 := Scalar.addi c0_i32_199 c16_i32_200
  let c1_i32_201 : BitVec 32 := 1#32
  ⟨c0_i32_199, v56, c1_i32_201⟩
def k0_off52 (k0_t51 : Fin k0_t51_loop.trips) : Fin 2 → Nat :=
  let c0_i32_199 : BitVec 32 := 0#32
  let c1_i32_201 : BitVec 32 := 1#32
  let arg9 : BitVec 32 := Scf.iv c0_i32_199 c1_i32_201 k0_t51
  let c512_i32 : BitVec 32 := 512#32
  let v400 : BitVec 32 := Scalar.muli arg9 c512_i32
  let v401 : Index := Scalar.indexCast v400
  let c0 : Index := 0#32
  ![v401.toNat, 0]
@[reducible] def k0_t52_loop : Scf.Loop 32 :=
  let c0_i32_203 : BitVec 32 := 0#32
  let c16_i32_204 : BitVec 32 := 16#32
  let v57 : BitVec 32 := Scalar.addi c0_i32_203 c16_i32_204
  let c1_i32_205 : BitVec 32 := 1#32
  ⟨c0_i32_203, v57, c1_i32_205⟩
def k0_off53 (k0_t52 : Fin k0_t52_loop.trips) : Fin 2 → Nat :=
  let c0_i32_203 : BitVec 32 := 0#32
  let c1_i32_205 : BitVec 32 := 1#32
  let arg9 : BitVec 32 := Scf.iv c0_i32_203 c1_i32_205 k0_t52
  let c512_i32 : BitVec 32 := 512#32
  let v400 : BitVec 32 := Scalar.muli arg9 c512_i32
  let v401 : Index := Scalar.indexCast v400
  let c0 : Index := 0#32
  ![v401.toNat, 0]
@[reducible] def k0_t53_loop : Scf.Loop 32 :=
  let c0_i32_207 : BitVec 32 := 0#32
  let c16_i32_208 : BitVec 32 := 16#32
  let v58 : BitVec 32 := Scalar.addi c0_i32_207 c16_i32_208
  let c1_i32_209 : BitVec 32 := 1#32
  ⟨c0_i32_207, v58, c1_i32_209⟩
def k0_off54 (k0_t53 : Fin k0_t53_loop.trips) : Fin 2 → Nat :=
  let c0_i32_207 : BitVec 32 := 0#32
  let c1_i32_209 : BitVec 32 := 1#32
  let arg9 : BitVec 32 := Scf.iv c0_i32_207 c1_i32_209 k0_t53
  let c512_i32 : BitVec 32 := 512#32
  let v400 : BitVec 32 := Scalar.muli arg9 c512_i32
  let v401 : Index := Scalar.indexCast v400
  let c0 : Index := 0#32
  ![v401.toNat, 0]
@[reducible] def k0_t54_loop : Scf.Loop 32 :=
  let c0_i32_211 : BitVec 32 := 0#32
  let c16_i32_212 : BitVec 32 := 16#32
  let v59 : BitVec 32 := Scalar.addi c0_i32_211 c16_i32_212
  let c1_i32_213 : BitVec 32 := 1#32
  ⟨c0_i32_211, v59, c1_i32_213⟩
def k0_off55 (k0_t54 : Fin k0_t54_loop.trips) : Fin 2 → Nat :=
  let c0_i32_211 : BitVec 32 := 0#32
  let c1_i32_213 : BitVec 32 := 1#32
  let arg9 : BitVec 32 := Scf.iv c0_i32_211 c1_i32_213 k0_t54
  let c512_i32 : BitVec 32 := 512#32
  let v400 : BitVec 32 := Scalar.muli arg9 c512_i32
  let v401 : Index := Scalar.indexCast v400
  let c0 : Index := 0#32
  ![v401.toNat, 0]
@[reducible] def k0_t55_loop : Scf.Loop 32 :=
  let c0_i32_215 : BitVec 32 := 0#32
  let c16_i32_216 : BitVec 32 := 16#32
  let v60 : BitVec 32 := Scalar.addi c0_i32_215 c16_i32_216
  let c1_i32_217 : BitVec 32 := 1#32
  ⟨c0_i32_215, v60, c1_i32_217⟩
def k0_off56 (k0_t55 : Fin k0_t55_loop.trips) : Fin 2 → Nat :=
  let c0_i32_215 : BitVec 32 := 0#32
  let c1_i32_217 : BitVec 32 := 1#32
  let arg9 : BitVec 32 := Scf.iv c0_i32_215 c1_i32_217 k0_t55
  let c512_i32 : BitVec 32 := 512#32
  let v400 : BitVec 32 := Scalar.muli arg9 c512_i32
  let v401 : Index := Scalar.indexCast v400
  let c0 : Index := 0#32
  ![v401.toNat, 0]
@[reducible] def k0_t56_loop : Scf.Loop 32 :=
  let c0_i32_219 : BitVec 32 := 0#32
  let c16_i32_220 : BitVec 32 := 16#32
  let v61 : BitVec 32 := Scalar.addi c0_i32_219 c16_i32_220
  let c1_i32_221 : BitVec 32 := 1#32
  ⟨c0_i32_219, v61, c1_i32_221⟩
def k0_off57 (k0_t56 : Fin k0_t56_loop.trips) : Fin 2 → Nat :=
  let c0_i32_219 : BitVec 32 := 0#32
  let c1_i32_221 : BitVec 32 := 1#32
  let arg9 : BitVec 32 := Scf.iv c0_i32_219 c1_i32_221 k0_t56
  let c512_i32 : BitVec 32 := 512#32
  let v400 : BitVec 32 := Scalar.muli arg9 c512_i32
  let v401 : Index := Scalar.indexCast v400
  let c0 : Index := 0#32
  ![v401.toNat, 0]
@[reducible] def k0_t57_loop : Scf.Loop 32 :=
  let c0_i32_223 : BitVec 32 := 0#32
  let c8_i32_224 : BitVec 32 := 8#32
  let v62 : BitVec 32 := Scalar.addi c0_i32_223 c8_i32_224
  let c1_i32_225 : BitVec 32 := 1#32
  ⟨c0_i32_223, v62, c1_i32_225⟩
def k0_off58 (k0_t57 : Fin k0_t57_loop.trips) : Fin 2 → Nat :=
  let c0_i32_223 : BitVec 32 := 0#32
  let c1_i32_225 : BitVec 32 := 1#32
  let arg9 : BitVec 32 := Scf.iv c0_i32_223 c1_i32_225 k0_t57
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c2_i32_771 : BitVec 32 := 2#32
  let c0_i32_774 : BitVec 32 := 0#32
  let v406 : BitVec 1 := Scalar.cmpi .sgt c2_i32_771 c0_i32_774
  let v407 : BitVec 32 := Scalar.extui v406
  let c0_i32_775 : BitVec 32 := 0#32
  let v408 : BitVec 1 := Scalar.cmpi .slt c2_i32_771 c0_i32_775
  let v409 : BitVec 32 := Scalar.extui v408
  let v410 : BitVec 32 := Scalar.subi v407 v409
  let v411 : BitVec 1 := Scalar.cmpi .ne v405 v410
  let v412 : BitVec 32 := Scalar.remsi arg9 c2_i32_771
  let c0_i32_776 : BitVec 32 := 0#32
  let v413 : BitVec 1 := Scalar.cmpi .ne v412 c0_i32_776
  let v414 : BitVec 1 := Scalar.andi v411 v413
  let v400 : BitVec 32 := Scalar.divsi arg9 c2_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c1024_i32 : BitVec 32 := 1024#32
  let v428 : BitVec 32 := Scalar.muli v427 c1024_i32
  let c2_i32_778 : BitVec 32 := 2#32
  let c0_i32_779 : BitVec 32 := 0#32
  let v417 : BitVec 1 := Scalar.cmpi .eq c2_i32_778 c0_i32_779
  let c1_i32_780 : BitVec 32 := 1#32
  let v418 : BitVec 32 := Scalar.select v417 c1_i32_780 c2_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off59 (k0_t57 : Fin k0_t57_loop.trips) : Fin 2 → Nat :=
  let c0_i32_223 : BitVec 32 := 0#32
  let c1_i32_225 : BitVec 32 := 1#32
  let arg9 : BitVec 32 := Scf.iv c0_i32_223 c1_i32_225 k0_t57
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c2_i32_771 : BitVec 32 := 2#32
  let c0_i32_774 : BitVec 32 := 0#32
  let v406 : BitVec 1 := Scalar.cmpi .sgt c2_i32_771 c0_i32_774
  let v407 : BitVec 32 := Scalar.extui v406
  let c0_i32_775 : BitVec 32 := 0#32
  let v408 : BitVec 1 := Scalar.cmpi .slt c2_i32_771 c0_i32_775
  let v409 : BitVec 32 := Scalar.extui v408
  let v410 : BitVec 32 := Scalar.subi v407 v409
  let v411 : BitVec 1 := Scalar.cmpi .ne v405 v410
  let v412 : BitVec 32 := Scalar.remsi arg9 c2_i32_771
  let c0_i32_776 : BitVec 32 := 0#32
  let v413 : BitVec 1 := Scalar.cmpi .ne v412 c0_i32_776
  let v414 : BitVec 1 := Scalar.andi v411 v413
  let v400 : BitVec 32 := Scalar.divsi arg9 c2_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c1024_i32 : BitVec 32 := 1024#32
  let v428 : BitVec 32 := Scalar.muli v427 c1024_i32
  let c2_i32_778 : BitVec 32 := 2#32
  let c0_i32_779 : BitVec 32 := 0#32
  let v417 : BitVec 1 := Scalar.cmpi .eq c2_i32_778 c0_i32_779
  let c1_i32_780 : BitVec 32 := 1#32
  let v418 : BitVec 32 := Scalar.select v417 c1_i32_780 c2_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c1024_i32_785 : BitVec 32 := 1024#32
  let v431 : BitVec 32 := Scalar.addi v430 c1024_i32_785
  let v434 : Index := Scalar.indexCast v431
  let c0_786 : Index := 0#32
  ![v434.toNat, 0]
@[reducible] def k0_t58_loop : Scf.Loop 32 :=
  let c0_i32_227 : BitVec 32 := 0#32
  let c8_i32_228 : BitVec 32 := 8#32
  let v63 : BitVec 32 := Scalar.addi c0_i32_227 c8_i32_228
  let c1_i32_229 : BitVec 32 := 1#32
  ⟨c0_i32_227, v63, c1_i32_229⟩
def k0_off60 (k0_t58 : Fin k0_t58_loop.trips) : Fin 2 → Nat :=
  let c0_i32_227 : BitVec 32 := 0#32
  let c1_i32_229 : BitVec 32 := 1#32
  let arg9 : BitVec 32 := Scf.iv c0_i32_227 c1_i32_229 k0_t58
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let v432 : Index := Scalar.indexCast v430
  let c0 : Index := 0#32
  ![v432.toNat, 0]
def k0_off61 (k0_t58 : Fin k0_t58_loop.trips) : Fin 2 → Nat :=
  let c0_i32_227 : BitVec 32 := 0#32
  let c1_i32_229 : BitVec 32 := 1#32
  let arg9 : BitVec 32 := Scf.iv c0_i32_227 c1_i32_229 k0_t58
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let c512_i32_786 : BitVec 32 := 512#32
  let v431 : BitVec 32 := Scalar.addi v430 c512_i32_786
  let v434 : Index := Scalar.indexCast v431
  let c0_787 : Index := 0#32
  ![v434.toNat, 0]
@[reducible] def k0_t59_loop : Scf.Loop 32 :=
  let c0_i32_231 : BitVec 32 := 0#32
  let c16_i32_232 : BitVec 32 := 16#32
  let v64 : BitVec 32 := Scalar.addi c0_i32_231 c16_i32_232
  let c1_i32_233 : BitVec 32 := 1#32
  ⟨c0_i32_231, v64, c1_i32_233⟩
def k0_off62 (k0_t59 : Fin k0_t59_loop.trips) : Fin 2 → Nat :=
  let c0_i32_231 : BitVec 32 := 0#32
  let c1_i32_233 : BitVec 32 := 1#32
  let arg9 : BitVec 32 := Scf.iv c0_i32_231 c1_i32_233 k0_t59
  let c512_i32 : BitVec 32 := 512#32
  let v400 : BitVec 32 := Scalar.muli arg9 c512_i32
  let v401 : Index := Scalar.indexCast v400
  let c0 : Index := 0#32
  ![v401.toNat, 0]
@[reducible] def k0_t60_loop : Scf.Loop 32 :=
  let c0_i32_235 : BitVec 32 := 0#32
  let c16_i32_236 : BitVec 32 := 16#32
  let v65 : BitVec 32 := Scalar.addi c0_i32_235 c16_i32_236
  let c1_i32_237 : BitVec 32 := 1#32
  ⟨c0_i32_235, v65, c1_i32_237⟩
def k0_off63 (k0_t60 : Fin k0_t60_loop.trips) : Fin 2 → Nat :=
  let c0_i32_235 : BitVec 32 := 0#32
  let c1_i32_237 : BitVec 32 := 1#32
  let arg9 : BitVec 32 := Scf.iv c0_i32_235 c1_i32_237 k0_t60
  let c512_i32 : BitVec 32 := 512#32
  let v400 : BitVec 32 := Scalar.muli arg9 c512_i32
  let v401 : Index := Scalar.indexCast v400
  let c0 : Index := 0#32
  ![v401.toNat, 0]
@[reducible] def k0_t61_loop : Scf.Loop 32 :=
  let c0_i32_239 : BitVec 32 := 0#32
  let c16_i32_240 : BitVec 32 := 16#32
  let v66 : BitVec 32 := Scalar.addi c0_i32_239 c16_i32_240
  let c1_i32_241 : BitVec 32 := 1#32
  ⟨c0_i32_239, v66, c1_i32_241⟩
def k0_off64 (k0_t61 : Fin k0_t61_loop.trips) : Fin 2 → Nat :=
  let c0_i32_239 : BitVec 32 := 0#32
  let c1_i32_241 : BitVec 32 := 1#32
  let arg9 : BitVec 32 := Scf.iv c0_i32_239 c1_i32_241 k0_t61
  let c512_i32 : BitVec 32 := 512#32
  let v400 : BitVec 32 := Scalar.muli arg9 c512_i32
  let v401 : Index := Scalar.indexCast v400
  let c0 : Index := 0#32
  ![v401.toNat, 0]
@[reducible] def k0_t62_loop : Scf.Loop 32 :=
  let c0_i32_243 : BitVec 32 := 0#32
  let c16_i32_244 : BitVec 32 := 16#32
  let v67 : BitVec 32 := Scalar.addi c0_i32_243 c16_i32_244
  let c1_i32_245 : BitVec 32 := 1#32
  ⟨c0_i32_243, v67, c1_i32_245⟩
def k0_off65 (k0_t62 : Fin k0_t62_loop.trips) : Fin 2 → Nat :=
  let c0_i32_243 : BitVec 32 := 0#32
  let c1_i32_245 : BitVec 32 := 1#32
  let arg9 : BitVec 32 := Scf.iv c0_i32_243 c1_i32_245 k0_t62
  let c512_i32 : BitVec 32 := 512#32
  let v400 : BitVec 32 := Scalar.muli arg9 c512_i32
  let v401 : Index := Scalar.indexCast v400
  let c0 : Index := 0#32
  ![v401.toNat, 0]
@[reducible] def k0_t63_loop : Scf.Loop 32 :=
  let c0_i32_247 : BitVec 32 := 0#32
  let c16_i32_248 : BitVec 32 := 16#32
  let v68 : BitVec 32 := Scalar.addi c0_i32_247 c16_i32_248
  let c1_i32_249 : BitVec 32 := 1#32
  ⟨c0_i32_247, v68, c1_i32_249⟩
def k0_off66 (k0_t63 : Fin k0_t63_loop.trips) : Fin 2 → Nat :=
  let c0_i32_247 : BitVec 32 := 0#32
  let c1_i32_249 : BitVec 32 := 1#32
  let arg9 : BitVec 32 := Scf.iv c0_i32_247 c1_i32_249 k0_t63
  let c512_i32 : BitVec 32 := 512#32
  let v400 : BitVec 32 := Scalar.muli arg9 c512_i32
  let v401 : Index := Scalar.indexCast v400
  let c0 : Index := 0#32
  ![v401.toNat, 0]
@[reducible] def k0_t64_loop : Scf.Loop 32 :=
  let c0_i32_251 : BitVec 32 := 0#32
  let c16_i32_252 : BitVec 32 := 16#32
  let v69 : BitVec 32 := Scalar.addi c0_i32_251 c16_i32_252
  let c1_i32_253 : BitVec 32 := 1#32
  ⟨c0_i32_251, v69, c1_i32_253⟩
def k0_off67 (k0_t64 : Fin k0_t64_loop.trips) : Fin 2 → Nat :=
  let c0_i32_251 : BitVec 32 := 0#32
  let c1_i32_253 : BitVec 32 := 1#32
  let arg9 : BitVec 32 := Scf.iv c0_i32_251 c1_i32_253 k0_t64
  let c512_i32 : BitVec 32 := 512#32
  let v400 : BitVec 32 := Scalar.muli arg9 c512_i32
  let v401 : Index := Scalar.indexCast v400
  let c0 : Index := 0#32
  ![v401.toNat, 0]
@[reducible] def k0_t65_loop : Scf.Loop 32 :=
  let c0_i32_255 : BitVec 32 := 0#32
  let c16_i32_256 : BitVec 32 := 16#32
  let v70 : BitVec 32 := Scalar.addi c0_i32_255 c16_i32_256
  let c1_i32_257 : BitVec 32 := 1#32
  ⟨c0_i32_255, v70, c1_i32_257⟩
def k0_off68 (k0_t65 : Fin k0_t65_loop.trips) : Fin 2 → Nat :=
  let c0_i32_255 : BitVec 32 := 0#32
  let c1_i32_257 : BitVec 32 := 1#32
  let arg9 : BitVec 32 := Scf.iv c0_i32_255 c1_i32_257 k0_t65
  let c512_i32 : BitVec 32 := 512#32
  let v400 : BitVec 32 := Scalar.muli arg9 c512_i32
  let v401 : Index := Scalar.indexCast v400
  let c0 : Index := 0#32
  ![v401.toNat, 0]
@[reducible] def k0_t66_loop : Scf.Loop 32 :=
  let c0_i32_259 : BitVec 32 := 0#32
  let c16_i32_260 : BitVec 32 := 16#32
  let v71 : BitVec 32 := Scalar.addi c0_i32_259 c16_i32_260
  let c1_i32_261 : BitVec 32 := 1#32
  ⟨c0_i32_259, v71, c1_i32_261⟩
def k0_off69 (k0_t66 : Fin k0_t66_loop.trips) : Fin 2 → Nat :=
  let c0_i32_259 : BitVec 32 := 0#32
  let c1_i32_261 : BitVec 32 := 1#32
  let arg9 : BitVec 32 := Scf.iv c0_i32_259 c1_i32_261 k0_t66
  let c512_i32 : BitVec 32 := 512#32
  let v400 : BitVec 32 := Scalar.muli arg9 c512_i32
  let v401 : Index := Scalar.indexCast v400
  let c0 : Index := 0#32
  ![v401.toNat, 0]
@[reducible] def k0_t67_loop : Scf.Loop 32 :=
  let c0_i32_263 : BitVec 32 := 0#32
  let c16_i32_264 : BitVec 32 := 16#32
  let v72 : BitVec 32 := Scalar.addi c0_i32_263 c16_i32_264
  let c1_i32_265 : BitVec 32 := 1#32
  ⟨c0_i32_263, v72, c1_i32_265⟩
def k0_off70 (k0_t67 : Fin k0_t67_loop.trips) : Fin 2 → Nat :=
  let c0_i32_263 : BitVec 32 := 0#32
  let c1_i32_265 : BitVec 32 := 1#32
  let arg9 : BitVec 32 := Scf.iv c0_i32_263 c1_i32_265 k0_t67
  let c512_i32 : BitVec 32 := 512#32
  let v400 : BitVec 32 := Scalar.muli arg9 c512_i32
  let v401 : Index := Scalar.indexCast v400
  let c0 : Index := 0#32
  ![v401.toNat, 0]
@[reducible] def k0_t68_loop : Scf.Loop 32 :=
  let c0_i32_267 : BitVec 32 := 0#32
  let c8_i32_268 : BitVec 32 := 8#32
  let v73 : BitVec 32 := Scalar.addi c0_i32_267 c8_i32_268
  let c1_i32_269 : BitVec 32 := 1#32
  ⟨c0_i32_267, v73, c1_i32_269⟩
def k0_off71 (k0_t68 : Fin k0_t68_loop.trips) : Fin 2 → Nat :=
  let c0_i32_267 : BitVec 32 := 0#32
  let c1_i32_269 : BitVec 32 := 1#32
  let arg9 : BitVec 32 := Scf.iv c0_i32_267 c1_i32_269 k0_t68
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c4_i32_771 : BitVec 32 := 4#32
  let c0_i32_774 : BitVec 32 := 0#32
  let v406 : BitVec 1 := Scalar.cmpi .sgt c4_i32_771 c0_i32_774
  let v407 : BitVec 32 := Scalar.extui v406
  let c0_i32_775 : BitVec 32 := 0#32
  let v408 : BitVec 1 := Scalar.cmpi .slt c4_i32_771 c0_i32_775
  let v409 : BitVec 32 := Scalar.extui v408
  let v410 : BitVec 32 := Scalar.subi v407 v409
  let v411 : BitVec 1 := Scalar.cmpi .ne v405 v410
  let v412 : BitVec 32 := Scalar.remsi arg9 c4_i32_771
  let c0_i32_776 : BitVec 32 := 0#32
  let v413 : BitVec 1 := Scalar.cmpi .ne v412 c0_i32_776
  let v414 : BitVec 1 := Scalar.andi v411 v413
  let v400 : BitVec 32 := Scalar.divsi arg9 c4_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c2048_i32 : BitVec 32 := 2048#32
  let v428 : BitVec 32 := Scalar.muli v427 c2048_i32
  let c4_i32_778 : BitVec 32 := 4#32
  let c0_i32_779 : BitVec 32 := 0#32
  let v417 : BitVec 1 := Scalar.cmpi .eq c4_i32_778 c0_i32_779
  let c1_i32_780 : BitVec 32 := 1#32
  let v418 : BitVec 32 := Scalar.select v417 c1_i32_780 c4_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off72 (k0_t68 : Fin k0_t68_loop.trips) : Fin 2 → Nat :=
  let c0_i32_267 : BitVec 32 := 0#32
  let c1_i32_269 : BitVec 32 := 1#32
  let arg9 : BitVec 32 := Scf.iv c0_i32_267 c1_i32_269 k0_t68
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c4_i32_771 : BitVec 32 := 4#32
  let c0_i32_774 : BitVec 32 := 0#32
  let v406 : BitVec 1 := Scalar.cmpi .sgt c4_i32_771 c0_i32_774
  let v407 : BitVec 32 := Scalar.extui v406
  let c0_i32_775 : BitVec 32 := 0#32
  let v408 : BitVec 1 := Scalar.cmpi .slt c4_i32_771 c0_i32_775
  let v409 : BitVec 32 := Scalar.extui v408
  let v410 : BitVec 32 := Scalar.subi v407 v409
  let v411 : BitVec 1 := Scalar.cmpi .ne v405 v410
  let v412 : BitVec 32 := Scalar.remsi arg9 c4_i32_771
  let c0_i32_776 : BitVec 32 := 0#32
  let v413 : BitVec 1 := Scalar.cmpi .ne v412 c0_i32_776
  let v414 : BitVec 1 := Scalar.andi v411 v413
  let v400 : BitVec 32 := Scalar.divsi arg9 c4_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c2048_i32 : BitVec 32 := 2048#32
  let v428 : BitVec 32 := Scalar.muli v427 c2048_i32
  let c4_i32_778 : BitVec 32 := 4#32
  let c0_i32_779 : BitVec 32 := 0#32
  let v417 : BitVec 1 := Scalar.cmpi .eq c4_i32_778 c0_i32_779
  let c1_i32_780 : BitVec 32 := 1#32
  let v418 : BitVec 32 := Scalar.select v417 c1_i32_780 c4_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c2048_i32_785 : BitVec 32 := 2048#32
  let v431 : BitVec 32 := Scalar.addi v430 c2048_i32_785
  let v434 : Index := Scalar.indexCast v431
  let c0_786 : Index := 0#32
  ![v434.toNat, 0]
@[reducible] def k0_t69_loop : Scf.Loop 32 :=
  let c0_i32_271 : BitVec 32 := 0#32
  let c8_i32_272 : BitVec 32 := 8#32
  let v74 : BitVec 32 := Scalar.addi c0_i32_271 c8_i32_272
  let c1_i32_273 : BitVec 32 := 1#32
  ⟨c0_i32_271, v74, c1_i32_273⟩
def k0_off73 (k0_t69 : Fin k0_t69_loop.trips) : Fin 2 → Nat :=
  let c0_i32_271 : BitVec 32 := 0#32
  let c1_i32_273 : BitVec 32 := 1#32
  let arg9 : BitVec 32 := Scf.iv c0_i32_271 c1_i32_273 k0_t69
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c2_i32_771 : BitVec 32 := 2#32
  let c0_i32_774 : BitVec 32 := 0#32
  let v406 : BitVec 1 := Scalar.cmpi .sgt c2_i32_771 c0_i32_774
  let v407 : BitVec 32 := Scalar.extui v406
  let c0_i32_775 : BitVec 32 := 0#32
  let v408 : BitVec 1 := Scalar.cmpi .slt c2_i32_771 c0_i32_775
  let v409 : BitVec 32 := Scalar.extui v408
  let v410 : BitVec 32 := Scalar.subi v407 v409
  let v411 : BitVec 1 := Scalar.cmpi .ne v405 v410
  let v412 : BitVec 32 := Scalar.remsi arg9 c2_i32_771
  let c0_i32_776 : BitVec 32 := 0#32
  let v413 : BitVec 1 := Scalar.cmpi .ne v412 c0_i32_776
  let v414 : BitVec 1 := Scalar.andi v411 v413
  let v400 : BitVec 32 := Scalar.divsi arg9 c2_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c1024_i32 : BitVec 32 := 1024#32
  let v428 : BitVec 32 := Scalar.muli v427 c1024_i32
  let c2_i32_778 : BitVec 32 := 2#32
  let c0_i32_779 : BitVec 32 := 0#32
  let v417 : BitVec 1 := Scalar.cmpi .eq c2_i32_778 c0_i32_779
  let c1_i32_780 : BitVec 32 := 1#32
  let v418 : BitVec 32 := Scalar.select v417 c1_i32_780 c2_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off74 (k0_t69 : Fin k0_t69_loop.trips) : Fin 2 → Nat :=
  let c0_i32_271 : BitVec 32 := 0#32
  let c1_i32_273 : BitVec 32 := 1#32
  let arg9 : BitVec 32 := Scf.iv c0_i32_271 c1_i32_273 k0_t69
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c2_i32_771 : BitVec 32 := 2#32
  let c0_i32_774 : BitVec 32 := 0#32
  let v406 : BitVec 1 := Scalar.cmpi .sgt c2_i32_771 c0_i32_774
  let v407 : BitVec 32 := Scalar.extui v406
  let c0_i32_775 : BitVec 32 := 0#32
  let v408 : BitVec 1 := Scalar.cmpi .slt c2_i32_771 c0_i32_775
  let v409 : BitVec 32 := Scalar.extui v408
  let v410 : BitVec 32 := Scalar.subi v407 v409
  let v411 : BitVec 1 := Scalar.cmpi .ne v405 v410
  let v412 : BitVec 32 := Scalar.remsi arg9 c2_i32_771
  let c0_i32_776 : BitVec 32 := 0#32
  let v413 : BitVec 1 := Scalar.cmpi .ne v412 c0_i32_776
  let v414 : BitVec 1 := Scalar.andi v411 v413
  let v400 : BitVec 32 := Scalar.divsi arg9 c2_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c1024_i32 : BitVec 32 := 1024#32
  let v428 : BitVec 32 := Scalar.muli v427 c1024_i32
  let c2_i32_778 : BitVec 32 := 2#32
  let c0_i32_779 : BitVec 32 := 0#32
  let v417 : BitVec 1 := Scalar.cmpi .eq c2_i32_778 c0_i32_779
  let c1_i32_780 : BitVec 32 := 1#32
  let v418 : BitVec 32 := Scalar.select v417 c1_i32_780 c2_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c1024_i32_785 : BitVec 32 := 1024#32
  let v431 : BitVec 32 := Scalar.addi v430 c1024_i32_785
  let v434 : Index := Scalar.indexCast v431
  let c0_786 : Index := 0#32
  ![v434.toNat, 0]
@[reducible] def k0_t70_loop : Scf.Loop 32 :=
  let c0_i32_275 : BitVec 32 := 0#32
  let c8_i32_276 : BitVec 32 := 8#32
  let v75 : BitVec 32 := Scalar.addi c0_i32_275 c8_i32_276
  let c1_i32_277 : BitVec 32 := 1#32
  ⟨c0_i32_275, v75, c1_i32_277⟩
def k0_off75 (k0_t70 : Fin k0_t70_loop.trips) : Fin 2 → Nat :=
  let c0_i32_275 : BitVec 32 := 0#32
  let c1_i32_277 : BitVec 32 := 1#32
  let arg9 : BitVec 32 := Scf.iv c0_i32_275 c1_i32_277 k0_t70
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let v432 : Index := Scalar.indexCast v430
  let c0 : Index := 0#32
  ![v432.toNat, 0]
def k0_off76 (k0_t70 : Fin k0_t70_loop.trips) : Fin 2 → Nat :=
  let c0_i32_275 : BitVec 32 := 0#32
  let c1_i32_277 : BitVec 32 := 1#32
  let arg9 : BitVec 32 := Scf.iv c0_i32_275 c1_i32_277 k0_t70
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let c512_i32_786 : BitVec 32 := 512#32
  let v431 : BitVec 32 := Scalar.addi v430 c512_i32_786
  let v434 : Index := Scalar.indexCast v431
  let c0_787 : Index := 0#32
  ![v434.toNat, 0]
@[reducible] def k0_t71_loop : Scf.Loop 32 :=
  let c0_i32_279 : BitVec 32 := 0#32
  let c16_i32_280 : BitVec 32 := 16#32
  let v76 : BitVec 32 := Scalar.addi c0_i32_279 c16_i32_280
  let c1_i32_281 : BitVec 32 := 1#32
  ⟨c0_i32_279, v76, c1_i32_281⟩
def k0_off77 (k0_t71 : Fin k0_t71_loop.trips) : Fin 2 → Nat :=
  let c0_i32_279 : BitVec 32 := 0#32
  let c1_i32_281 : BitVec 32 := 1#32
  let arg9 : BitVec 32 := Scf.iv c0_i32_279 c1_i32_281 k0_t71
  let c512_i32 : BitVec 32 := 512#32
  let v400 : BitVec 32 := Scalar.muli arg9 c512_i32
  let v401 : Index := Scalar.indexCast v400
  let c0 : Index := 0#32
  ![v401.toNat, 0]
@[reducible] def k0_t72_loop : Scf.Loop 32 :=
  let c0_i32_283 : BitVec 32 := 0#32
  let c16_i32_284 : BitVec 32 := 16#32
  let v77 : BitVec 32 := Scalar.addi c0_i32_283 c16_i32_284
  let c1_i32_285 : BitVec 32 := 1#32
  ⟨c0_i32_283, v77, c1_i32_285⟩
def k0_off78 (k0_t72 : Fin k0_t72_loop.trips) : Fin 2 → Nat :=
  let c0_i32_283 : BitVec 32 := 0#32
  let c1_i32_285 : BitVec 32 := 1#32
  let arg9 : BitVec 32 := Scf.iv c0_i32_283 c1_i32_285 k0_t72
  let c512_i32 : BitVec 32 := 512#32
  let v400 : BitVec 32 := Scalar.muli arg9 c512_i32
  let v401 : Index := Scalar.indexCast v400
  let c0 : Index := 0#32
  ![v401.toNat, 0]
@[reducible] def k0_t73_loop : Scf.Loop 32 :=
  let c0_i32_287 : BitVec 32 := 0#32
  let c16_i32_288 : BitVec 32 := 16#32
  let v78 : BitVec 32 := Scalar.addi c0_i32_287 c16_i32_288
  let c1_i32_289 : BitVec 32 := 1#32
  ⟨c0_i32_287, v78, c1_i32_289⟩
def k0_off79 (k0_t73 : Fin k0_t73_loop.trips) : Fin 2 → Nat :=
  let c0_i32_287 : BitVec 32 := 0#32
  let c1_i32_289 : BitVec 32 := 1#32
  let arg9 : BitVec 32 := Scf.iv c0_i32_287 c1_i32_289 k0_t73
  let c512_i32 : BitVec 32 := 512#32
  let v400 : BitVec 32 := Scalar.muli arg9 c512_i32
  let v401 : Index := Scalar.indexCast v400
  let c0 : Index := 0#32
  ![v401.toNat, 0]
@[reducible] def k0_t74_loop : Scf.Loop 32 :=
  let c0_i32_291 : BitVec 32 := 0#32
  let c16_i32_292 : BitVec 32 := 16#32
  let v79 : BitVec 32 := Scalar.addi c0_i32_291 c16_i32_292
  let c1_i32_293 : BitVec 32 := 1#32
  ⟨c0_i32_291, v79, c1_i32_293⟩
def k0_off80 (k0_t74 : Fin k0_t74_loop.trips) : Fin 2 → Nat :=
  let c0_i32_291 : BitVec 32 := 0#32
  let c1_i32_293 : BitVec 32 := 1#32
  let arg9 : BitVec 32 := Scf.iv c0_i32_291 c1_i32_293 k0_t74
  let c512_i32 : BitVec 32 := 512#32
  let v400 : BitVec 32 := Scalar.muli arg9 c512_i32
  let v401 : Index := Scalar.indexCast v400
  let c0 : Index := 0#32
  ![v401.toNat, 0]
@[reducible] def k0_t75_loop : Scf.Loop 32 :=
  let c0_i32_295 : BitVec 32 := 0#32
  let c16_i32_296 : BitVec 32 := 16#32
  let v80 : BitVec 32 := Scalar.addi c0_i32_295 c16_i32_296
  let c1_i32_297 : BitVec 32 := 1#32
  ⟨c0_i32_295, v80, c1_i32_297⟩
def k0_off81 (k0_t75 : Fin k0_t75_loop.trips) : Fin 2 → Nat :=
  let c0_i32_295 : BitVec 32 := 0#32
  let c1_i32_297 : BitVec 32 := 1#32
  let arg9 : BitVec 32 := Scf.iv c0_i32_295 c1_i32_297 k0_t75
  let c512_i32 : BitVec 32 := 512#32
  let v400 : BitVec 32 := Scalar.muli arg9 c512_i32
  let v401 : Index := Scalar.indexCast v400
  let c0 : Index := 0#32
  ![v401.toNat, 0]
@[reducible] def k0_t76_loop : Scf.Loop 32 :=
  let c0_i32_299 : BitVec 32 := 0#32
  let c16_i32_300 : BitVec 32 := 16#32
  let v81 : BitVec 32 := Scalar.addi c0_i32_299 c16_i32_300
  let c1_i32_301 : BitVec 32 := 1#32
  ⟨c0_i32_299, v81, c1_i32_301⟩
def k0_off82 (k0_t76 : Fin k0_t76_loop.trips) : Fin 2 → Nat :=
  let c0_i32_299 : BitVec 32 := 0#32
  let c1_i32_301 : BitVec 32 := 1#32
  let arg9 : BitVec 32 := Scf.iv c0_i32_299 c1_i32_301 k0_t76
  let c512_i32 : BitVec 32 := 512#32
  let v400 : BitVec 32 := Scalar.muli arg9 c512_i32
  let v401 : Index := Scalar.indexCast v400
  let c0 : Index := 0#32
  ![v401.toNat, 0]
@[reducible] def k0_t77_loop : Scf.Loop 32 :=
  let c0_i32_303 : BitVec 32 := 0#32
  let c16_i32_304 : BitVec 32 := 16#32
  let v82 : BitVec 32 := Scalar.addi c0_i32_303 c16_i32_304
  let c1_i32_305 : BitVec 32 := 1#32
  ⟨c0_i32_303, v82, c1_i32_305⟩
def k0_off83 (k0_t77 : Fin k0_t77_loop.trips) : Fin 2 → Nat :=
  let c0_i32_303 : BitVec 32 := 0#32
  let c1_i32_305 : BitVec 32 := 1#32
  let arg9 : BitVec 32 := Scf.iv c0_i32_303 c1_i32_305 k0_t77
  let c512_i32 : BitVec 32 := 512#32
  let v400 : BitVec 32 := Scalar.muli arg9 c512_i32
  let v401 : Index := Scalar.indexCast v400
  let c0 : Index := 0#32
  ![v401.toNat, 0]
@[reducible] def k0_t78_loop : Scf.Loop 32 :=
  let c0_i32_307 : BitVec 32 := 0#32
  let c16_i32_308 : BitVec 32 := 16#32
  let v83 : BitVec 32 := Scalar.addi c0_i32_307 c16_i32_308
  let c1_i32_309 : BitVec 32 := 1#32
  ⟨c0_i32_307, v83, c1_i32_309⟩
def k0_off84 (k0_t78 : Fin k0_t78_loop.trips) : Fin 2 → Nat :=
  let c0_i32_307 : BitVec 32 := 0#32
  let c1_i32_309 : BitVec 32 := 1#32
  let arg9 : BitVec 32 := Scf.iv c0_i32_307 c1_i32_309 k0_t78
  let c512_i32 : BitVec 32 := 512#32
  let v400 : BitVec 32 := Scalar.muli arg9 c512_i32
  let v401 : Index := Scalar.indexCast v400
  let c0 : Index := 0#32
  ![v401.toNat, 0]
@[reducible] def k0_t79_loop : Scf.Loop 32 :=
  let c0_i32_311 : BitVec 32 := 0#32
  let c16_i32_312 : BitVec 32 := 16#32
  let v84 : BitVec 32 := Scalar.addi c0_i32_311 c16_i32_312
  let c1_i32_313 : BitVec 32 := 1#32
  ⟨c0_i32_311, v84, c1_i32_313⟩
def k0_off85 (k0_t79 : Fin k0_t79_loop.trips) : Fin 2 → Nat :=
  let c0_i32_311 : BitVec 32 := 0#32
  let c1_i32_313 : BitVec 32 := 1#32
  let arg9 : BitVec 32 := Scf.iv c0_i32_311 c1_i32_313 k0_t79
  let c512_i32 : BitVec 32 := 512#32
  let v400 : BitVec 32 := Scalar.muli arg9 c512_i32
  let v401 : Index := Scalar.indexCast v400
  let c0 : Index := 0#32
  ![v401.toNat, 0]
@[reducible] def k0_t80_loop : Scf.Loop 32 :=
  let c0_i32_315 : BitVec 32 := 0#32
  let c8_i32_316 : BitVec 32 := 8#32
  let v85 : BitVec 32 := Scalar.addi c0_i32_315 c8_i32_316
  let c1_i32_317 : BitVec 32 := 1#32
  ⟨c0_i32_315, v85, c1_i32_317⟩
def k0_off86 (k0_t80 : Fin k0_t80_loop.trips) : Fin 2 → Nat :=
  let c0_i32_315 : BitVec 32 := 0#32
  let c1_i32_317 : BitVec 32 := 1#32
  let arg9 : BitVec 32 := Scf.iv c0_i32_315 c1_i32_317 k0_t80
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c8_i32_771 : BitVec 32 := 8#32
  let c0_i32_774 : BitVec 32 := 0#32
  let v406 : BitVec 1 := Scalar.cmpi .sgt c8_i32_771 c0_i32_774
  let v407 : BitVec 32 := Scalar.extui v406
  let c0_i32_775 : BitVec 32 := 0#32
  let v408 : BitVec 1 := Scalar.cmpi .slt c8_i32_771 c0_i32_775
  let v409 : BitVec 32 := Scalar.extui v408
  let v410 : BitVec 32 := Scalar.subi v407 v409
  let v411 : BitVec 1 := Scalar.cmpi .ne v405 v410
  let v412 : BitVec 32 := Scalar.remsi arg9 c8_i32_771
  let c0_i32_776 : BitVec 32 := 0#32
  let v413 : BitVec 1 := Scalar.cmpi .ne v412 c0_i32_776
  let v414 : BitVec 1 := Scalar.andi v411 v413
  let v400 : BitVec 32 := Scalar.divsi arg9 c8_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c4096_i32 : BitVec 32 := 4096#32
  let v428 : BitVec 32 := Scalar.muli v427 c4096_i32
  let c8_i32_778 : BitVec 32 := 8#32
  let c0_i32_779 : BitVec 32 := 0#32
  let v417 : BitVec 1 := Scalar.cmpi .eq c8_i32_778 c0_i32_779
  let c1_i32_780 : BitVec 32 := 1#32
  let v418 : BitVec 32 := Scalar.select v417 c1_i32_780 c8_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off87 (k0_t80 : Fin k0_t80_loop.trips) : Fin 2 → Nat :=
  let c0_i32_315 : BitVec 32 := 0#32
  let c1_i32_317 : BitVec 32 := 1#32
  let arg9 : BitVec 32 := Scf.iv c0_i32_315 c1_i32_317 k0_t80
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c8_i32_771 : BitVec 32 := 8#32
  let c0_i32_774 : BitVec 32 := 0#32
  let v406 : BitVec 1 := Scalar.cmpi .sgt c8_i32_771 c0_i32_774
  let v407 : BitVec 32 := Scalar.extui v406
  let c0_i32_775 : BitVec 32 := 0#32
  let v408 : BitVec 1 := Scalar.cmpi .slt c8_i32_771 c0_i32_775
  let v409 : BitVec 32 := Scalar.extui v408
  let v410 : BitVec 32 := Scalar.subi v407 v409
  let v411 : BitVec 1 := Scalar.cmpi .ne v405 v410
  let v412 : BitVec 32 := Scalar.remsi arg9 c8_i32_771
  let c0_i32_776 : BitVec 32 := 0#32
  let v413 : BitVec 1 := Scalar.cmpi .ne v412 c0_i32_776
  let v414 : BitVec 1 := Scalar.andi v411 v413
  let v400 : BitVec 32 := Scalar.divsi arg9 c8_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c4096_i32 : BitVec 32 := 4096#32
  let v428 : BitVec 32 := Scalar.muli v427 c4096_i32
  let c8_i32_778 : BitVec 32 := 8#32
  let c0_i32_779 : BitVec 32 := 0#32
  let v417 : BitVec 1 := Scalar.cmpi .eq c8_i32_778 c0_i32_779
  let c1_i32_780 : BitVec 32 := 1#32
  let v418 : BitVec 32 := Scalar.select v417 c1_i32_780 c8_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c4096_i32_785 : BitVec 32 := 4096#32
  let v431 : BitVec 32 := Scalar.addi v430 c4096_i32_785
  let v434 : Index := Scalar.indexCast v431
  let c0_786 : Index := 0#32
  ![v434.toNat, 0]
@[reducible] def k0_t81_loop : Scf.Loop 32 :=
  let c0_i32_319 : BitVec 32 := 0#32
  let c8_i32_320 : BitVec 32 := 8#32
  let v86 : BitVec 32 := Scalar.addi c0_i32_319 c8_i32_320
  let c1_i32_321 : BitVec 32 := 1#32
  ⟨c0_i32_319, v86, c1_i32_321⟩
def k0_off88 (k0_t81 : Fin k0_t81_loop.trips) : Fin 2 → Nat :=
  let c0_i32_319 : BitVec 32 := 0#32
  let c1_i32_321 : BitVec 32 := 1#32
  let arg9 : BitVec 32 := Scf.iv c0_i32_319 c1_i32_321 k0_t81
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c4_i32_771 : BitVec 32 := 4#32
  let c0_i32_774 : BitVec 32 := 0#32
  let v406 : BitVec 1 := Scalar.cmpi .sgt c4_i32_771 c0_i32_774
  let v407 : BitVec 32 := Scalar.extui v406
  let c0_i32_775 : BitVec 32 := 0#32
  let v408 : BitVec 1 := Scalar.cmpi .slt c4_i32_771 c0_i32_775
  let v409 : BitVec 32 := Scalar.extui v408
  let v410 : BitVec 32 := Scalar.subi v407 v409
  let v411 : BitVec 1 := Scalar.cmpi .ne v405 v410
  let v412 : BitVec 32 := Scalar.remsi arg9 c4_i32_771
  let c0_i32_776 : BitVec 32 := 0#32
  let v413 : BitVec 1 := Scalar.cmpi .ne v412 c0_i32_776
  let v414 : BitVec 1 := Scalar.andi v411 v413
  let v400 : BitVec 32 := Scalar.divsi arg9 c4_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c2048_i32 : BitVec 32 := 2048#32
  let v428 : BitVec 32 := Scalar.muli v427 c2048_i32
  let c4_i32_778 : BitVec 32 := 4#32
  let c0_i32_779 : BitVec 32 := 0#32
  let v417 : BitVec 1 := Scalar.cmpi .eq c4_i32_778 c0_i32_779
  let c1_i32_780 : BitVec 32 := 1#32
  let v418 : BitVec 32 := Scalar.select v417 c1_i32_780 c4_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off89 (k0_t81 : Fin k0_t81_loop.trips) : Fin 2 → Nat :=
  let c0_i32_319 : BitVec 32 := 0#32
  let c1_i32_321 : BitVec 32 := 1#32
  let arg9 : BitVec 32 := Scf.iv c0_i32_319 c1_i32_321 k0_t81
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c4_i32_771 : BitVec 32 := 4#32
  let c0_i32_774 : BitVec 32 := 0#32
  let v406 : BitVec 1 := Scalar.cmpi .sgt c4_i32_771 c0_i32_774
  let v407 : BitVec 32 := Scalar.extui v406
  let c0_i32_775 : BitVec 32 := 0#32
  let v408 : BitVec 1 := Scalar.cmpi .slt c4_i32_771 c0_i32_775
  let v409 : BitVec 32 := Scalar.extui v408
  let v410 : BitVec 32 := Scalar.subi v407 v409
  let v411 : BitVec 1 := Scalar.cmpi .ne v405 v410
  let v412 : BitVec 32 := Scalar.remsi arg9 c4_i32_771
  let c0_i32_776 : BitVec 32 := 0#32
  let v413 : BitVec 1 := Scalar.cmpi .ne v412 c0_i32_776
  let v414 : BitVec 1 := Scalar.andi v411 v413
  let v400 : BitVec 32 := Scalar.divsi arg9 c4_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c2048_i32 : BitVec 32 := 2048#32
  let v428 : BitVec 32 := Scalar.muli v427 c2048_i32
  let c4_i32_778 : BitVec 32 := 4#32
  let c0_i32_779 : BitVec 32 := 0#32
  let v417 : BitVec 1 := Scalar.cmpi .eq c4_i32_778 c0_i32_779
  let c1_i32_780 : BitVec 32 := 1#32
  let v418 : BitVec 32 := Scalar.select v417 c1_i32_780 c4_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c2048_i32_785 : BitVec 32 := 2048#32
  let v431 : BitVec 32 := Scalar.addi v430 c2048_i32_785
  let v434 : Index := Scalar.indexCast v431
  let c0_786 : Index := 0#32
  ![v434.toNat, 0]
@[reducible] def k0_t82_loop : Scf.Loop 32 :=
  let c0_i32_323 : BitVec 32 := 0#32
  let c8_i32_324 : BitVec 32 := 8#32
  let v87 : BitVec 32 := Scalar.addi c0_i32_323 c8_i32_324
  let c1_i32_325 : BitVec 32 := 1#32
  ⟨c0_i32_323, v87, c1_i32_325⟩
def k0_off90 (k0_t82 : Fin k0_t82_loop.trips) : Fin 2 → Nat :=
  let c0_i32_323 : BitVec 32 := 0#32
  let c1_i32_325 : BitVec 32 := 1#32
  let arg9 : BitVec 32 := Scf.iv c0_i32_323 c1_i32_325 k0_t82
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c2_i32_771 : BitVec 32 := 2#32
  let c0_i32_774 : BitVec 32 := 0#32
  let v406 : BitVec 1 := Scalar.cmpi .sgt c2_i32_771 c0_i32_774
  let v407 : BitVec 32 := Scalar.extui v406
  let c0_i32_775 : BitVec 32 := 0#32
  let v408 : BitVec 1 := Scalar.cmpi .slt c2_i32_771 c0_i32_775
  let v409 : BitVec 32 := Scalar.extui v408
  let v410 : BitVec 32 := Scalar.subi v407 v409
  let v411 : BitVec 1 := Scalar.cmpi .ne v405 v410
  let v412 : BitVec 32 := Scalar.remsi arg9 c2_i32_771
  let c0_i32_776 : BitVec 32 := 0#32
  let v413 : BitVec 1 := Scalar.cmpi .ne v412 c0_i32_776
  let v414 : BitVec 1 := Scalar.andi v411 v413
  let v400 : BitVec 32 := Scalar.divsi arg9 c2_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c1024_i32 : BitVec 32 := 1024#32
  let v428 : BitVec 32 := Scalar.muli v427 c1024_i32
  let c2_i32_778 : BitVec 32 := 2#32
  let c0_i32_779 : BitVec 32 := 0#32
  let v417 : BitVec 1 := Scalar.cmpi .eq c2_i32_778 c0_i32_779
  let c1_i32_780 : BitVec 32 := 1#32
  let v418 : BitVec 32 := Scalar.select v417 c1_i32_780 c2_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off91 (k0_t82 : Fin k0_t82_loop.trips) : Fin 2 → Nat :=
  let c0_i32_323 : BitVec 32 := 0#32
  let c1_i32_325 : BitVec 32 := 1#32
  let arg9 : BitVec 32 := Scf.iv c0_i32_323 c1_i32_325 k0_t82
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c2_i32_771 : BitVec 32 := 2#32
  let c0_i32_774 : BitVec 32 := 0#32
  let v406 : BitVec 1 := Scalar.cmpi .sgt c2_i32_771 c0_i32_774
  let v407 : BitVec 32 := Scalar.extui v406
  let c0_i32_775 : BitVec 32 := 0#32
  let v408 : BitVec 1 := Scalar.cmpi .slt c2_i32_771 c0_i32_775
  let v409 : BitVec 32 := Scalar.extui v408
  let v410 : BitVec 32 := Scalar.subi v407 v409
  let v411 : BitVec 1 := Scalar.cmpi .ne v405 v410
  let v412 : BitVec 32 := Scalar.remsi arg9 c2_i32_771
  let c0_i32_776 : BitVec 32 := 0#32
  let v413 : BitVec 1 := Scalar.cmpi .ne v412 c0_i32_776
  let v414 : BitVec 1 := Scalar.andi v411 v413
  let v400 : BitVec 32 := Scalar.divsi arg9 c2_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c1024_i32 : BitVec 32 := 1024#32
  let v428 : BitVec 32 := Scalar.muli v427 c1024_i32
  let c2_i32_778 : BitVec 32 := 2#32
  let c0_i32_779 : BitVec 32 := 0#32
  let v417 : BitVec 1 := Scalar.cmpi .eq c2_i32_778 c0_i32_779
  let c1_i32_780 : BitVec 32 := 1#32
  let v418 : BitVec 32 := Scalar.select v417 c1_i32_780 c2_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c1024_i32_785 : BitVec 32 := 1024#32
  let v431 : BitVec 32 := Scalar.addi v430 c1024_i32_785
  let v434 : Index := Scalar.indexCast v431
  let c0_786 : Index := 0#32
  ![v434.toNat, 0]
@[reducible] def k0_t83_loop : Scf.Loop 32 :=
  let c0_i32_327 : BitVec 32 := 0#32
  let c8_i32_328 : BitVec 32 := 8#32
  let v88 : BitVec 32 := Scalar.addi c0_i32_327 c8_i32_328
  let c1_i32_329 : BitVec 32 := 1#32
  ⟨c0_i32_327, v88, c1_i32_329⟩
def k0_off92 (k0_t83 : Fin k0_t83_loop.trips) : Fin 2 → Nat :=
  let c0_i32_327 : BitVec 32 := 0#32
  let c1_i32_329 : BitVec 32 := 1#32
  let arg9 : BitVec 32 := Scf.iv c0_i32_327 c1_i32_329 k0_t83
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let v432 : Index := Scalar.indexCast v430
  let c0 : Index := 0#32
  ![v432.toNat, 0]
def k0_off93 (k0_t83 : Fin k0_t83_loop.trips) : Fin 2 → Nat :=
  let c0_i32_327 : BitVec 32 := 0#32
  let c1_i32_329 : BitVec 32 := 1#32
  let arg9 : BitVec 32 := Scf.iv c0_i32_327 c1_i32_329 k0_t83
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let c512_i32_786 : BitVec 32 := 512#32
  let v431 : BitVec 32 := Scalar.addi v430 c512_i32_786
  let v434 : Index := Scalar.indexCast v431
  let c0_787 : Index := 0#32
  ![v434.toNat, 0]
@[reducible] def k0_t84_loop : Scf.Loop 32 :=
  let c0_i32_331 : BitVec 32 := 0#32
  let c16_i32_332 : BitVec 32 := 16#32
  let v89 : BitVec 32 := Scalar.addi c0_i32_331 c16_i32_332
  let c1_i32_333 : BitVec 32 := 1#32
  ⟨c0_i32_331, v89, c1_i32_333⟩
def k0_off94 (k0_t84 : Fin k0_t84_loop.trips) : Fin 2 → Nat :=
  let c0_i32_331 : BitVec 32 := 0#32
  let c1_i32_333 : BitVec 32 := 1#32
  let arg9 : BitVec 32 := Scf.iv c0_i32_331 c1_i32_333 k0_t84
  let c512_i32 : BitVec 32 := 512#32
  let v400 : BitVec 32 := Scalar.muli arg9 c512_i32
  let v401 : Index := Scalar.indexCast v400
  let c0 : Index := 0#32
  ![v401.toNat, 0]
@[reducible] def k0_t85_loop : Scf.Loop 32 :=
  let c0_i32_335 : BitVec 32 := 0#32
  let c16_i32_336 : BitVec 32 := 16#32
  let v90 : BitVec 32 := Scalar.addi c0_i32_335 c16_i32_336
  let c1_i32_337 : BitVec 32 := 1#32
  ⟨c0_i32_335, v90, c1_i32_337⟩
def k0_off95 (k0_t85 : Fin k0_t85_loop.trips) : Fin 2 → Nat :=
  let c0_i32_335 : BitVec 32 := 0#32
  let c1_i32_337 : BitVec 32 := 1#32
  let arg9 : BitVec 32 := Scf.iv c0_i32_335 c1_i32_337 k0_t85
  let c512_i32 : BitVec 32 := 512#32
  let v400 : BitVec 32 := Scalar.muli arg9 c512_i32
  let v401 : Index := Scalar.indexCast v400
  let c0 : Index := 0#32
  ![v401.toNat, 0]
@[reducible] def k0_t86_loop : Scf.Loop 32 :=
  let c0_i32_339 : BitVec 32 := 0#32
  let c16_i32_340 : BitVec 32 := 16#32
  let v91 : BitVec 32 := Scalar.addi c0_i32_339 c16_i32_340
  let c1_i32_341 : BitVec 32 := 1#32
  ⟨c0_i32_339, v91, c1_i32_341⟩
def k0_off96 (k0_t86 : Fin k0_t86_loop.trips) : Fin 2 → Nat :=
  let c0_i32_339 : BitVec 32 := 0#32
  let c1_i32_341 : BitVec 32 := 1#32
  let arg9 : BitVec 32 := Scf.iv c0_i32_339 c1_i32_341 k0_t86
  let c512_i32 : BitVec 32 := 512#32
  let v400 : BitVec 32 := Scalar.muli arg9 c512_i32
  let v401 : Index := Scalar.indexCast v400
  let c0 : Index := 0#32
  ![v401.toNat, 0]
@[reducible] def k0_t87_loop : Scf.Loop 32 :=
  let c0_i32_343 : BitVec 32 := 0#32
  let c16_i32_344 : BitVec 32 := 16#32
  let v92 : BitVec 32 := Scalar.addi c0_i32_343 c16_i32_344
  let c1_i32_345 : BitVec 32 := 1#32
  ⟨c0_i32_343, v92, c1_i32_345⟩
def k0_off97 (k0_t87 : Fin k0_t87_loop.trips) : Fin 2 → Nat :=
  let c0_i32_343 : BitVec 32 := 0#32
  let c1_i32_345 : BitVec 32 := 1#32
  let arg9 : BitVec 32 := Scf.iv c0_i32_343 c1_i32_345 k0_t87
  let c512_i32 : BitVec 32 := 512#32
  let v400 : BitVec 32 := Scalar.muli arg9 c512_i32
  let v401 : Index := Scalar.indexCast v400
  let c0 : Index := 0#32
  ![v401.toNat, 0]
@[reducible] def k0_t88_loop : Scf.Loop 32 :=
  let c0_i32_347 : BitVec 32 := 0#32
  let c16_i32_348 : BitVec 32 := 16#32
  let v93 : BitVec 32 := Scalar.addi c0_i32_347 c16_i32_348
  let c1_i32_349 : BitVec 32 := 1#32
  ⟨c0_i32_347, v93, c1_i32_349⟩
def k0_off98 (k0_t88 : Fin k0_t88_loop.trips) : Fin 2 → Nat :=
  let c0_i32_347 : BitVec 32 := 0#32
  let c1_i32_349 : BitVec 32 := 1#32
  let arg9 : BitVec 32 := Scf.iv c0_i32_347 c1_i32_349 k0_t88
  let c512_i32 : BitVec 32 := 512#32
  let v400 : BitVec 32 := Scalar.muli arg9 c512_i32
  let v401 : Index := Scalar.indexCast v400
  let c0 : Index := 0#32
  ![v401.toNat, 0]
@[reducible] def k0_t89_loop : Scf.Loop 32 :=
  let c0_i32_351 : BitVec 32 := 0#32
  let c16_i32_352 : BitVec 32 := 16#32
  let v94 : BitVec 32 := Scalar.addi c0_i32_351 c16_i32_352
  let c1_i32_353 : BitVec 32 := 1#32
  ⟨c0_i32_351, v94, c1_i32_353⟩
def k0_off99 (k0_t89 : Fin k0_t89_loop.trips) : Fin 2 → Nat :=
  let c0_i32_351 : BitVec 32 := 0#32
  let c1_i32_353 : BitVec 32 := 1#32
  let arg9 : BitVec 32 := Scf.iv c0_i32_351 c1_i32_353 k0_t89
  let c512_i32 : BitVec 32 := 512#32
  let v400 : BitVec 32 := Scalar.muli arg9 c512_i32
  let v401 : Index := Scalar.indexCast v400
  let c0 : Index := 0#32
  ![v401.toNat, 0]
@[reducible] def k0_t90_loop : Scf.Loop 32 :=
  let c0_i32_355 : BitVec 32 := 0#32
  let c16_i32_356 : BitVec 32 := 16#32
  let v95 : BitVec 32 := Scalar.addi c0_i32_355 c16_i32_356
  let c1_i32_357 : BitVec 32 := 1#32
  ⟨c0_i32_355, v95, c1_i32_357⟩
def k0_off100 (k0_t90 : Fin k0_t90_loop.trips) : Fin 2 → Nat :=
  let c0_i32_355 : BitVec 32 := 0#32
  let c1_i32_357 : BitVec 32 := 1#32
  let arg9 : BitVec 32 := Scf.iv c0_i32_355 c1_i32_357 k0_t90
  let c512_i32 : BitVec 32 := 512#32
  let v400 : BitVec 32 := Scalar.muli arg9 c512_i32
  let v401 : Index := Scalar.indexCast v400
  let c0 : Index := 0#32
  ![v401.toNat, 0]
@[reducible] def k0_t91_loop : Scf.Loop 32 :=
  let c0_i32_359 : BitVec 32 := 0#32
  let c16_i32_360 : BitVec 32 := 16#32
  let v96 : BitVec 32 := Scalar.addi c0_i32_359 c16_i32_360
  let c1_i32_361 : BitVec 32 := 1#32
  ⟨c0_i32_359, v96, c1_i32_361⟩
def k0_off101 (k0_t91 : Fin k0_t91_loop.trips) : Fin 2 → Nat :=
  let c0_i32_359 : BitVec 32 := 0#32
  let c1_i32_361 : BitVec 32 := 1#32
  let arg9 : BitVec 32 := Scf.iv c0_i32_359 c1_i32_361 k0_t91
  let c512_i32 : BitVec 32 := 512#32
  let v400 : BitVec 32 := Scalar.muli arg9 c512_i32
  let v401 : Index := Scalar.indexCast v400
  let c0 : Index := 0#32
  ![v401.toNat, 0]
@[reducible] def k0_t92_loop : Scf.Loop 32 :=
  let c0_i32_363 : BitVec 32 := 0#32
  let c16_i32_364 : BitVec 32 := 16#32
  let v97 : BitVec 32 := Scalar.addi c0_i32_363 c16_i32_364
  let c1_i32_365 : BitVec 32 := 1#32
  ⟨c0_i32_363, v97, c1_i32_365⟩
def k0_off102 (k0_t92 : Fin k0_t92_loop.trips) : Fin 2 → Nat :=
  let c0_i32_363 : BitVec 32 := 0#32
  let c1_i32_365 : BitVec 32 := 1#32
  let arg9 : BitVec 32 := Scf.iv c0_i32_363 c1_i32_365 k0_t92
  let c512_i32 : BitVec 32 := 512#32
  let v400 : BitVec 32 := Scalar.muli arg9 c512_i32
  let v401 : Index := Scalar.indexCast v400
  let c0 : Index := 0#32
  ![v401.toNat, 0]
def k0_off103 (k0_t1 : Fin k0_t1_loop.trips) (c0_i32_371 : BitVec 32) : Fin 1 → Nat :=
  let c0_i32 : BitVec 32 := 0#32
  let c1_i32_0 : BitVec 32 := 1#32
  let arg8 : BitVec 32 := Scf.iv c0_i32 c1_i32_0 k0_t1
  let c6_i32 : BitVec 32 := 6#32
  let v106 : BitVec 32 := Scalar.muli arg8 c6_i32
  let v107 : BitVec 32 := Scalar.addi v106 c0_i32_371
  let c8_i32_372 : BitVec 32 := 8#32
  let c0_i32_373 : BitVec 32 := 0#32
  let v108 : BitVec 1 := Scalar.cmpi .eq c8_i32_372 c0_i32_373
  let c1_i32_374 : BitVec 32 := 1#32
  let v109 : BitVec 32 := Scalar.select v108 c1_i32_374 c8_i32_372
  let v110 : BitVec 32 := Scalar.remsi v107 v109
  let c0_i32_376 : BitVec 32 := 0#32
  let v112 : BitVec 1 := Scalar.cmpi .slt v110 c0_i32_376
  let c0_i32_377 : BitVec 32 := 0#32
  let v113 : BitVec 1 := Scalar.cmpi .slt v109 c0_i32_377
  let v114 : BitVec 1 := Scalar.xori v112 v113
  let c0_i32_375 : BitVec 32 := 0#32
  let v111 : BitVec 1 := Scalar.cmpi .ne v110 c0_i32_375
  let v115 : BitVec 1 := Scalar.andi v114 v111
  let v116 : BitVec 32 := Scalar.addi v110 v109
  let v117 : BitVec 32 := Scalar.select v115 v116 v110
  ![v117.toNat]
def k0_dev1 (d0 : Dev nD) : Nat :=
  let c0_i32_380 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_368 : BitVec 32 := 1#32
  let v101 : BitVec 32 := Scalar.xori v2 c1_i32_368
  let c1_i32_379 : BitVec 32 := 1#32
  let v120 : BitVec 32 := Scalar.muli v101 c1_i32_379
  let v121 : BitVec 32 := Scalar.addi c0_i32_380 v120
  v121.toNat
def k0_dev2 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_368 : BitVec 32 := 1#32
  let v101 : BitVec 32 := Scalar.xori v2 c1_i32_368
  let c1_i32_386 : BitVec 32 := 1#32
  let v124 : BitVec 32 := Scalar.muli v101 c1_i32_386
  let v125 : BitVec 32 := Scalar.addi c0_i32_387 v124
  v125.toNat
@[reducible] def k0_t93_loop : Scf.Loop 32 :=
  let c0_i32_403 : BitVec 32 := 0#32
  let c16_i32_404 : BitVec 32 := 16#32
  let v142 : BitVec 32 := Scalar.addi c0_i32_403 c16_i32_404
  let c1_i32_405 : BitVec 32 := 1#32
  ⟨c0_i32_403, v142, c1_i32_405⟩
def k0_off104 (k0_t93 : Fin k0_t93_loop.trips) : Fin 2 → Nat :=
  let c0_i32_403 : BitVec 32 := 0#32
  let c1_i32_405 : BitVec 32 := 1#32
  let arg9 : BitVec 32 := Scf.iv c0_i32_403 c1_i32_405 k0_t93
  let c512_i32 : BitVec 32 := 512#32
  let v400 : BitVec 32 := Scalar.muli arg9 c512_i32
  let v401 : Index := Scalar.indexCast v400
  let c0 : Index := 0#32
  ![v401.toNat, 0]
def k0_off105 (k0_t93 : Fin k0_t93_loop.trips) : Fin 3 → Nat :=
  let c0_772 : Index := 0#32
  let c0_i32_403 : BitVec 32 := 0#32
  let c1_i32_405 : BitVec 32 := 1#32
  let arg9 : BitVec 32 := Scf.iv c0_i32_403 c1_i32_405 k0_t93
  let c512_i32_771 : BitVec 32 := 512#32
  let v403 : BitVec 32 := Scalar.muli arg9 c512_i32_771
  let v404 : Index := Scalar.indexCast v403
  let c0_773 : Index := 0#32
  ![0, v404.toNat, 0]
@[reducible] def k0_t94_loop : Scf.Loop 32 :=
  let c0_i32_407 : BitVec 32 := 0#32
  let c8_i32_408 : BitVec 32 := 8#32
  let v143 : BitVec 32 := Scalar.addi c0_i32_407 c8_i32_408
  let c1_i32_409 : BitVec 32 := 1#32
  ⟨c0_i32_407, v143, c1_i32_409⟩
def k0_off106 (k0_t94 : Fin k0_t94_loop.trips) : Fin 2 → Nat :=
  let c0_i32_407 : BitVec 32 := 0#32
  let c1_i32_409 : BitVec 32 := 1#32
  let arg9 : BitVec 32 := Scf.iv c0_i32_407 c1_i32_409 k0_t94
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c8_i32_771 : BitVec 32 := 8#32
  let c0_i32_774 : BitVec 32 := 0#32
  let v406 : BitVec 1 := Scalar.cmpi .sgt c8_i32_771 c0_i32_774
  let v407 : BitVec 32 := Scalar.extui v406
  let c0_i32_775 : BitVec 32 := 0#32
  let v408 : BitVec 1 := Scalar.cmpi .slt c8_i32_771 c0_i32_775
  let v409 : BitVec 32 := Scalar.extui v408
  let v410 : BitVec 32 := Scalar.subi v407 v409
  let v411 : BitVec 1 := Scalar.cmpi .ne v405 v410
  let v412 : BitVec 32 := Scalar.remsi arg9 c8_i32_771
  let c0_i32_776 : BitVec 32 := 0#32
  let v413 : BitVec 1 := Scalar.cmpi .ne v412 c0_i32_776
  let v414 : BitVec 1 := Scalar.andi v411 v413
  let v400 : BitVec 32 := Scalar.divsi arg9 c8_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c4096_i32 : BitVec 32 := 4096#32
  let v428 : BitVec 32 := Scalar.muli v427 c4096_i32
  let c8_i32_778 : BitVec 32 := 8#32
  let c0_i32_779 : BitVec 32 := 0#32
  let v417 : BitVec 1 := Scalar.cmpi .eq c8_i32_778 c0_i32_779
  let c1_i32_780 : BitVec 32 := 1#32
  let v418 : BitVec 32 := Scalar.select v417 c1_i32_780 c8_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off107 (k0_t94 : Fin k0_t94_loop.trips) : Fin 2 → Nat :=
  let c0_i32_407 : BitVec 32 := 0#32
  let c1_i32_409 : BitVec 32 := 1#32
  let arg9 : BitVec 32 := Scf.iv c0_i32_407 c1_i32_409 k0_t94
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c8_i32_771 : BitVec 32 := 8#32
  let c0_i32_774 : BitVec 32 := 0#32
  let v406 : BitVec 1 := Scalar.cmpi .sgt c8_i32_771 c0_i32_774
  let v407 : BitVec 32 := Scalar.extui v406
  let c0_i32_775 : BitVec 32 := 0#32
  let v408 : BitVec 1 := Scalar.cmpi .slt c8_i32_771 c0_i32_775
  let v409 : BitVec 32 := Scalar.extui v408
  let v410 : BitVec 32 := Scalar.subi v407 v409
  let v411 : BitVec 1 := Scalar.cmpi .ne v405 v410
  let v412 : BitVec 32 := Scalar.remsi arg9 c8_i32_771
  let c0_i32_776 : BitVec 32 := 0#32
  let v413 : BitVec 1 := Scalar.cmpi .ne v412 c0_i32_776
  let v414 : BitVec 1 := Scalar.andi v411 v413
  let v400 : BitVec 32 := Scalar.divsi arg9 c8_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c4096_i32 : BitVec 32 := 4096#32
  let v428 : BitVec 32 := Scalar.muli v427 c4096_i32
  let c8_i32_778 : BitVec 32 := 8#32
  let c0_i32_779 : BitVec 32 := 0#32
  let v417 : BitVec 1 := Scalar.cmpi .eq c8_i32_778 c0_i32_779
  let c1_i32_780 : BitVec 32 := 1#32
  let v418 : BitVec 32 := Scalar.select v417 c1_i32_780 c8_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c4096_i32_785 : BitVec 32 := 4096#32
  let v431 : BitVec 32 := Scalar.addi v430 c4096_i32_785
  let v434 : Index := Scalar.indexCast v431
  let c0_786 : Index := 0#32
  ![v434.toNat, 0]
@[reducible] def k0_t95_loop : Scf.Loop 32 :=
  let c0_i32_411 : BitVec 32 := 0#32
  let c8_i32_412 : BitVec 32 := 8#32
  let v144 : BitVec 32 := Scalar.addi c0_i32_411 c8_i32_412
  let c1_i32_413 : BitVec 32 := 1#32
  ⟨c0_i32_411, v144, c1_i32_413⟩
def k0_off108 (k0_t95 : Fin k0_t95_loop.trips) : Fin 2 → Nat :=
  let c0_i32_411 : BitVec 32 := 0#32
  let c1_i32_413 : BitVec 32 := 1#32
  let arg9 : BitVec 32 := Scf.iv c0_i32_411 c1_i32_413 k0_t95
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c4_i32_771 : BitVec 32 := 4#32
  let c0_i32_774 : BitVec 32 := 0#32
  let v406 : BitVec 1 := Scalar.cmpi .sgt c4_i32_771 c0_i32_774
  let v407 : BitVec 32 := Scalar.extui v406
  let c0_i32_775 : BitVec 32 := 0#32
  let v408 : BitVec 1 := Scalar.cmpi .slt c4_i32_771 c0_i32_775
  let v409 : BitVec 32 := Scalar.extui v408
  let v410 : BitVec 32 := Scalar.subi v407 v409
  let v411 : BitVec 1 := Scalar.cmpi .ne v405 v410
  let v412 : BitVec 32 := Scalar.remsi arg9 c4_i32_771
  let c0_i32_776 : BitVec 32 := 0#32
  let v413 : BitVec 1 := Scalar.cmpi .ne v412 c0_i32_776
  let v414 : BitVec 1 := Scalar.andi v411 v413
  let v400 : BitVec 32 := Scalar.divsi arg9 c4_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c2048_i32 : BitVec 32 := 2048#32
  let v428 : BitVec 32 := Scalar.muli v427 c2048_i32
  let c4_i32_778 : BitVec 32 := 4#32
  let c0_i32_779 : BitVec 32 := 0#32
  let v417 : BitVec 1 := Scalar.cmpi .eq c4_i32_778 c0_i32_779
  let c1_i32_780 : BitVec 32 := 1#32
  let v418 : BitVec 32 := Scalar.select v417 c1_i32_780 c4_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off109 (k0_t95 : Fin k0_t95_loop.trips) : Fin 2 → Nat :=
  let c0_i32_411 : BitVec 32 := 0#32
  let c1_i32_413 : BitVec 32 := 1#32
  let arg9 : BitVec 32 := Scf.iv c0_i32_411 c1_i32_413 k0_t95
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c4_i32_771 : BitVec 32 := 4#32
  let c0_i32_774 : BitVec 32 := 0#32
  let v406 : BitVec 1 := Scalar.cmpi .sgt c4_i32_771 c0_i32_774
  let v407 : BitVec 32 := Scalar.extui v406
  let c0_i32_775 : BitVec 32 := 0#32
  let v408 : BitVec 1 := Scalar.cmpi .slt c4_i32_771 c0_i32_775
  let v409 : BitVec 32 := Scalar.extui v408
  let v410 : BitVec 32 := Scalar.subi v407 v409
  let v411 : BitVec 1 := Scalar.cmpi .ne v405 v410
  let v412 : BitVec 32 := Scalar.remsi arg9 c4_i32_771
  let c0_i32_776 : BitVec 32 := 0#32
  let v413 : BitVec 1 := Scalar.cmpi .ne v412 c0_i32_776
  let v414 : BitVec 1 := Scalar.andi v411 v413
  let v400 : BitVec 32 := Scalar.divsi arg9 c4_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c2048_i32 : BitVec 32 := 2048#32
  let v428 : BitVec 32 := Scalar.muli v427 c2048_i32
  let c4_i32_778 : BitVec 32 := 4#32
  let c0_i32_779 : BitVec 32 := 0#32
  let v417 : BitVec 1 := Scalar.cmpi .eq c4_i32_778 c0_i32_779
  let c1_i32_780 : BitVec 32 := 1#32
  let v418 : BitVec 32 := Scalar.select v417 c1_i32_780 c4_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c2048_i32_785 : BitVec 32 := 2048#32
  let v431 : BitVec 32 := Scalar.addi v430 c2048_i32_785
  let v434 : Index := Scalar.indexCast v431
  let c0_786 : Index := 0#32
  ![v434.toNat, 0]
@[reducible] def k0_t96_loop : Scf.Loop 32 :=
  let c0_i32_415 : BitVec 32 := 0#32
  let c8_i32_416 : BitVec 32 := 8#32
  let v145 : BitVec 32 := Scalar.addi c0_i32_415 c8_i32_416
  let c1_i32_417 : BitVec 32 := 1#32
  ⟨c0_i32_415, v145, c1_i32_417⟩
def k0_off110 (k0_t96 : Fin k0_t96_loop.trips) : Fin 2 → Nat :=
  let c0_i32_415 : BitVec 32 := 0#32
  let c1_i32_417 : BitVec 32 := 1#32
  let arg9 : BitVec 32 := Scf.iv c0_i32_415 c1_i32_417 k0_t96
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c2_i32_771 : BitVec 32 := 2#32
  let c0_i32_774 : BitVec 32 := 0#32
  let v406 : BitVec 1 := Scalar.cmpi .sgt c2_i32_771 c0_i32_774
  let v407 : BitVec 32 := Scalar.extui v406
  let c0_i32_775 : BitVec 32 := 0#32
  let v408 : BitVec 1 := Scalar.cmpi .slt c2_i32_771 c0_i32_775
  let v409 : BitVec 32 := Scalar.extui v408
  let v410 : BitVec 32 := Scalar.subi v407 v409
  let v411 : BitVec 1 := Scalar.cmpi .ne v405 v410
  let v412 : BitVec 32 := Scalar.remsi arg9 c2_i32_771
  let c0_i32_776 : BitVec 32 := 0#32
  let v413 : BitVec 1 := Scalar.cmpi .ne v412 c0_i32_776
  let v414 : BitVec 1 := Scalar.andi v411 v413
  let v400 : BitVec 32 := Scalar.divsi arg9 c2_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c1024_i32 : BitVec 32 := 1024#32
  let v428 : BitVec 32 := Scalar.muli v427 c1024_i32
  let c2_i32_778 : BitVec 32 := 2#32
  let c0_i32_779 : BitVec 32 := 0#32
  let v417 : BitVec 1 := Scalar.cmpi .eq c2_i32_778 c0_i32_779
  let c1_i32_780 : BitVec 32 := 1#32
  let v418 : BitVec 32 := Scalar.select v417 c1_i32_780 c2_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off111 (k0_t96 : Fin k0_t96_loop.trips) : Fin 2 → Nat :=
  let c0_i32_415 : BitVec 32 := 0#32
  let c1_i32_417 : BitVec 32 := 1#32
  let arg9 : BitVec 32 := Scf.iv c0_i32_415 c1_i32_417 k0_t96
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c2_i32_771 : BitVec 32 := 2#32
  let c0_i32_774 : BitVec 32 := 0#32
  let v406 : BitVec 1 := Scalar.cmpi .sgt c2_i32_771 c0_i32_774
  let v407 : BitVec 32 := Scalar.extui v406
  let c0_i32_775 : BitVec 32 := 0#32
  let v408 : BitVec 1 := Scalar.cmpi .slt c2_i32_771 c0_i32_775
  let v409 : BitVec 32 := Scalar.extui v408
  let v410 : BitVec 32 := Scalar.subi v407 v409
  let v411 : BitVec 1 := Scalar.cmpi .ne v405 v410
  let v412 : BitVec 32 := Scalar.remsi arg9 c2_i32_771
  let c0_i32_776 : BitVec 32 := 0#32
  let v413 : BitVec 1 := Scalar.cmpi .ne v412 c0_i32_776
  let v414 : BitVec 1 := Scalar.andi v411 v413
  let v400 : BitVec 32 := Scalar.divsi arg9 c2_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c1024_i32 : BitVec 32 := 1024#32
  let v428 : BitVec 32 := Scalar.muli v427 c1024_i32
  let c2_i32_778 : BitVec 32 := 2#32
  let c0_i32_779 : BitVec 32 := 0#32
  let v417 : BitVec 1 := Scalar.cmpi .eq c2_i32_778 c0_i32_779
  let c1_i32_780 : BitVec 32 := 1#32
  let v418 : BitVec 32 := Scalar.select v417 c1_i32_780 c2_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c1024_i32_785 : BitVec 32 := 1024#32
  let v431 : BitVec 32 := Scalar.addi v430 c1024_i32_785
  let v434 : Index := Scalar.indexCast v431
  let c0_786 : Index := 0#32
  ![v434.toNat, 0]
@[reducible] def k0_t97_loop : Scf.Loop 32 :=
  let c0_i32_419 : BitVec 32 := 0#32
  let c8_i32_420 : BitVec 32 := 8#32
  let v146 : BitVec 32 := Scalar.addi c0_i32_419 c8_i32_420
  let c1_i32_421 : BitVec 32 := 1#32
  ⟨c0_i32_419, v146, c1_i32_421⟩
def k0_off112 (k0_t97 : Fin k0_t97_loop.trips) : Fin 2 → Nat :=
  let c0_i32_419 : BitVec 32 := 0#32
  let c1_i32_421 : BitVec 32 := 1#32
  let arg9 : BitVec 32 := Scf.iv c0_i32_419 c1_i32_421 k0_t97
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let v432 : Index := Scalar.indexCast v430
  let c0 : Index := 0#32
  ![v432.toNat, 0]
def k0_off113 (k0_t97 : Fin k0_t97_loop.trips) : Fin 2 → Nat :=
  let c0_i32_419 : BitVec 32 := 0#32
  let c1_i32_421 : BitVec 32 := 1#32
  let arg9 : BitVec 32 := Scf.iv c0_i32_419 c1_i32_421 k0_t97
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let c512_i32_786 : BitVec 32 := 512#32
  let v431 : BitVec 32 := Scalar.addi v430 c512_i32_786
  let v434 : Index := Scalar.indexCast v431
  let c0_787 : Index := 0#32
  ![v434.toNat, 0]
@[reducible] def k0_t98_loop : Scf.Loop 32 :=
  let c0_i32_423 : BitVec 32 := 0#32
  let c16_i32_424 : BitVec 32 := 16#32
  let v147 : BitVec 32 := Scalar.addi c0_i32_423 c16_i32_424
  let c1_i32_425 : BitVec 32 := 1#32
  ⟨c0_i32_423, v147, c1_i32_425⟩
def k0_off114 (k0_t98 : Fin k0_t98_loop.trips) : Fin 2 → Nat :=
  let c0_i32_423 : BitVec 32 := 0#32
  let c1_i32_425 : BitVec 32 := 1#32
  let arg9 : BitVec 32 := Scf.iv c0_i32_423 c1_i32_425 k0_t98
  let c512_i32 : BitVec 32 := 512#32
  let v400 : BitVec 32 := Scalar.muli arg9 c512_i32
  let v401 : Index := Scalar.indexCast v400
  let c0 : Index := 0#32
  ![v401.toNat, 0]
@[reducible] def k0_t99_loop : Scf.Loop 32 :=
  let c0_i32_427 : BitVec 32 := 0#32
  let c16_i32_428 : BitVec 32 := 16#32
  let v148 : BitVec 32 := Scalar.addi c0_i32_427 c16_i32_428
  let c1_i32_429 : BitVec 32 := 1#32
  ⟨c0_i32_427, v148, c1_i32_429⟩
def k0_off115 (k0_t99 : Fin k0_t99_loop.trips) : Fin 2 → Nat :=
  let c0_i32_427 : BitVec 32 := 0#32
  let c1_i32_429 : BitVec 32 := 1#32
  let arg9 : BitVec 32 := Scf.iv c0_i32_427 c1_i32_429 k0_t99
  let c512_i32 : BitVec 32 := 512#32
  let v400 : BitVec 32 := Scalar.muli arg9 c512_i32
  let v401 : Index := Scalar.indexCast v400
  let c0 : Index := 0#32
  ![v401.toNat, 0]
@[reducible] def k0_t100_loop : Scf.Loop 32 :=
  let c0_i32_431 : BitVec 32 := 0#32
  let c16_i32_432 : BitVec 32 := 16#32
  let v149 : BitVec 32 := Scalar.addi c0_i32_431 c16_i32_432
  let c1_i32_433 : BitVec 32 := 1#32
  ⟨c0_i32_431, v149, c1_i32_433⟩
def k0_off116 (k0_t100 : Fin k0_t100_loop.trips) : Fin 2 → Nat :=
  let c0_i32_431 : BitVec 32 := 0#32
  let c1_i32_433 : BitVec 32 := 1#32
  let arg9 : BitVec 32 := Scf.iv c0_i32_431 c1_i32_433 k0_t100
  let c512_i32 : BitVec 32 := 512#32
  let v400 : BitVec 32 := Scalar.muli arg9 c512_i32
  let v401 : Index := Scalar.indexCast v400
  let c0 : Index := 0#32
  ![v401.toNat, 0]
@[reducible] def k0_t101_loop : Scf.Loop 32 :=
  let c0_i32_435 : BitVec 32 := 0#32
  let c16_i32_436 : BitVec 32 := 16#32
  let v150 : BitVec 32 := Scalar.addi c0_i32_435 c16_i32_436
  let c1_i32_437 : BitVec 32 := 1#32
  ⟨c0_i32_435, v150, c1_i32_437⟩
def k0_off117 (k0_t101 : Fin k0_t101_loop.trips) : Fin 2 → Nat :=
  let c0_i32_435 : BitVec 32 := 0#32
  let c1_i32_437 : BitVec 32 := 1#32
  let arg9 : BitVec 32 := Scf.iv c0_i32_435 c1_i32_437 k0_t101
  let c512_i32 : BitVec 32 := 512#32
  let v400 : BitVec 32 := Scalar.muli arg9 c512_i32
  let v401 : Index := Scalar.indexCast v400
  let c0 : Index := 0#32
  ![v401.toNat, 0]
@[reducible] def k0_t102_loop : Scf.Loop 32 :=
  let c0_i32_439 : BitVec 32 := 0#32
  let c16_i32_440 : BitVec 32 := 16#32
  let v151 : BitVec 32 := Scalar.addi c0_i32_439 c16_i32_440
  let c1_i32_441 : BitVec 32 := 1#32
  ⟨c0_i32_439, v151, c1_i32_441⟩
def k0_off118 (k0_t102 : Fin k0_t102_loop.trips) : Fin 2 → Nat :=
  let c0_i32_439 : BitVec 32 := 0#32
  let c1_i32_441 : BitVec 32 := 1#32
  let arg9 : BitVec 32 := Scf.iv c0_i32_439 c1_i32_441 k0_t102
  let c512_i32 : BitVec 32 := 512#32
  let v400 : BitVec 32 := Scalar.muli arg9 c512_i32
  let v401 : Index := Scalar.indexCast v400
  let c0 : Index := 0#32
  ![v401.toNat, 0]
@[reducible] def k0_t103_loop : Scf.Loop 32 :=
  let c0_i32_443 : BitVec 32 := 0#32
  let c16_i32_444 : BitVec 32 := 16#32
  let v152 : BitVec 32 := Scalar.addi c0_i32_443 c16_i32_444
  let c1_i32_445 : BitVec 32 := 1#32
  ⟨c0_i32_443, v152, c1_i32_445⟩
def k0_off119 (k0_t103 : Fin k0_t103_loop.trips) : Fin 2 → Nat :=
  let c0_i32_443 : BitVec 32 := 0#32
  let c1_i32_445 : BitVec 32 := 1#32
  let arg9 : BitVec 32 := Scf.iv c0_i32_443 c1_i32_445 k0_t103
  let c512_i32 : BitVec 32 := 512#32
  let v400 : BitVec 32 := Scalar.muli arg9 c512_i32
  let v401 : Index := Scalar.indexCast v400
  let c0 : Index := 0#32
  ![v401.toNat, 0]
@[reducible] def k0_t104_loop : Scf.Loop 32 :=
  let c0_i32_447 : BitVec 32 := 0#32
  let c16_i32_448 : BitVec 32 := 16#32
  let v153 : BitVec 32 := Scalar.addi c0_i32_447 c16_i32_448
  let c1_i32_449 : BitVec 32 := 1#32
  ⟨c0_i32_447, v153, c1_i32_449⟩
def k0_off120 (k0_t104 : Fin k0_t104_loop.trips) : Fin 2 → Nat :=
  let c0_i32_447 : BitVec 32 := 0#32
  let c1_i32_449 : BitVec 32 := 1#32
  let arg9 : BitVec 32 := Scf.iv c0_i32_447 c1_i32_449 k0_t104
  let c512_i32 : BitVec 32 := 512#32
  let v400 : BitVec 32 := Scalar.muli arg9 c512_i32
  let v401 : Index := Scalar.indexCast v400
  let c0 : Index := 0#32
  ![v401.toNat, 0]
@[reducible] def k0_t105_loop : Scf.Loop 32 :=
  let c0_i32_451 : BitVec 32 := 0#32
  let c16_i32_452 : BitVec 32 := 16#32
  let v154 : BitVec 32 := Scalar.addi c0_i32_451 c16_i32_452
  let c1_i32_453 : BitVec 32 := 1#32
  ⟨c0_i32_451, v154, c1_i32_453⟩
def k0_off121 (k0_t105 : Fin k0_t105_loop.trips) : Fin 2 → Nat :=
  let c0_i32_451 : BitVec 32 := 0#32
  let c1_i32_453 : BitVec 32 := 1#32
  let arg9 : BitVec 32 := Scf.iv c0_i32_451 c1_i32_453 k0_t105
  let c512_i32 : BitVec 32 := 512#32
  let v400 : BitVec 32 := Scalar.muli arg9 c512_i32
  let v401 : Index := Scalar.indexCast v400
  let c0 : Index := 0#32
  ![v401.toNat, 0]
@[reducible] def k0_t106_loop : Scf.Loop 32 :=
  let c0_i32_455 : BitVec 32 := 0#32
  let c16_i32_456 : BitVec 32 := 16#32
  let v155 : BitVec 32 := Scalar.addi c0_i32_455 c16_i32_456
  let c1_i32_457 : BitVec 32 := 1#32
  ⟨c0_i32_455, v155, c1_i32_457⟩
def k0_off122 (k0_t106 : Fin k0_t106_loop.trips) : Fin 2 → Nat :=
  let c0_i32_455 : BitVec 32 := 0#32
  let c1_i32_457 : BitVec 32 := 1#32
  let arg9 : BitVec 32 := Scf.iv c0_i32_455 c1_i32_457 k0_t106
  let c512_i32 : BitVec 32 := 512#32
  let v400 : BitVec 32 := Scalar.muli arg9 c512_i32
  let v401 : Index := Scalar.indexCast v400
  let c0 : Index := 0#32
  ![v401.toNat, 0]
def k0_dev3 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v159 : BitVec 32 := Scalar.xori v2 c2_i32
  let c1_i32_473 : BitVec 32 := 1#32
  let v178 : BitVec 32 := Scalar.muli v159 c1_i32_473
  let v179 : BitVec 32 := Scalar.addi c0_i32_474 v178
  v179.toNat
def k0_dev4 (d0 : Dev nD) : Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v159 : BitVec 32 := Scalar.xori v2 c2_i32
  let c1_i32_480 : BitVec 32 := 1#32
  let v182 : BitVec 32 := Scalar.muli v159 c1_i32_480
  let v183 : BitVec 32 := Scalar.addi c0_i32_481 v182
  v183.toNat
@[reducible] def k0_t107_loop : Scf.Loop 32 :=
  let c0_i32_497 : BitVec 32 := 0#32
  let c16_i32_498 : BitVec 32 := 16#32
  let v200 : BitVec 32 := Scalar.addi c0_i32_497 c16_i32_498
  let c1_i32_499 : BitVec 32 := 1#32
  ⟨c0_i32_497, v200, c1_i32_499⟩
def k0_off123 (k0_t107 : Fin k0_t107_loop.trips) : Fin 2 → Nat :=
  let c0_i32_497 : BitVec 32 := 0#32
  let c1_i32_499 : BitVec 32 := 1#32
  let arg9 : BitVec 32 := Scf.iv c0_i32_497 c1_i32_499 k0_t107
  let c512_i32 : BitVec 32 := 512#32
  let v400 : BitVec 32 := Scalar.muli arg9 c512_i32
  let v401 : Index := Scalar.indexCast v400
  let c0 : Index := 0#32
  ![v401.toNat, 0]
def k0_off124 (k0_t107 : Fin k0_t107_loop.trips) : Fin 3 → Nat :=
  let c1 : Index := 1#32
  let c0_i32_497 : BitVec 32 := 0#32
  let c1_i32_499 : BitVec 32 := 1#32
  let arg9 : BitVec 32 := Scf.iv c0_i32_497 c1_i32_499 k0_t107
  let c512_i32_771 : BitVec 32 := 512#32
  let v403 : BitVec 32 := Scalar.muli arg9 c512_i32_771
  let v404 : Index := Scalar.indexCast v403
  let c0_772 : Index := 0#32
  ![1, v404.toNat, 0]
def k0_dev5 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  let v201 : BitVec 32 := Scalar.xori v2 c1_i32_501
  let c1_i32_514 : BitVec 32 := 1#32
  let v220 : BitVec 32 := Scalar.muli v201 c1_i32_514
  let v221 : BitVec 32 := Scalar.addi c0_i32_515 v220
  v221.toNat
def k0_dev6 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  let v201 : BitVec 32 := Scalar.xori v2 c1_i32_501
  let c1_i32_521 : BitVec 32 := 1#32
  let v224 : BitVec 32 := Scalar.muli v201 c1_i32_521
  let v225 : BitVec 32 := Scalar.addi c0_i32_522 v224
  v225.toNat
@[reducible] def k0_t108_loop : Scf.Loop 32 :=
  let c0_i32_538 : BitVec 32 := 0#32
  let c16_i32_539 : BitVec 32 := 16#32
  let v242 : BitVec 32 := Scalar.addi c0_i32_538 c16_i32_539
  let c1_i32_540 : BitVec 32 := 1#32
  ⟨c0_i32_538, v242, c1_i32_540⟩
def k0_off125 (k0_t108 : Fin k0_t108_loop.trips) : Fin 2 → Nat :=
  let c0_i32_538 : BitVec 32 := 0#32
  let c1_i32_540 : BitVec 32 := 1#32
  let arg9 : BitVec 32 := Scf.iv c0_i32_538 c1_i32_540 k0_t108
  let c512_i32 : BitVec 32 := 512#32
  let v400 : BitVec 32 := Scalar.muli arg9 c512_i32
  let v401 : Index := Scalar.indexCast v400
  let c0 : Index := 0#32
  ![v401.toNat, 0]
def k0_off126 (k0_t108 : Fin k0_t108_loop.trips) : Fin 3 → Nat :=
  let c0_772 : Index := 0#32
  let c0_i32_538 : BitVec 32 := 0#32
  let c1_i32_540 : BitVec 32 := 1#32
  let arg9 : BitVec 32 := Scf.iv c0_i32_538 c1_i32_540 k0_t108
  let c512_i32_771 : BitVec 32 := 512#32
  let v403 : BitVec 32 := Scalar.muli arg9 c512_i32_771
  let v404 : Index := Scalar.indexCast v403
  let c0_773 : Index := 0#32
  ![0, v404.toNat, 0]
@[reducible] def k0_t109_loop : Scf.Loop 32 :=
  let c0_i32_542 : BitVec 32 := 0#32
  let c8_i32_543 : BitVec 32 := 8#32
  let v243 : BitVec 32 := Scalar.addi c0_i32_542 c8_i32_543
  let c1_i32_544 : BitVec 32 := 1#32
  ⟨c0_i32_542, v243, c1_i32_544⟩
def k0_off127 (k0_t109 : Fin k0_t109_loop.trips) : Fin 2 → Nat :=
  let c0_i32_542 : BitVec 32 := 0#32
  let c1_i32_544 : BitVec 32 := 1#32
  let arg9 : BitVec 32 := Scf.iv c0_i32_542 c1_i32_544 k0_t109
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c8_i32_771 : BitVec 32 := 8#32
  let c0_i32_774 : BitVec 32 := 0#32
  let v406 : BitVec 1 := Scalar.cmpi .sgt c8_i32_771 c0_i32_774
  let v407 : BitVec 32 := Scalar.extui v406
  let c0_i32_775 : BitVec 32 := 0#32
  let v408 : BitVec 1 := Scalar.cmpi .slt c8_i32_771 c0_i32_775
  let v409 : BitVec 32 := Scalar.extui v408
  let v410 : BitVec 32 := Scalar.subi v407 v409
  let v411 : BitVec 1 := Scalar.cmpi .ne v405 v410
  let v412 : BitVec 32 := Scalar.remsi arg9 c8_i32_771
  let c0_i32_776 : BitVec 32 := 0#32
  let v413 : BitVec 1 := Scalar.cmpi .ne v412 c0_i32_776
  let v414 : BitVec 1 := Scalar.andi v411 v413
  let v400 : BitVec 32 := Scalar.divsi arg9 c8_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c4096_i32 : BitVec 32 := 4096#32
  let v428 : BitVec 32 := Scalar.muli v427 c4096_i32
  let c8_i32_778 : BitVec 32 := 8#32
  let c0_i32_779 : BitVec 32 := 0#32
  let v417 : BitVec 1 := Scalar.cmpi .eq c8_i32_778 c0_i32_779
  let c1_i32_780 : BitVec 32 := 1#32
  let v418 : BitVec 32 := Scalar.select v417 c1_i32_780 c8_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off128 (k0_t109 : Fin k0_t109_loop.trips) : Fin 2 → Nat :=
  let c0_i32_542 : BitVec 32 := 0#32
  let c1_i32_544 : BitVec 32 := 1#32
  let arg9 : BitVec 32 := Scf.iv c0_i32_542 c1_i32_544 k0_t109
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c8_i32_771 : BitVec 32 := 8#32
  let c0_i32_774 : BitVec 32 := 0#32
  let v406 : BitVec 1 := Scalar.cmpi .sgt c8_i32_771 c0_i32_774
  let v407 : BitVec 32 := Scalar.extui v406
  let c0_i32_775 : BitVec 32 := 0#32
  let v408 : BitVec 1 := Scalar.cmpi .slt c8_i32_771 c0_i32_775
  let v409 : BitVec 32 := Scalar.extui v408
  let v410 : BitVec 32 := Scalar.subi v407 v409
  let v411 : BitVec 1 := Scalar.cmpi .ne v405 v410
  let v412 : BitVec 32 := Scalar.remsi arg9 c8_i32_771
  let c0_i32_776 : BitVec 32 := 0#32
  let v413 : BitVec 1 := Scalar.cmpi .ne v412 c0_i32_776
  let v414 : BitVec 1 := Scalar.andi v411 v413
  let v400 : BitVec 32 := Scalar.divsi arg9 c8_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c4096_i32 : BitVec 32 := 4096#32
  let v428 : BitVec 32 := Scalar.muli v427 c4096_i32
  let c8_i32_778 : BitVec 32 := 8#32
  let c0_i32_779 : BitVec 32 := 0#32
  let v417 : BitVec 1 := Scalar.cmpi .eq c8_i32_778 c0_i32_779
  let c1_i32_780 : BitVec 32 := 1#32
  let v418 : BitVec 32 := Scalar.select v417 c1_i32_780 c8_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c4096_i32_785 : BitVec 32 := 4096#32
  let v431 : BitVec 32 := Scalar.addi v430 c4096_i32_785
  let v434 : Index := Scalar.indexCast v431
  let c0_786 : Index := 0#32
  ![v434.toNat, 0]
@[reducible] def k0_t110_loop : Scf.Loop 32 :=
  let c0_i32_546 : BitVec 32 := 0#32
  let c8_i32_547 : BitVec 32 := 8#32
  let v244 : BitVec 32 := Scalar.addi c0_i32_546 c8_i32_547
  let c1_i32_548 : BitVec 32 := 1#32
  ⟨c0_i32_546, v244, c1_i32_548⟩
def k0_off129 (k0_t110 : Fin k0_t110_loop.trips) : Fin 2 → Nat :=
  let c0_i32_546 : BitVec 32 := 0#32
  let c1_i32_548 : BitVec 32 := 1#32
  let arg9 : BitVec 32 := Scf.iv c0_i32_546 c1_i32_548 k0_t110
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c4_i32_771 : BitVec 32 := 4#32
  let c0_i32_774 : BitVec 32 := 0#32
  let v406 : BitVec 1 := Scalar.cmpi .sgt c4_i32_771 c0_i32_774
  let v407 : BitVec 32 := Scalar.extui v406
  let c0_i32_775 : BitVec 32 := 0#32
  let v408 : BitVec 1 := Scalar.cmpi .slt c4_i32_771 c0_i32_775
  let v409 : BitVec 32 := Scalar.extui v408
  let v410 : BitVec 32 := Scalar.subi v407 v409
  let v411 : BitVec 1 := Scalar.cmpi .ne v405 v410
  let v412 : BitVec 32 := Scalar.remsi arg9 c4_i32_771
  let c0_i32_776 : BitVec 32 := 0#32
  let v413 : BitVec 1 := Scalar.cmpi .ne v412 c0_i32_776
  let v414 : BitVec 1 := Scalar.andi v411 v413
  let v400 : BitVec 32 := Scalar.divsi arg9 c4_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c2048_i32 : BitVec 32 := 2048#32
  let v428 : BitVec 32 := Scalar.muli v427 c2048_i32
  let c4_i32_778 : BitVec 32 := 4#32
  let c0_i32_779 : BitVec 32 := 0#32
  let v417 : BitVec 1 := Scalar.cmpi .eq c4_i32_778 c0_i32_779
  let c1_i32_780 : BitVec 32 := 1#32
  let v418 : BitVec 32 := Scalar.select v417 c1_i32_780 c4_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off130 (k0_t110 : Fin k0_t110_loop.trips) : Fin 2 → Nat :=
  let c0_i32_546 : BitVec 32 := 0#32
  let c1_i32_548 : BitVec 32 := 1#32
  let arg9 : BitVec 32 := Scf.iv c0_i32_546 c1_i32_548 k0_t110
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c4_i32_771 : BitVec 32 := 4#32
  let c0_i32_774 : BitVec 32 := 0#32
  let v406 : BitVec 1 := Scalar.cmpi .sgt c4_i32_771 c0_i32_774
  let v407 : BitVec 32 := Scalar.extui v406
  let c0_i32_775 : BitVec 32 := 0#32
  let v408 : BitVec 1 := Scalar.cmpi .slt c4_i32_771 c0_i32_775
  let v409 : BitVec 32 := Scalar.extui v408
  let v410 : BitVec 32 := Scalar.subi v407 v409
  let v411 : BitVec 1 := Scalar.cmpi .ne v405 v410
  let v412 : BitVec 32 := Scalar.remsi arg9 c4_i32_771
  let c0_i32_776 : BitVec 32 := 0#32
  let v413 : BitVec 1 := Scalar.cmpi .ne v412 c0_i32_776
  let v414 : BitVec 1 := Scalar.andi v411 v413
  let v400 : BitVec 32 := Scalar.divsi arg9 c4_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c2048_i32 : BitVec 32 := 2048#32
  let v428 : BitVec 32 := Scalar.muli v427 c2048_i32
  let c4_i32_778 : BitVec 32 := 4#32
  let c0_i32_779 : BitVec 32 := 0#32
  let v417 : BitVec 1 := Scalar.cmpi .eq c4_i32_778 c0_i32_779
  let c1_i32_780 : BitVec 32 := 1#32
  let v418 : BitVec 32 := Scalar.select v417 c1_i32_780 c4_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c2048_i32_785 : BitVec 32 := 2048#32
  let v431 : BitVec 32 := Scalar.addi v430 c2048_i32_785
  let v434 : Index := Scalar.indexCast v431
  let c0_786 : Index := 0#32
  ![v434.toNat, 0]
@[reducible] def k0_t111_loop : Scf.Loop 32 :=
  let c0_i32_550 : BitVec 32 := 0#32
  let c8_i32_551 : BitVec 32 := 8#32
  let v245 : BitVec 32 := Scalar.addi c0_i32_550 c8_i32_551
  let c1_i32_552 : BitVec 32 := 1#32
  ⟨c0_i32_550, v245, c1_i32_552⟩
def k0_off131 (k0_t111 : Fin k0_t111_loop.trips) : Fin 2 → Nat :=
  let c0_i32_550 : BitVec 32 := 0#32
  let c1_i32_552 : BitVec 32 := 1#32
  let arg9 : BitVec 32 := Scf.iv c0_i32_550 c1_i32_552 k0_t111
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c2_i32_771 : BitVec 32 := 2#32
  let c0_i32_774 : BitVec 32 := 0#32
  let v406 : BitVec 1 := Scalar.cmpi .sgt c2_i32_771 c0_i32_774
  let v407 : BitVec 32 := Scalar.extui v406
  let c0_i32_775 : BitVec 32 := 0#32
  let v408 : BitVec 1 := Scalar.cmpi .slt c2_i32_771 c0_i32_775
  let v409 : BitVec 32 := Scalar.extui v408
  let v410 : BitVec 32 := Scalar.subi v407 v409
  let v411 : BitVec 1 := Scalar.cmpi .ne v405 v410
  let v412 : BitVec 32 := Scalar.remsi arg9 c2_i32_771
  let c0_i32_776 : BitVec 32 := 0#32
  let v413 : BitVec 1 := Scalar.cmpi .ne v412 c0_i32_776
  let v414 : BitVec 1 := Scalar.andi v411 v413
  let v400 : BitVec 32 := Scalar.divsi arg9 c2_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c1024_i32 : BitVec 32 := 1024#32
  let v428 : BitVec 32 := Scalar.muli v427 c1024_i32
  let c2_i32_778 : BitVec 32 := 2#32
  let c0_i32_779 : BitVec 32 := 0#32
  let v417 : BitVec 1 := Scalar.cmpi .eq c2_i32_778 c0_i32_779
  let c1_i32_780 : BitVec 32 := 1#32
  let v418 : BitVec 32 := Scalar.select v417 c1_i32_780 c2_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off132 (k0_t111 : Fin k0_t111_loop.trips) : Fin 2 → Nat :=
  let c0_i32_550 : BitVec 32 := 0#32
  let c1_i32_552 : BitVec 32 := 1#32
  let arg9 : BitVec 32 := Scf.iv c0_i32_550 c1_i32_552 k0_t111
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c2_i32_771 : BitVec 32 := 2#32
  let c0_i32_774 : BitVec 32 := 0#32
  let v406 : BitVec 1 := Scalar.cmpi .sgt c2_i32_771 c0_i32_774
  let v407 : BitVec 32 := Scalar.extui v406
  let c0_i32_775 : BitVec 32 := 0#32
  let v408 : BitVec 1 := Scalar.cmpi .slt c2_i32_771 c0_i32_775
  let v409 : BitVec 32 := Scalar.extui v408
  let v410 : BitVec 32 := Scalar.subi v407 v409
  let v411 : BitVec 1 := Scalar.cmpi .ne v405 v410
  let v412 : BitVec 32 := Scalar.remsi arg9 c2_i32_771
  let c0_i32_776 : BitVec 32 := 0#32
  let v413 : BitVec 1 := Scalar.cmpi .ne v412 c0_i32_776
  let v414 : BitVec 1 := Scalar.andi v411 v413
  let v400 : BitVec 32 := Scalar.divsi arg9 c2_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c1024_i32 : BitVec 32 := 1024#32
  let v428 : BitVec 32 := Scalar.muli v427 c1024_i32
  let c2_i32_778 : BitVec 32 := 2#32
  let c0_i32_779 : BitVec 32 := 0#32
  let v417 : BitVec 1 := Scalar.cmpi .eq c2_i32_778 c0_i32_779
  let c1_i32_780 : BitVec 32 := 1#32
  let v418 : BitVec 32 := Scalar.select v417 c1_i32_780 c2_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c1024_i32_785 : BitVec 32 := 1024#32
  let v431 : BitVec 32 := Scalar.addi v430 c1024_i32_785
  let v434 : Index := Scalar.indexCast v431
  let c0_786 : Index := 0#32
  ![v434.toNat, 0]
@[reducible] def k0_t112_loop : Scf.Loop 32 :=
  let c0_i32_554 : BitVec 32 := 0#32
  let c8_i32_555 : BitVec 32 := 8#32
  let v246 : BitVec 32 := Scalar.addi c0_i32_554 c8_i32_555
  let c1_i32_556 : BitVec 32 := 1#32
  ⟨c0_i32_554, v246, c1_i32_556⟩
def k0_off133 (k0_t112 : Fin k0_t112_loop.trips) : Fin 2 → Nat :=
  let c0_i32_554 : BitVec 32 := 0#32
  let c1_i32_556 : BitVec 32 := 1#32
  let arg9 : BitVec 32 := Scf.iv c0_i32_554 c1_i32_556 k0_t112
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let v432 : Index := Scalar.indexCast v430
  let c0 : Index := 0#32
  ![v432.toNat, 0]
def k0_off134 (k0_t112 : Fin k0_t112_loop.trips) : Fin 2 → Nat :=
  let c0_i32_554 : BitVec 32 := 0#32
  let c1_i32_556 : BitVec 32 := 1#32
  let arg9 : BitVec 32 := Scf.iv c0_i32_554 c1_i32_556 k0_t112
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let c512_i32_786 : BitVec 32 := 512#32
  let v431 : BitVec 32 := Scalar.addi v430 c512_i32_786
  let v434 : Index := Scalar.indexCast v431
  let c0_787 : Index := 0#32
  ![v434.toNat, 0]
@[reducible] def k0_t113_loop : Scf.Loop 32 :=
  let c0_i32_558 : BitVec 32 := 0#32
  let c16_i32_559 : BitVec 32 := 16#32
  let v247 : BitVec 32 := Scalar.addi c0_i32_558 c16_i32_559
  let c1_i32_560 : BitVec 32 := 1#32
  ⟨c0_i32_558, v247, c1_i32_560⟩
def k0_off135 (k0_t113 : Fin k0_t113_loop.trips) : Fin 2 → Nat :=
  let c0_i32_558 : BitVec 32 := 0#32
  let c1_i32_560 : BitVec 32 := 1#32
  let arg9 : BitVec 32 := Scf.iv c0_i32_558 c1_i32_560 k0_t113
  let c512_i32 : BitVec 32 := 512#32
  let v400 : BitVec 32 := Scalar.muli arg9 c512_i32
  let v401 : Index := Scalar.indexCast v400
  let c0 : Index := 0#32
  ![v401.toNat, 0]
@[reducible] def k0_t114_loop : Scf.Loop 32 :=
  let c0_i32_562 : BitVec 32 := 0#32
  let c16_i32_563 : BitVec 32 := 16#32
  let v248 : BitVec 32 := Scalar.addi c0_i32_562 c16_i32_563
  let c1_i32_564 : BitVec 32 := 1#32
  ⟨c0_i32_562, v248, c1_i32_564⟩
def k0_off136 (k0_t114 : Fin k0_t114_loop.trips) : Fin 2 → Nat :=
  let c0_i32_562 : BitVec 32 := 0#32
  let c1_i32_564 : BitVec 32 := 1#32
  let arg9 : BitVec 32 := Scf.iv c0_i32_562 c1_i32_564 k0_t114
  let c512_i32 : BitVec 32 := 512#32
  let v400 : BitVec 32 := Scalar.muli arg9 c512_i32
  let v401 : Index := Scalar.indexCast v400
  let c0 : Index := 0#32
  ![v401.toNat, 0]
@[reducible] def k0_t115_loop : Scf.Loop 32 :=
  let c0_i32_566 : BitVec 32 := 0#32
  let c16_i32_567 : BitVec 32 := 16#32
  let v249 : BitVec 32 := Scalar.addi c0_i32_566 c16_i32_567
  let c1_i32_568 : BitVec 32 := 1#32
  ⟨c0_i32_566, v249, c1_i32_568⟩
def k0_off137 (k0_t115 : Fin k0_t115_loop.trips) : Fin 2 → Nat :=
  let c0_i32_566 : BitVec 32 := 0#32
  let c1_i32_568 : BitVec 32 := 1#32
  let arg9 : BitVec 32 := Scf.iv c0_i32_566 c1_i32_568 k0_t115
  let c512_i32 : BitVec 32 := 512#32
  let v400 : BitVec 32 := Scalar.muli arg9 c512_i32
  let v401 : Index := Scalar.indexCast v400
  let c0 : Index := 0#32
  ![v401.toNat, 0]
@[reducible] def k0_t116_loop : Scf.Loop 32 :=
  let c0_i32_570 : BitVec 32 := 0#32
  let c16_i32_571 : BitVec 32 := 16#32
  let v250 : BitVec 32 := Scalar.addi c0_i32_570 c16_i32_571
  let c1_i32_572 : BitVec 32 := 1#32
  ⟨c0_i32_570, v250, c1_i32_572⟩
def k0_off138 (k0_t116 : Fin k0_t116_loop.trips) : Fin 2 → Nat :=
  let c0_i32_570 : BitVec 32 := 0#32
  let c1_i32_572 : BitVec 32 := 1#32
  let arg9 : BitVec 32 := Scf.iv c0_i32_570 c1_i32_572 k0_t116
  let c512_i32 : BitVec 32 := 512#32
  let v400 : BitVec 32 := Scalar.muli arg9 c512_i32
  let v401 : Index := Scalar.indexCast v400
  let c0 : Index := 0#32
  ![v401.toNat, 0]
@[reducible] def k0_t117_loop : Scf.Loop 32 :=
  let c0_i32_574 : BitVec 32 := 0#32
  let c16_i32_575 : BitVec 32 := 16#32
  let v251 : BitVec 32 := Scalar.addi c0_i32_574 c16_i32_575
  let c1_i32_576 : BitVec 32 := 1#32
  ⟨c0_i32_574, v251, c1_i32_576⟩
def k0_off139 (k0_t117 : Fin k0_t117_loop.trips) : Fin 2 → Nat :=
  let c0_i32_574 : BitVec 32 := 0#32
  let c1_i32_576 : BitVec 32 := 1#32
  let arg9 : BitVec 32 := Scf.iv c0_i32_574 c1_i32_576 k0_t117
  let c512_i32 : BitVec 32 := 512#32
  let v400 : BitVec 32 := Scalar.muli arg9 c512_i32
  let v401 : Index := Scalar.indexCast v400
  let c0 : Index := 0#32
  ![v401.toNat, 0]
@[reducible] def k0_t118_loop : Scf.Loop 32 :=
  let c0_i32_578 : BitVec 32 := 0#32
  let c16_i32_579 : BitVec 32 := 16#32
  let v252 : BitVec 32 := Scalar.addi c0_i32_578 c16_i32_579
  let c1_i32_580 : BitVec 32 := 1#32
  ⟨c0_i32_578, v252, c1_i32_580⟩
def k0_off140 (k0_t118 : Fin k0_t118_loop.trips) : Fin 2 → Nat :=
  let c0_i32_578 : BitVec 32 := 0#32
  let c1_i32_580 : BitVec 32 := 1#32
  let arg9 : BitVec 32 := Scf.iv c0_i32_578 c1_i32_580 k0_t118
  let c512_i32 : BitVec 32 := 512#32
  let v400 : BitVec 32 := Scalar.muli arg9 c512_i32
  let v401 : Index := Scalar.indexCast v400
  let c0 : Index := 0#32
  ![v401.toNat, 0]
@[reducible] def k0_t119_loop : Scf.Loop 32 :=
  let c0_i32_582 : BitVec 32 := 0#32
  let c16_i32_583 : BitVec 32 := 16#32
  let v253 : BitVec 32 := Scalar.addi c0_i32_582 c16_i32_583
  let c1_i32_584 : BitVec 32 := 1#32
  ⟨c0_i32_582, v253, c1_i32_584⟩
def k0_off141 (k0_t119 : Fin k0_t119_loop.trips) : Fin 2 → Nat :=
  let c0_i32_582 : BitVec 32 := 0#32
  let c1_i32_584 : BitVec 32 := 1#32
  let arg9 : BitVec 32 := Scf.iv c0_i32_582 c1_i32_584 k0_t119
  let c512_i32 : BitVec 32 := 512#32
  let v400 : BitVec 32 := Scalar.muli arg9 c512_i32
  let v401 : Index := Scalar.indexCast v400
  let c0 : Index := 0#32
  ![v401.toNat, 0]
@[reducible] def k0_t120_loop : Scf.Loop 32 :=
  let c0_i32_586 : BitVec 32 := 0#32
  let c16_i32_587 : BitVec 32 := 16#32
  let v254 : BitVec 32 := Scalar.addi c0_i32_586 c16_i32_587
  let c1_i32_588 : BitVec 32 := 1#32
  ⟨c0_i32_586, v254, c1_i32_588⟩
def k0_off142 (k0_t120 : Fin k0_t120_loop.trips) : Fin 2 → Nat :=
  let c0_i32_586 : BitVec 32 := 0#32
  let c1_i32_588 : BitVec 32 := 1#32
  let arg9 : BitVec 32 := Scf.iv c0_i32_586 c1_i32_588 k0_t120
  let c512_i32 : BitVec 32 := 512#32
  let v400 : BitVec 32 := Scalar.muli arg9 c512_i32
  let v401 : Index := Scalar.indexCast v400
  let c0 : Index := 0#32
  ![v401.toNat, 0]
@[reducible] def k0_t121_loop : Scf.Loop 32 :=
  let c0_i32_590 : BitVec 32 := 0#32
  let c16_i32_591 : BitVec 32 := 16#32
  let v255 : BitVec 32 := Scalar.addi c0_i32_590 c16_i32_591
  let c1_i32_592 : BitVec 32 := 1#32
  ⟨c0_i32_590, v255, c1_i32_592⟩
def k0_off143 (k0_t121 : Fin k0_t121_loop.trips) : Fin 2 → Nat :=
  let c0_i32_590 : BitVec 32 := 0#32
  let c1_i32_592 : BitVec 32 := 1#32
  let arg9 : BitVec 32 := Scf.iv c0_i32_590 c1_i32_592 k0_t121
  let c512_i32 : BitVec 32 := 512#32
  let v400 : BitVec 32 := Scalar.muli arg9 c512_i32
  let v401 : Index := Scalar.indexCast v400
  let c0 : Index := 0#32
  ![v401.toNat, 0]
def k0_dev7 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_596 : BitVec 32 := 4#32
  let v259 : BitVec 32 := Scalar.xori v2 c4_i32_596
  let c1_i32_608 : BitVec 32 := 1#32
  let v278 : BitVec 32 := Scalar.muli v259 c1_i32_608
  let v279 : BitVec 32 := Scalar.addi c0_i32_609 v278
  v279.toNat
def k0_dev8 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_596 : BitVec 32 := 4#32
  let v259 : BitVec 32 := Scalar.xori v2 c4_i32_596
  let c1_i32_615 : BitVec 32 := 1#32
  let v282 : BitVec 32 := Scalar.muli v259 c1_i32_615
  let v283 : BitVec 32 := Scalar.addi c0_i32_616 v282
  v283.toNat
@[reducible] def k0_t122_loop : Scf.Loop 32 :=
  let c0_i32_632 : BitVec 32 := 0#32
  let c16_i32_633 : BitVec 32 := 16#32
  let v300 : BitVec 32 := Scalar.addi c0_i32_632 c16_i32_633
  let c1_i32_634 : BitVec 32 := 1#32
  ⟨c0_i32_632, v300, c1_i32_634⟩
def k0_off144 (k0_t122 : Fin k0_t122_loop.trips) : Fin 2 → Nat :=
  let c0_i32_632 : BitVec 32 := 0#32
  let c1_i32_634 : BitVec 32 := 1#32
  let arg9 : BitVec 32 := Scf.iv c0_i32_632 c1_i32_634 k0_t122
  let c512_i32 : BitVec 32 := 512#32
  let v400 : BitVec 32 := Scalar.muli arg9 c512_i32
  let v401 : Index := Scalar.indexCast v400
  let c0 : Index := 0#32
  ![v401.toNat, 0]
def k0_off145 (k0_t122 : Fin k0_t122_loop.trips) : Fin 3 → Nat :=
  let c1 : Index := 1#32
  let c0_i32_632 : BitVec 32 := 0#32
  let c1_i32_634 : BitVec 32 := 1#32
  let arg9 : BitVec 32 := Scf.iv c0_i32_632 c1_i32_634 k0_t122
  let c512_i32_771 : BitVec 32 := 512#32
  let v403 : BitVec 32 := Scalar.muli arg9 c512_i32_771
  let v404 : Index := Scalar.indexCast v403
  let c0_772 : Index := 0#32
  ![1, v404.toNat, 0]
def k0_dev9 (d0 : Dev nD) : Nat :=
  let c0_i32_650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_636 : BitVec 32 := 2#32
  let v301 : BitVec 32 := Scalar.xori v2 c2_i32_636
  let c1_i32_649 : BitVec 32 := 1#32
  let v320 : BitVec 32 := Scalar.muli v301 c1_i32_649
  let v321 : BitVec 32 := Scalar.addi c0_i32_650 v320
  v321.toNat
def k0_dev10 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_636 : BitVec 32 := 2#32
  let v301 : BitVec 32 := Scalar.xori v2 c2_i32_636
  let c1_i32_656 : BitVec 32 := 1#32
  let v324 : BitVec 32 := Scalar.muli v301 c1_i32_656
  let v325 : BitVec 32 := Scalar.addi c0_i32_657 v324
  v325.toNat
@[reducible] def k0_t123_loop : Scf.Loop 32 :=
  let c0_i32_673 : BitVec 32 := 0#32
  let c16_i32_674 : BitVec 32 := 16#32
  let v342 : BitVec 32 := Scalar.addi c0_i32_673 c16_i32_674
  let c1_i32_675 : BitVec 32 := 1#32
  ⟨c0_i32_673, v342, c1_i32_675⟩
def k0_off146 (k0_t123 : Fin k0_t123_loop.trips) : Fin 2 → Nat :=
  let c0_i32_673 : BitVec 32 := 0#32
  let c1_i32_675 : BitVec 32 := 1#32
  let arg9 : BitVec 32 := Scf.iv c0_i32_673 c1_i32_675 k0_t123
  let c512_i32 : BitVec 32 := 512#32
  let v400 : BitVec 32 := Scalar.muli arg9 c512_i32
  let v401 : Index := Scalar.indexCast v400
  let c0 : Index := 0#32
  ![v401.toNat, 0]
def k0_off147 (k0_t123 : Fin k0_t123_loop.trips) : Fin 3 → Nat :=
  let c0_772 : Index := 0#32
  let c0_i32_673 : BitVec 32 := 0#32
  let c1_i32_675 : BitVec 32 := 1#32
  let arg9 : BitVec 32 := Scf.iv c0_i32_673 c1_i32_675 k0_t123
  let c512_i32_771 : BitVec 32 := 512#32
  let v403 : BitVec 32 := Scalar.muli arg9 c512_i32_771
  let v404 : Index := Scalar.indexCast v403
  let c0_773 : Index := 0#32
  ![0, v404.toNat, 0]
def k0_dev11 (d0 : Dev nD) : Nat :=
  let c0_i32_690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_677 : BitVec 32 := 1#32
  let v343 : BitVec 32 := Scalar.xori v2 c1_i32_677
  let c1_i32_689 : BitVec 32 := 1#32
  let v362 : BitVec 32 := Scalar.muli v343 c1_i32_689
  let v363 : BitVec 32 := Scalar.addi c0_i32_690 v362
  v363.toNat
def k0_dev12 (d0 : Dev nD) : Nat :=
  let c0_i32_697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_677 : BitVec 32 := 1#32
  let v343 : BitVec 32 := Scalar.xori v2 c1_i32_677
  let c1_i32_696 : BitVec 32 := 1#32
  let v366 : BitVec 32 := Scalar.muli v343 c1_i32_696
  let v367 : BitVec 32 := Scalar.addi c0_i32_697 v366
  v367.toNat
@[reducible] def k0_t124_loop : Scf.Loop 32 :=
  let c0_i32_713 : BitVec 32 := 0#32
  let c16_i32_714 : BitVec 32 := 16#32
  let v384 : BitVec 32 := Scalar.addi c0_i32_713 c16_i32_714
  let c1_i32_715 : BitVec 32 := 1#32
  ⟨c0_i32_713, v384, c1_i32_715⟩
def k0_off148 (k0_t124 : Fin k0_t124_loop.trips) : Fin 2 → Nat :=
  let c0_i32_713 : BitVec 32 := 0#32
  let c1_i32_715 : BitVec 32 := 1#32
  let arg9 : BitVec 32 := Scf.iv c0_i32_713 c1_i32_715 k0_t124
  let c512_i32 : BitVec 32 := 512#32
  let v400 : BitVec 32 := Scalar.muli arg9 c512_i32
  let v401 : Index := Scalar.indexCast v400
  let c0 : Index := 0#32
  ![v401.toNat, 0]
def k0_off149 (k0_t124 : Fin k0_t124_loop.trips) : Fin 3 → Nat :=
  let c1 : Index := 1#32
  let c0_i32_713 : BitVec 32 := 0#32
  let c1_i32_715 : BitVec 32 := 1#32
  let arg9 : BitVec 32 := Scf.iv c0_i32_713 c1_i32_715 k0_t124
  let c512_i32_771 : BitVec 32 := 512#32
  let v403 : BitVec 32 := Scalar.muli arg9 c512_i32_771
  let v404 : Index := Scalar.indexCast v403
  let c0_772 : Index := 0#32
  ![1, v404.toNat, 0]
@[reducible] def k0_t125_loop : Scf.Loop 32 :=
  let c0_i32_717 : BitVec 32 := 0#32
  let c8_i32_718 : BitVec 32 := 8#32
  let v385 : BitVec 32 := Scalar.addi c0_i32_717 c8_i32_718
  let c1_i32_719 : BitVec 32 := 1#32
  ⟨c0_i32_717, v385, c1_i32_719⟩
def k0_off150 (k0_t125 : Fin k0_t125_loop.trips) : Fin 2 → Nat :=
  let c0_i32_717 : BitVec 32 := 0#32
  let c1_i32_719 : BitVec 32 := 1#32
  let arg9 : BitVec 32 := Scf.iv c0_i32_717 c1_i32_719 k0_t125
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c8_i32_771 : BitVec 32 := 8#32
  let c0_i32_774 : BitVec 32 := 0#32
  let v406 : BitVec 1 := Scalar.cmpi .sgt c8_i32_771 c0_i32_774
  let v407 : BitVec 32 := Scalar.extui v406
  let c0_i32_775 : BitVec 32 := 0#32
  let v408 : BitVec 1 := Scalar.cmpi .slt c8_i32_771 c0_i32_775
  let v409 : BitVec 32 := Scalar.extui v408
  let v410 : BitVec 32 := Scalar.subi v407 v409
  let v411 : BitVec 1 := Scalar.cmpi .ne v405 v410
  let v412 : BitVec 32 := Scalar.remsi arg9 c8_i32_771
  let c0_i32_776 : BitVec 32 := 0#32
  let v413 : BitVec 1 := Scalar.cmpi .ne v412 c0_i32_776
  let v414 : BitVec 1 := Scalar.andi v411 v413
  let v400 : BitVec 32 := Scalar.divsi arg9 c8_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c4096_i32 : BitVec 32 := 4096#32
  let v428 : BitVec 32 := Scalar.muli v427 c4096_i32
  let c8_i32_778 : BitVec 32 := 8#32
  let c0_i32_779 : BitVec 32 := 0#32
  let v417 : BitVec 1 := Scalar.cmpi .eq c8_i32_778 c0_i32_779
  let c1_i32_780 : BitVec 32 := 1#32
  let v418 : BitVec 32 := Scalar.select v417 c1_i32_780 c8_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off151 (k0_t125 : Fin k0_t125_loop.trips) : Fin 2 → Nat :=
  let c0_i32_717 : BitVec 32 := 0#32
  let c1_i32_719 : BitVec 32 := 1#32
  let arg9 : BitVec 32 := Scf.iv c0_i32_717 c1_i32_719 k0_t125
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c8_i32_771 : BitVec 32 := 8#32
  let c0_i32_774 : BitVec 32 := 0#32
  let v406 : BitVec 1 := Scalar.cmpi .sgt c8_i32_771 c0_i32_774
  let v407 : BitVec 32 := Scalar.extui v406
  let c0_i32_775 : BitVec 32 := 0#32
  let v408 : BitVec 1 := Scalar.cmpi .slt c8_i32_771 c0_i32_775
  let v409 : BitVec 32 := Scalar.extui v408
  let v410 : BitVec 32 := Scalar.subi v407 v409
  let v411 : BitVec 1 := Scalar.cmpi .ne v405 v410
  let v412 : BitVec 32 := Scalar.remsi arg9 c8_i32_771
  let c0_i32_776 : BitVec 32 := 0#32
  let v413 : BitVec 1 := Scalar.cmpi .ne v412 c0_i32_776
  let v414 : BitVec 1 := Scalar.andi v411 v413
  let v400 : BitVec 32 := Scalar.divsi arg9 c8_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c4096_i32 : BitVec 32 := 4096#32
  let v428 : BitVec 32 := Scalar.muli v427 c4096_i32
  let c8_i32_778 : BitVec 32 := 8#32
  let c0_i32_779 : BitVec 32 := 0#32
  let v417 : BitVec 1 := Scalar.cmpi .eq c8_i32_778 c0_i32_779
  let c1_i32_780 : BitVec 32 := 1#32
  let v418 : BitVec 32 := Scalar.select v417 c1_i32_780 c8_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c4096_i32_785 : BitVec 32 := 4096#32
  let v431 : BitVec 32 := Scalar.addi v430 c4096_i32_785
  let v434 : Index := Scalar.indexCast v431
  let c0_786 : Index := 0#32
  ![v434.toNat, 0]
@[reducible] def k0_t126_loop : Scf.Loop 32 :=
  let c0_i32_721 : BitVec 32 := 0#32
  let c8_i32_722 : BitVec 32 := 8#32
  let v386 : BitVec 32 := Scalar.addi c0_i32_721 c8_i32_722
  let c1_i32_723 : BitVec 32 := 1#32
  ⟨c0_i32_721, v386, c1_i32_723⟩
def k0_off152 (k0_t126 : Fin k0_t126_loop.trips) : Fin 2 → Nat :=
  let c0_i32_721 : BitVec 32 := 0#32
  let c1_i32_723 : BitVec 32 := 1#32
  let arg9 : BitVec 32 := Scf.iv c0_i32_721 c1_i32_723 k0_t126
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c4_i32_771 : BitVec 32 := 4#32
  let c0_i32_774 : BitVec 32 := 0#32
  let v406 : BitVec 1 := Scalar.cmpi .sgt c4_i32_771 c0_i32_774
  let v407 : BitVec 32 := Scalar.extui v406
  let c0_i32_775 : BitVec 32 := 0#32
  let v408 : BitVec 1 := Scalar.cmpi .slt c4_i32_771 c0_i32_775
  let v409 : BitVec 32 := Scalar.extui v408
  let v410 : BitVec 32 := Scalar.subi v407 v409
  let v411 : BitVec 1 := Scalar.cmpi .ne v405 v410
  let v412 : BitVec 32 := Scalar.remsi arg9 c4_i32_771
  let c0_i32_776 : BitVec 32 := 0#32
  let v413 : BitVec 1 := Scalar.cmpi .ne v412 c0_i32_776
  let v414 : BitVec 1 := Scalar.andi v411 v413
  let v400 : BitVec 32 := Scalar.divsi arg9 c4_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c2048_i32 : BitVec 32 := 2048#32
  let v428 : BitVec 32 := Scalar.muli v427 c2048_i32
  let c4_i32_778 : BitVec 32 := 4#32
  let c0_i32_779 : BitVec 32 := 0#32
  let v417 : BitVec 1 := Scalar.cmpi .eq c4_i32_778 c0_i32_779
  let c1_i32_780 : BitVec 32 := 1#32
  let v418 : BitVec 32 := Scalar.select v417 c1_i32_780 c4_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off153 (k0_t126 : Fin k0_t126_loop.trips) : Fin 2 → Nat :=
  let c0_i32_721 : BitVec 32 := 0#32
  let c1_i32_723 : BitVec 32 := 1#32
  let arg9 : BitVec 32 := Scf.iv c0_i32_721 c1_i32_723 k0_t126
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c4_i32_771 : BitVec 32 := 4#32
  let c0_i32_774 : BitVec 32 := 0#32
  let v406 : BitVec 1 := Scalar.cmpi .sgt c4_i32_771 c0_i32_774
  let v407 : BitVec 32 := Scalar.extui v406
  let c0_i32_775 : BitVec 32 := 0#32
  let v408 : BitVec 1 := Scalar.cmpi .slt c4_i32_771 c0_i32_775
  let v409 : BitVec 32 := Scalar.extui v408
  let v410 : BitVec 32 := Scalar.subi v407 v409
  let v411 : BitVec 1 := Scalar.cmpi .ne v405 v410
  let v412 : BitVec 32 := Scalar.remsi arg9 c4_i32_771
  let c0_i32_776 : BitVec 32 := 0#32
  let v413 : BitVec 1 := Scalar.cmpi .ne v412 c0_i32_776
  let v414 : BitVec 1 := Scalar.andi v411 v413
  let v400 : BitVec 32 := Scalar.divsi arg9 c4_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c2048_i32 : BitVec 32 := 2048#32
  let v428 : BitVec 32 := Scalar.muli v427 c2048_i32
  let c4_i32_778 : BitVec 32 := 4#32
  let c0_i32_779 : BitVec 32 := 0#32
  let v417 : BitVec 1 := Scalar.cmpi .eq c4_i32_778 c0_i32_779
  let c1_i32_780 : BitVec 32 := 1#32
  let v418 : BitVec 32 := Scalar.select v417 c1_i32_780 c4_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c2048_i32_785 : BitVec 32 := 2048#32
  let v431 : BitVec 32 := Scalar.addi v430 c2048_i32_785
  let v434 : Index := Scalar.indexCast v431
  let c0_786 : Index := 0#32
  ![v434.toNat, 0]
@[reducible] def k0_t127_loop : Scf.Loop 32 :=
  let c0_i32_725 : BitVec 32 := 0#32
  let c8_i32_726 : BitVec 32 := 8#32
  let v387 : BitVec 32 := Scalar.addi c0_i32_725 c8_i32_726
  let c1_i32_727 : BitVec 32 := 1#32
  ⟨c0_i32_725, v387, c1_i32_727⟩
def k0_off154 (k0_t127 : Fin k0_t127_loop.trips) : Fin 2 → Nat :=
  let c0_i32_725 : BitVec 32 := 0#32
  let c1_i32_727 : BitVec 32 := 1#32
  let arg9 : BitVec 32 := Scf.iv c0_i32_725 c1_i32_727 k0_t127
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c2_i32_771 : BitVec 32 := 2#32
  let c0_i32_774 : BitVec 32 := 0#32
  let v406 : BitVec 1 := Scalar.cmpi .sgt c2_i32_771 c0_i32_774
  let v407 : BitVec 32 := Scalar.extui v406
  let c0_i32_775 : BitVec 32 := 0#32
  let v408 : BitVec 1 := Scalar.cmpi .slt c2_i32_771 c0_i32_775
  let v409 : BitVec 32 := Scalar.extui v408
  let v410 : BitVec 32 := Scalar.subi v407 v409
  let v411 : BitVec 1 := Scalar.cmpi .ne v405 v410
  let v412 : BitVec 32 := Scalar.remsi arg9 c2_i32_771
  let c0_i32_776 : BitVec 32 := 0#32
  let v413 : BitVec 1 := Scalar.cmpi .ne v412 c0_i32_776
  let v414 : BitVec 1 := Scalar.andi v411 v413
  let v400 : BitVec 32 := Scalar.divsi arg9 c2_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c1024_i32 : BitVec 32 := 1024#32
  let v428 : BitVec 32 := Scalar.muli v427 c1024_i32
  let c2_i32_778 : BitVec 32 := 2#32
  let c0_i32_779 : BitVec 32 := 0#32
  let v417 : BitVec 1 := Scalar.cmpi .eq c2_i32_778 c0_i32_779
  let c1_i32_780 : BitVec 32 := 1#32
  let v418 : BitVec 32 := Scalar.select v417 c1_i32_780 c2_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let v432 : Index := Scalar.indexCast v430
  let c0 : Index := 0#32
  ![v432.toNat, 0]
def k0_off155 (k0_t127 : Fin k0_t127_loop.trips) : Fin 2 → Nat :=
  let c0_i32_725 : BitVec 32 := 0#32
  let c1_i32_727 : BitVec 32 := 1#32
  let arg9 : BitVec 32 := Scf.iv c0_i32_725 c1_i32_727 k0_t127
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c2_i32_771 : BitVec 32 := 2#32
  let c0_i32_774 : BitVec 32 := 0#32
  let v406 : BitVec 1 := Scalar.cmpi .sgt c2_i32_771 c0_i32_774
  let v407 : BitVec 32 := Scalar.extui v406
  let c0_i32_775 : BitVec 32 := 0#32
  let v408 : BitVec 1 := Scalar.cmpi .slt c2_i32_771 c0_i32_775
  let v409 : BitVec 32 := Scalar.extui v408
  let v410 : BitVec 32 := Scalar.subi v407 v409
  let v411 : BitVec 1 := Scalar.cmpi .ne v405 v410
  let v412 : BitVec 32 := Scalar.remsi arg9 c2_i32_771
  let c0_i32_776 : BitVec 32 := 0#32
  let v413 : BitVec 1 := Scalar.cmpi .ne v412 c0_i32_776
  let v414 : BitVec 1 := Scalar.andi v411 v413
  let v400 : BitVec 32 := Scalar.divsi arg9 c2_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c1024_i32 : BitVec 32 := 1024#32
  let v428 : BitVec 32 := Scalar.muli v427 c1024_i32
  let c2_i32_778 : BitVec 32 := 2#32
  let c0_i32_779 : BitVec 32 := 0#32
  let v417 : BitVec 1 := Scalar.cmpi .eq c2_i32_778 c0_i32_779
  let c1_i32_780 : BitVec 32 := 1#32
  let v418 : BitVec 32 := Scalar.select v417 c1_i32_780 c2_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32 : BitVec 32 := 512#32
  let v429 : BitVec 32 := Scalar.muli v426 c512_i32
  let v430 : BitVec 32 := Scalar.addi v428 v429
  let c1024_i32_785 : BitVec 32 := 1024#32
  let v431 : BitVec 32 := Scalar.addi v430 c1024_i32_785
  let v434 : Index := Scalar.indexCast v431
  let c0_786 : Index := 0#32
  ![v434.toNat, 0]
@[reducible] def k0_t128_loop : Scf.Loop 32 :=
  let c0_i32_729 : BitVec 32 := 0#32
  let c8_i32_730 : BitVec 32 := 8#32
  let v388 : BitVec 32 := Scalar.addi c0_i32_729 c8_i32_730
  let c1_i32_731 : BitVec 32 := 1#32
  ⟨c0_i32_729, v388, c1_i32_731⟩
def k0_off156 (k0_t128 : Fin k0_t128_loop.trips) : Fin 2 → Nat :=
  let c0_i32_729 : BitVec 32 := 0#32
  let c1_i32_731 : BitVec 32 := 1#32
  let arg9 : BitVec 32 := Scf.iv c0_i32_729 c1_i32_731 k0_t128
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let v432 : Index := Scalar.indexCast v430
  let c0 : Index := 0#32
  ![v432.toNat, 0]
def k0_off157 (k0_t128 : Fin k0_t128_loop.trips) : Fin 2 → Nat :=
  let c0_i32_729 : BitVec 32 := 0#32
  let c1_i32_731 : BitVec 32 := 1#32
  let arg9 : BitVec 32 := Scf.iv c0_i32_729 c1_i32_731 k0_t128
  let c0_i32_772 : BitVec 32 := 0#32
  let v401 : BitVec 1 := Scalar.cmpi .sgt arg9 c0_i32_772
  let v402 : BitVec 32 := Scalar.extui v401
  let c0_i32_773 : BitVec 32 := 0#32
  let v403 : BitVec 1 := Scalar.cmpi .slt arg9 c0_i32_773
  let v404 : BitVec 32 := Scalar.extui v403
  let v405 : BitVec 32 := Scalar.subi v402 v404
  let c1_i32_771 : BitVec 32 := 1#32
  let c0_i32_774 : BitVec 32 := 0#32
  let v406 : BitVec 1 := Scalar.cmpi .sgt c1_i32_771 c0_i32_774
  let v407 : BitVec 32 := Scalar.extui v406
  let c0_i32_775 : BitVec 32 := 0#32
  let v408 : BitVec 1 := Scalar.cmpi .slt c1_i32_771 c0_i32_775
  let v409 : BitVec 32 := Scalar.extui v408
  let v410 : BitVec 32 := Scalar.subi v407 v409
  let v411 : BitVec 1 := Scalar.cmpi .ne v405 v410
  let v412 : BitVec 32 := Scalar.remsi arg9 c1_i32_771
  let c0_i32_776 : BitVec 32 := 0#32
  let v413 : BitVec 1 := Scalar.cmpi .ne v412 c0_i32_776
  let v414 : BitVec 1 := Scalar.andi v411 v413
  let v400 : BitVec 32 := Scalar.divsi arg9 c1_i32_771
  let c1_i32_777 : BitVec 32 := 1#32
  let v415 : BitVec 32 := Scalar.subi v400 c1_i32_777
  let v416 : BitVec 32 := Scalar.select v414 v415 v400
  let c2_i32_784 : BitVec 32 := 2#32
  let v427 : BitVec 32 := Scalar.muli v416 c2_i32_784
  let c512_i32 : BitVec 32 := 512#32
  let v428 : BitVec 32 := Scalar.muli v427 c512_i32
  let c1_i32_778 : BitVec 32 := 1#32
  let c0_i32_779 : BitVec 32 := 0#32
  let v417 : BitVec 1 := Scalar.cmpi .eq c1_i32_778 c0_i32_779
  let c1_i32_780 : BitVec 32 := 1#32
  let v418 : BitVec 32 := Scalar.select v417 c1_i32_780 c1_i32_778
  let v419 : BitVec 32 := Scalar.remsi arg9 v418
  let c0_i32_782 : BitVec 32 := 0#32
  let v421 : BitVec 1 := Scalar.cmpi .slt v419 c0_i32_782
  let c0_i32_783 : BitVec 32 := 0#32
  let v422 : BitVec 1 := Scalar.cmpi .slt v418 c0_i32_783
  let v423 : BitVec 1 := Scalar.xori v421 v422
  let c0_i32_781 : BitVec 32 := 0#32
  let v420 : BitVec 1 := Scalar.cmpi .ne v419 c0_i32_781
  let v424 : BitVec 1 := Scalar.andi v423 v420
  let v425 : BitVec 32 := Scalar.addi v419 v418
  let v426 : BitVec 32 := Scalar.select v424 v425 v419
  let c512_i32_785 : BitVec 32 := 512#32
  let v429 : BitVec 32 := Scalar.muli v426 c512_i32_785
  let v430 : BitVec 32 := Scalar.addi v428 v429
  let c512_i32_786 : BitVec 32 := 512#32
  let v431 : BitVec 32 := Scalar.addi v430 c512_i32_786
  let v434 : Index := Scalar.indexCast v431
  let c0_787 : Index := 0#32
  ![v434.toNat, 0]
@[reducible] def k0_t129_loop : Scf.Loop 32 :=
  let c0_i32_733 : BitVec 32 := 0#32
  let c16_i32_734 : BitVec 32 := 16#32
  let v389 : BitVec 32 := Scalar.addi c0_i32_733 c16_i32_734
  let c1_i32_735 : BitVec 32 := 1#32
  ⟨c0_i32_733, v389, c1_i32_735⟩
def k0_off158 (k0_t129 : Fin k0_t129_loop.trips) : Fin 2 → Nat :=
  let c0_i32_733 : BitVec 32 := 0#32
  let c1_i32_735 : BitVec 32 := 1#32
  let arg9 : BitVec 32 := Scf.iv c0_i32_733 c1_i32_735 k0_t129
  let c512_i32 : BitVec 32 := 512#32
  let v400 : BitVec 32 := Scalar.muli arg9 c512_i32
  let v401 : Index := Scalar.indexCast v400
  let c0 : Index := 0#32
  ![v401.toNat, 0]
@[reducible] def k0_t130_loop : Scf.Loop 32 :=
  let c0_i32_737 : BitVec 32 := 0#32
  let c16_i32_738 : BitVec 32 := 16#32
  let v390 : BitVec 32 := Scalar.addi c0_i32_737 c16_i32_738
  let c1_i32_739 : BitVec 32 := 1#32
  ⟨c0_i32_737, v390, c1_i32_739⟩
def k0_off159 (k0_t130 : Fin k0_t130_loop.trips) : Fin 2 → Nat :=
  let c0_i32_737 : BitVec 32 := 0#32
  let c1_i32_739 : BitVec 32 := 1#32
  let arg9 : BitVec 32 := Scf.iv c0_i32_737 c1_i32_739 k0_t130
  let c512_i32 : BitVec 32 := 512#32
  let v400 : BitVec 32 := Scalar.muli arg9 c512_i32
  let v401 : Index := Scalar.indexCast v400
  let c0 : Index := 0#32
  ![v401.toNat, 0]
@[reducible] def k0_t131_loop : Scf.Loop 32 :=
  let c0_i32_741 : BitVec 32 := 0#32
  let c16_i32_742 : BitVec 32 := 16#32
  let v391 : BitVec 32 := Scalar.addi c0_i32_741 c16_i32_742
  let c1_i32_743 : BitVec 32 := 1#32
  ⟨c0_i32_741, v391, c1_i32_743⟩
def k0_off160 (k0_t131 : Fin k0_t131_loop.trips) : Fin 2 → Nat :=
  let c0_i32_741 : BitVec 32 := 0#32
  let c1_i32_743 : BitVec 32 := 1#32
  let arg9 : BitVec 32 := Scf.iv c0_i32_741 c1_i32_743 k0_t131
  let c512_i32 : BitVec 32 := 512#32
  let v400 : BitVec 32 := Scalar.muli arg9 c512_i32
  let v401 : Index := Scalar.indexCast v400
  let c0 : Index := 0#32
  ![v401.toNat, 0]
@[reducible] def k0_t132_loop : Scf.Loop 32 :=
  let c0_i32_745 : BitVec 32 := 0#32
  let c16_i32_746 : BitVec 32 := 16#32
  let v392 : BitVec 32 := Scalar.addi c0_i32_745 c16_i32_746
  let c1_i32_747 : BitVec 32 := 1#32
  ⟨c0_i32_745, v392, c1_i32_747⟩
def k0_off161 (k0_t132 : Fin k0_t132_loop.trips) : Fin 2 → Nat :=
  let c0_i32_745 : BitVec 32 := 0#32
  let c1_i32_747 : BitVec 32 := 1#32
  let arg9 : BitVec 32 := Scf.iv c0_i32_745 c1_i32_747 k0_t132
  let c512_i32 : BitVec 32 := 512#32
  let v400 : BitVec 32 := Scalar.muli arg9 c512_i32
  let v401 : Index := Scalar.indexCast v400
  let c0 : Index := 0#32
  ![v401.toNat, 0]
@[reducible] def k0_t133_loop : Scf.Loop 32 :=
  let c0_i32_749 : BitVec 32 := 0#32
  let c16_i32_750 : BitVec 32 := 16#32
  let v393 : BitVec 32 := Scalar.addi c0_i32_749 c16_i32_750
  let c1_i32_751 : BitVec 32 := 1#32
  ⟨c0_i32_749, v393, c1_i32_751⟩
def k0_off162 (k0_t133 : Fin k0_t133_loop.trips) : Fin 2 → Nat :=
  let c0_i32_749 : BitVec 32 := 0#32
  let c1_i32_751 : BitVec 32 := 1#32
  let arg9 : BitVec 32 := Scf.iv c0_i32_749 c1_i32_751 k0_t133
  let c512_i32 : BitVec 32 := 512#32
  let v400 : BitVec 32 := Scalar.muli arg9 c512_i32
  let v401 : Index := Scalar.indexCast v400
  let c0 : Index := 0#32
  ![v401.toNat, 0]
@[reducible] def k0_t134_loop : Scf.Loop 32 :=
  let c0_i32_753 : BitVec 32 := 0#32
  let c16_i32_754 : BitVec 32 := 16#32
  let v394 : BitVec 32 := Scalar.addi c0_i32_753 c16_i32_754
  let c1_i32_755 : BitVec 32 := 1#32
  ⟨c0_i32_753, v394, c1_i32_755⟩
def k0_off163 (k0_t134 : Fin k0_t134_loop.trips) : Fin 2 → Nat :=
  let c0_i32_753 : BitVec 32 := 0#32
  let c1_i32_755 : BitVec 32 := 1#32
  let arg9 : BitVec 32 := Scf.iv c0_i32_753 c1_i32_755 k0_t134
  let c512_i32 : BitVec 32 := 512#32
  let v400 : BitVec 32 := Scalar.muli arg9 c512_i32
  let v401 : Index := Scalar.indexCast v400
  let c0 : Index := 0#32
  ![v401.toNat, 0]
@[reducible] def k0_t135_loop : Scf.Loop 32 :=
  let c0_i32_757 : BitVec 32 := 0#32
  let c16_i32_758 : BitVec 32 := 16#32
  let v395 : BitVec 32 := Scalar.addi c0_i32_757 c16_i32_758
  let c1_i32_759 : BitVec 32 := 1#32
  ⟨c0_i32_757, v395, c1_i32_759⟩
def k0_off164 (k0_t135 : Fin k0_t135_loop.trips) : Fin 2 → Nat :=
  let c0_i32_757 : BitVec 32 := 0#32
  let c1_i32_759 : BitVec 32 := 1#32
  let arg9 : BitVec 32 := Scf.iv c0_i32_757 c1_i32_759 k0_t135
  let c512_i32 : BitVec 32 := 512#32
  let v400 : BitVec 32 := Scalar.muli arg9 c512_i32
  let v401 : Index := Scalar.indexCast v400
  let c0 : Index := 0#32
  ![v401.toNat, 0]
@[reducible] def k0_t136_loop : Scf.Loop 32 :=
  let c0_i32_761 : BitVec 32 := 0#32
  let c16_i32_762 : BitVec 32 := 16#32
  let v396 : BitVec 32 := Scalar.addi c0_i32_761 c16_i32_762
  let c1_i32_763 : BitVec 32 := 1#32
  ⟨c0_i32_761, v396, c1_i32_763⟩
def k0_off165 (k0_t136 : Fin k0_t136_loop.trips) : Fin 2 → Nat :=
  let c0_i32_761 : BitVec 32 := 0#32
  let c1_i32_763 : BitVec 32 := 1#32
  let arg9 : BitVec 32 := Scf.iv c0_i32_761 c1_i32_763 k0_t136
  let c512_i32 : BitVec 32 := 512#32
  let v400 : BitVec 32 := Scalar.muli arg9 c512_i32
  let v401 : Index := Scalar.indexCast v400
  let c0 : Index := 0#32
  ![v401.toNat, 0]
@[reducible] def k0_t137_loop : Scf.Loop 32 :=
  let c0_i32_765 : BitVec 32 := 0#32
  let c16_i32_766 : BitVec 32 := 16#32
  let v397 : BitVec 32 := Scalar.addi c0_i32_765 c16_i32_766
  let c1_i32_767 : BitVec 32 := 1#32
  ⟨c0_i32_765, v397, c1_i32_767⟩
def k0_off166 (k0_t137 : Fin k0_t137_loop.trips) : Fin 2 → Nat :=
  let c0_i32_765 : BitVec 32 := 0#32
  let c1_i32_767 : BitVec 32 := 1#32
  let arg9 : BitVec 32 := Scf.iv c0_i32_765 c1_i32_767 k0_t137
  let c512_i32 : BitVec 32 := 512#32
  let v400 : BitVec 32 := Scalar.muli arg9 c512_i32
  let v401 : Index := Scalar.indexCast v400
  let c0 : Index := 0#32
  ![v401.toNat, 0]
-- ==== ReferenceIdeal.lean ====
abbrev S65536x1024 : Shape := ⟨2, ![65536, 1024]⟩

abbrev nBuf : Space → Nat
  | .hbm => 2
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Pass.lean ====
/-
The local passes of the sorter as programs over the work block.
-/
module

public import proofs.«01_k».proof.Proof.Gen.KernelIdeal
public import Idealize.ShloMosaic.Lib.Pipeline.Kit
public import Idealize.ShloMosaic.Lib.Tactic
public import Idealize.ShloMosaic.Lib.Rounds

@[expose] public section

noncomputable section

namespace Cert.Bitonic

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The programs of one pass -/

/-- The memrefs of the kernel: the input block, the output block, the work block, the two landing slots. -/
abbrev inM : Memref sig .tc .hbm S8192x1024 .f32 := Memref.whole main_arg0
abbrev outM : Memref sig .tc .hbm S8192x1024 .f32 := Memref.whole main_v1
abbrev workM : Memref sig .tc .vmem S8192x256 .f32 := Memref.whole cc0_scratch0
abbrev commM : Memref sig .tc .vmem S2x8192x256 .f32 := Memref.whole cc0_scratch1

/-- The programs of the kernel's region. -/
abbrev P (α : Type) : Type 1 := Prog (TpuEff nD τ sig (Elt F) Λ₀ .tc) α

/-- The sixteen trips of a pass over chunks of 512 rows, and the eight trips of a pass over pairs of chunks. -/
@[reducible] def loop16 : Scf.Loop 32 := ⟨0#32, Scalar.addi 0#32 16#32, 1#32⟩
@[reducible] def loop8 : Scf.Loop 32 := ⟨0#32, Scalar.addi 0#32 8#32, 1#32⟩

/-- The shapes of a chunk seen as `g` groups of two runs of `j` rows. -/
abbrev Sh4 (g p j : ℕ) : Shape := ⟨4, ![g, p, j, 256]⟩
abbrev Sh3 (g j : ℕ) : Shape := ⟨3, ![g, j, 256]⟩
abbrev ShI (g : ℕ) : Shape := ⟨3, ![g, 1, 1]⟩

/-- The shape facts of a chunk seen as `g` groups of two runs of `j` rows. -/
structure Geo (g j : ℕ) : Prop where
  cast4 : S512x256.ShapeCasts (Sh4 g 2 j)
  sl0 : (Sh4 g 2 j).Slices (![0, 0, 0, 0] : Fin 4 → ℕ) (Sh4 g 1 j)
  sl1 : (Sh4 g 2 j).Slices (![0, 1, 0, 0] : Fin 4 → ℕ) (Sh4 g 1 j)
  to3 : (Sh4 g 1 j).ShapeCasts (Sh3 g j)
  io : (ShI g).Iotas .tc 32 [0]
  castI : (ShI g).ShapeCasts (ShI g)
  bcI : (ShI g).Broadcasts (Sh3 g j)
  to4 : (Sh3 g j).ShapeCasts (Sh4 g 1 j)
  cat : Shape.Concatenates [Sh4 g 1 j, Sh4 g 1 j] (Sh4 g 2 j) 1
  back : (Sh4 g 2 j).ShapeCasts S512x256
  num : g * (2 * j) = 512

/-- The rows a trip of a chunk pass reads and writes, as the kernel computes them. -/
def offS (t : Fin loop16.trips) : Fin 2 → ℕ :=
  ![(Scalar.indexCast (Scalar.muli (Scf.iv 0#32 1#32 t) 512#32)).toNat, 0]

theorem offS_eq : ∀ t : Fin loop16.trips, offS t = ![512 * t.val, 0] := by decide +kernel
theorem offS_inb : ∀ t : Fin loop16.trips, ∀ a, offS t a + S512x256.size a ≤ S8192x256.size a := by decide +kernel

/-- The rows of slot `s` of the landing buffer an exchange's trip reads. -/
def offC (s : ℕ) (t : Fin loop16.trips) : Fin 3 → ℕ :=
  ![s, (Scalar.indexCast (Scalar.muli (Scf.iv 0#32 1#32 t) 512#32)).toNat, 0]

/-- A chunk's two halves of each group, exchanged where a lane of `up` says the smaller goes first. -/
def payL {g j : ℕ} (G : Geo g j) (k : ℕ) (w : BitVec 32) (v : FVec F S512x256 .f32) : FVec F S512x256 .f32 :=
  have x := shapeCast (Sh4 g 2 j) v G.cast4
  have a : FVec F (Sh3 g j) .f32 := shapeCast (Sh3 g j) (extractStridedSlice (Sh4 g 1 j) ![0, 0, 0, 0] x G.sl0) G.to3
  have b : FVec F (Sh3 g j) .f32 := shapeCast (Sh3 g j) (extractStridedSlice (Sh4 g 1 j) ![0, 1, 0, 0] x G.sl1) G.to3
  have lo := minimumf a b
  have hi := maximumf a b
  have r : IVec (ShI g) 32 := addi (muli (iota .tc (ShI g) 32 [0] G.io) (broadcast (ShI g) (BitVec.ofNat 32 (2 * j))))
    (broadcast (ShI g) (Scalar.muli w 512#32))
  have u : IVec (ShI g) 1 := cmpi .eq (andi r (broadcast (ShI g) (BitVec.ofNat 32 k))) (broadcast (ShI g) 0#32)
  have m : IVec (Sh3 g j) 1 := broadcastTo (Sh3 g j) (shapeCast (ShI g) u G.castI) G.bcI
  have p : FVec F (Sh3 g j) .f32 := select m lo hi
  have q : FVec F (Sh3 g j) .f32 := select m hi lo
  shapeCast S512x256 (concatenate (Sh4 g 2 j) 1
    [⟨Sh4 g 1 j, shapeCast (Sh4 g 1 j) p G.to4⟩, ⟨Sh4 g 1 j, shapeCast (Sh4 g 1 j) q G.to4⟩] G.cat) G.back

/-- A chunk's two halves of each group, exchanged one way throughout. -/
def payD {g j : ℕ} (G : Geo g j) (up : BitVec 1) (v : FVec F S512x256 .f32) : FVec F S512x256 .f32 :=
  have x := shapeCast (Sh4 g 2 j) v G.cast4
  have a : FVec F (Sh3 g j) .f32 := shapeCast (Sh3 g j) (extractStridedSlice (Sh4 g 1 j) ![0, 0, 0, 0] x G.sl0) G.to3
  have b : FVec F (Sh3 g j) .f32 := shapeCast (Sh3 g j) (extractStridedSlice (Sh4 g 1 j) ![0, 1, 0, 0] x G.sl1) G.to3
  have lo := minimumf a b
  have hi := maximumf a b
  have p : FVec F (Sh3 g j) .f32 := Scalar.select up lo hi
  have q : FVec F (Sh3 g j) .f32 := Scalar.select up hi lo
  shapeCast S512x256 (concatenate (Sh4 g 2 j) 1
    [⟨Sh4 g 1 j, shapeCast (Sh4 g 1 j) p G.to4⟩, ⟨Sh4 g 1 j, shapeCast (Sh4 g 1 j) q G.to4⟩] G.cat) G.back

/-- The word the kernel compares with zero to choose the direction of a pass at a distance of a block or more. -/
def dirWord (v2 : BitVec 32) (k : ℕ) : BitVec 1 :=
  Scalar.cmpi .eq (Scalar.andi (Scalar.muli v2 8192#32) (BitVec.ofNat 32 k)) 0#32

/-- One trip of a chunk pass with payload `pay`. -/
def smallTrip (pay : BitVec 32 → FVec F S512x256 .f32 → FVec F S512x256 .f32) (t : Fin loop16.trips) : P (F := F) PUnit := do
  let v : Vec F S512x256 .f32 ← Prog.lift (.load workM (Rect.unit (s := S8192x256) (offS t) S512x256.size (offS_inb t)).toLoadRect (View.loadsAt_vmem h_S512x256))
  let _ : Vec F S512x256 .f32 ← Prog.lift (.load workM (Rect.unit (s := S8192x256) (offS t) S512x256.size (offS_inb t)).toLoadRect (View.loadsAt_vmem h_S512x256))
  Prog.lift (.store workM (Rect.unit (s := S8192x256) (offS t) S512x256.size (offS_inb t))
    (shapeCast S512x256 (pay (Scf.iv 0#32 1#32 t) v) shapeCasts_S512x256_S512x256) Finset.univ (View.stores_vmem_bits_univ h_S512x256 rfl) (.inl rfl))
  pure ⟨⟩

theorem ok16 : loop16.OK := by decide
theorem ok8 : loop8.OK := by decide

/-- A chunk pass. -/
def smallLoop (pay : BitVec 32 → FVec F S512x256 .f32 → FVec F S512x256 .f32) : P (F := F) PUnit :=
  Scf.Loop.for loop16 ok16 ⟨⟩ fun t _ => smallTrip pay t

/-- A chunk pass inside a block: distance `j`, direction by the bit `k` of the row. -/
abbrev smallL {g j : ℕ} (G : Geo g j) (k : ℕ) : P (F := F) PUnit := smallLoop (payL G k)
/-- A chunk pass of a merge across blocks: distance `j`, direction by the bit `k` of the device's first row. -/
abbrev smallD {g j : ℕ} (G : Geo g j) (v2 : BitVec 32) (k : ℕ) : P (F := F) PUnit := smallLoop fun _ => payD G (dirWord v2 k)

/-- The first row of the lower chunk of pair number `t`, for chunks `jo` chunks apart, as the kernel computes it. -/
def rowA (jo : ℕ) (t : Fin loop8.trips) : BitVec 32 :=
  let a : BitVec 32 := Scf.iv 0#32 1#32 t
  let c : BitVec 32 := BitVec.ofNat 32 jo
  let q := Scalar.divsi a c
  let sa : BitVec 32 := Scalar.subi (Scalar.extui (Scalar.cmpi .sgt a 0#32)) (Scalar.extui (Scalar.cmpi .slt a 0#32))
  let sc : BitVec 32 := Scalar.subi (Scalar.extui (Scalar.cmpi .sgt c 0#32)) (Scalar.extui (Scalar.cmpi .slt c 0#32))
  let fix := Scalar.andi (Scalar.cmpi .ne sa sc) (Scalar.cmpi .ne (Scalar.remsi a c) 0#32)
  let fq := Scalar.select fix (Scalar.subi q 1#32) q
  let d := Scalar.select (Scalar.cmpi .eq c 0#32) 1#32 c
  let r := Scalar.remsi a d
  let fr := Scalar.select (Scalar.andi (Scalar.xori (Scalar.cmpi .slt r 0#32) (Scalar.cmpi .slt d 0#32)) (Scalar.cmpi .ne r 0#32)) (Scalar.addi r d) r
  Scalar.addi (Scalar.muli (Scalar.muli fq 2#32) (BitVec.ofNat 32 (512 * jo))) (Scalar.muli fr 512#32)

def rowB (jo : ℕ) (t : Fin loop8.trips) : BitVec 32 := Scalar.addi (rowA jo t) (BitVec.ofNat 32 (512 * jo))

def offA (jo : ℕ) (t : Fin loop8.trips) : Fin 2 → ℕ := ![(Scalar.indexCast (rowA jo t)).toNat, 0]
def offB (jo : ℕ) (t : Fin loop8.trips) : Fin 2 → ℕ := ![(Scalar.indexCast (rowB jo t)).toNat, 0]

/-- The distances, in chunks, of the passes over pairs of chunks. -/
def BigJ (jo : ℕ) : Prop := jo = 1 ∨ jo = 2 ∨ jo = 4 ∨ jo = 8

theorem rowA_toNat : ∀ jo, BigJ jo → ∀ t : Fin loop8.trips, (rowA jo t).toNat = t.val / jo * (2 * (512 * jo)) + t.val % jo * 512 := by
  rintro jo (rfl | rfl | rfl | rfl) <;> decide +kernel
theorem rowB_toNat : ∀ jo, BigJ jo → ∀ t : Fin loop8.trips, (rowB jo t).toNat = t.val / jo * (2 * (512 * jo)) + t.val % jo * 512 + 512 * jo := by
  rintro jo (rfl | rfl | rfl | rfl) <;> decide +kernel
theorem offA_inb {jo : ℕ} (h : BigJ jo) (t : Fin loop8.trips) : ∀ a, offA jo t a + S512x256.size a ≤ S8192x256.size a := by
  revert t; rcases h with rfl | rfl | rfl | rfl <;> decide +kernel
theorem offB_inb {jo : ℕ} (h : BigJ jo) (t : Fin loop8.trips) : ∀ a, offB jo t a + S512x256.size a ≤ S8192x256.size a := by
  revert t; rcases h with rfl | rfl | rfl | rfl <;> decide +kernel

/-- One trip of a pass over pairs of chunks: the pair loaded, its smaller and larger values stored one way or the other. -/
def bigTrip {jo : ℕ} (h : BigJ jo) (up : BitVec 1) (t : Fin loop8.trips) : P (F := F) PUnit := do
  let x : Vec F S512x256 .f32 ← Prog.lift (.load workM (Rect.unit (s := S8192x256) (offA jo t) S512x256.size (offA_inb h t)).toLoadRect (View.loadsAt_vmem h_S512x256))
  let y : Vec F S512x256 .f32 ← Prog.lift (.load workM (Rect.unit (s := S8192x256) (offB jo t) S512x256.size (offB_inb h t)).toLoadRect (View.loadsAt_vmem h_S512x256))
  have lo : FVec F S512x256 .f32 := minimumf x y
  have hi : FVec F S512x256 .f32 := maximumf x y
  let _ : Vec F S512x256 .f32 ← Prog.lift (.load workM (Rect.unit (s := S8192x256) (offA jo t) S512x256.size (offA_inb h t)).toLoadRect (View.loadsAt_vmem h_S512x256))
  Prog.lift (.store workM (Rect.unit (s := S8192x256) (offA jo t) S512x256.size (offA_inb h t))
    (shapeCast S512x256 (Scalar.select up lo hi) shapeCasts_S512x256_S512x256) Finset.univ (View.stores_vmem_bits_univ h_S512x256 rfl) (.inl rfl))
  let _ : Vec F S512x256 .f32 ← Prog.lift (.load workM (Rect.unit (s := S8192x256) (offB jo t) S512x256.size (offB_inb h t)).toLoadRect (View.loadsAt_vmem h_S512x256))
  Prog.lift (.store workM (Rect.unit (s := S8192x256) (offB jo t) S512x256.size (offB_inb h t))
    (shapeCast S512x256 (Scalar.select up hi lo) shapeCasts_S512x256_S512x256) Finset.univ (View.stores_vmem_bits_univ h_S512x256 rfl) (.inl rfl))
  pure ⟨⟩

/-- A pass over pairs of chunks, the direction of a trip `up t`. -/
def bigLoop {jo : ℕ} (h : BigJ jo) (up : Fin loop8.trips → BitVec 1) : P (F := F) PUnit :=
  Scf.Loop.for loop8 ok8 ⟨⟩ fun t _ => bigTrip h (up t) t

abbrev bigL {jo : ℕ} (h : BigJ jo) (k : ℕ) : P (F := F) PUnit :=
  bigLoop h fun t => Scalar.cmpi .eq (Scalar.andi (rowA jo t) (BitVec.ofNat 32 k)) 0#32
abbrev bigD {jo : ℕ} (h : BigJ jo) (v2 : BitVec 32) (k : ℕ) : P (F := F) PUnit := bigLoop h fun _ => dirWord v2 k

/-- One trip of an exchange: the chunk against the received one, the smaller or the larger values kept. -/
def xchgTrip (keep : BitVec 1) (s : ℕ) (hs : ∀ t a, offC s t a + S1x512x256.size a ≤ S2x8192x256.size a) (t : Fin loop16.trips) : P (F := F) PUnit := do
  let x : Vec F S512x256 .f32 ← Prog.lift (.load workM (Rect.unit (s := S8192x256) (offS t) S512x256.size (offS_inb t)).toLoadRect (View.loadsAt_vmem h_S512x256))
  let y : Vec F S1x512x256 .f32 ← Prog.lift (.load commM (Rect.unit (s := S2x8192x256) (offC s t) S1x512x256.size (hs t)).toLoadRect (View.loadsAt_vmem h_S1x512x256))
  have z : FVec F S512x256 .f32 := shapeCast S512x256 y shapeCasts_S1x512x256_S512x256
  have lo : FVec F S512x256 .f32 := minimumf x z
  have hi : FVec F S512x256 .f32 := maximumf x z
  let _ : Vec F S512x256 .f32 ← Prog.lift (.load workM (Rect.unit (s := S8192x256) (offS t) S512x256.size (offS_inb t)).toLoadRect (View.loadsAt_vmem h_S512x256))
  Prog.lift (.store workM (Rect.unit (s := S8192x256) (offS t) S512x256.size (offS_inb t))
    (shapeCast S512x256 (Scalar.select keep lo hi) shapeCasts_S512x256_S512x256) Finset.univ (View.stores_vmem_bits_univ h_S512x256 rfl) (.inl rfl))
  pure ⟨⟩

/-- The sixteen trips of an exchange from landing slot `s`. -/
def xchgLoop (keep : BitVec 1) (s : ℕ) (hs : ∀ t a, offC s t a + S1x512x256.size a ≤ S2x8192x256.size a) : P (F := F) PUnit :=
  Scf.Loop.for loop16 ok16 ⟨⟩ fun t _ => xchgTrip keep s hs t

theorem geo256 : Geo 256 1 := by constructor <;> decide
theorem geo128 : Geo 128 2 := by constructor <;> decide
theorem geo64 : Geo 64 4 := by constructor <;> decide
theorem geo32 : Geo 32 8 := by constructor <;> decide
theorem geo16 : Geo 16 16 := by constructor <;> decide
theorem geo8 : Geo 8 32 := by constructor <;> decide
theorem geo4 : Geo 4 64 := by constructor <;> decide
theorem geo2 : Geo 2 128 := by constructor <;> decide
theorem geo1 : Geo 1 256 := by constructor <;> decide

end Cert.Bitonic

end
-- ==== Proof.PayVal.lean ====
/-
The values of one chunk pass, position by position.
-/
module

public import proofs.«01_k».proof.Proof.Pass
public import Idealize.ShloMosaic.Lib.Pipeline.Value
public import Idealize.ShloMosaic.Lib.ValueIdxCore
public import Idealize.ShloMosaic.Lib.SortNet.Bitonic
public import Mathlib.Tactic.Ring
public import Mathlib.Tactic.Linarith

@[expose] public section

noncomputable section

namespace Cert.Bitonic

open Cert.KernelIdeal Cert.KernelIdeal.Gen

open Idealize.ShloMosaic
open Idealize.ShloMosaic.ValueIdx

variable {F : FTy → Type} [FloatOps F]

/-- The contents of the work block. -/
abbrev Blk (F : FTy → Type) : Type := S8192x256.Idx → F .f32

abbrev mn (a b : F .f32) : F .f32 := FloatOps.minimumf a b
abbrev mx (a b : F .f32) : F .f32 := FloatOps.maximumf a b

/-- Row `r` of column `l` of the work block. -/
def row (r : ℕ) (l : Fin 256) : S8192x256.Idx := ix2 ⟨r % 8192, Nat.mod_lt _ (by norm_num)⟩ l

theorem row_eq (i : S8192x256.Idx) : row (i 0).val (i 1) = i := by
  refine (congrArg₂ ix2 (Fin.ext ?_) rfl).trans (eq_ix2 i).symm
  exact Nat.mod_eq_of_lt (i 0).isLt

/-- One pass of compare-exchanges between rows `j` apart: where `up` says so the smaller value goes to the earlier row,
    elsewhere the larger. -/
def cx (j : ℕ) (up : ℕ → Bool) (f : Blk F) : Blk F := fun i =>
  if (i 0).val / j % 2 = 0 then
    if up (i 0).val then mn (f i) (f (row ((i 0).val + j) (i 1))) else mx (f i) (f (row ((i 0).val + j) (i 1)))
  else
    if up (i 0).val then mx (f (row ((i 0).val - j) (i 1))) (f i) else mn (f (row ((i 0).val - j) (i 1))) (f i)

/-- Rows `o, …, o + 511` of the block. -/
def chunk (f : Blk F) (o : ℕ) : FVec F S512x256 .f32 := fun y => f (row (o + (y 0).val) (y 1))

/-- Position `(q, p, s)` of a chunk seen as `g` groups of two runs of `j` rows. -/
theorem grp_lt {g j q p s : ℕ} (h : g * (2 * j) = 512) (hq : q < g) (hp : p < 2) (hs : s < j) : q * (2 * j) + p * j + s < 512 := by
  have : (q + 1) * (2 * j) ≤ g * (2 * j) := Nat.mul_le_mul_right _ hq
  have : p * j ≤ 1 * j := Nat.mul_le_mul_right _ (by omega)
  nlinarith

/-- A chunk's half `p`, as `g` runs of `j` rows. -/
theorem half_apply {g j : ℕ} (G : Geo g j) (v : FVec F S512x256 .f32) (p : Fin 2) (h : (Sh4 g 2 j).Slices (![0, p.val, 0, 0] : Fin 4 → ℕ) (Sh4 g 1 j))
    (q : Fin g) (s : Fin j) (l : Fin 256) :
    shapeCast (Sh3 g j) (extractStridedSlice (Sh4 g 1 j) ![0, p.val, 0, 0] (shapeCast (Sh4 g 2 j) v G.cast4) h) G.to3 (ix3 q s l)
      = v (ix2 ⟨q.val * (2 * j) + p.val * j + s.val, grp_lt G.num q.isLt p.isLt s.isLt⟩ l) := by
  rw [shapeCast_apply _ G.to3 (ix3 q s l) (ix4 q 0 s l), extractStridedSlice_apply _ _ h (ix4 q 0 s l) (ix4 q p s l),
    shapeCast_apply _ G.cast4 (ix4 q p s l) (ix2 ⟨q.val * (2 * j) + p.val * j + s.val, grp_lt G.num q.isLt p.isLt s.isLt⟩ l)]
  · rw [Shape.rowMajor_val_two, Shape.rowMajor_val_four]
    show (q.val * (2 * j) + p.val * j + s.val) * 256 + l.val = ((q.val * 2 + p.val) * j + s.val) * 256 + l.val
    ring
  · intro a; fin_cases a <;> simp
  · rw [Shape.rowMajor_val_three, Shape.rowMajor_val_four]
    show ((q.val * 1 + 0) * j + s.val) * 256 + l.val = (q.val * j + s.val) * 256 + l.val
    ring

/-- A chunk put together from its two halves. -/
theorem join_apply {g j : ℕ} (G : Geo g j) (x y : FVec F (Sh3 g j) .f32) (q : Fin g) (p : Fin 2) (s : Fin j) (l : Fin 256) :
    shapeCast S512x256 (concatenate (Sh4 g 2 j) 1
        [⟨Sh4 g 1 j, shapeCast (Sh4 g 1 j) x G.to4⟩, ⟨Sh4 g 1 j, shapeCast (Sh4 g 1 j) y G.to4⟩] G.cat) G.back
        (ix2 ⟨q.val * (2 * j) + p.val * j + s.val, grp_lt G.num q.isLt p.isLt s.isLt⟩ l)
      = if p = 0 then x (ix3 q s l) else y (ix3 q s l) := by
  have e3 : ∀ z : FVec F (Sh3 g j) .f32, shapeCast (Sh4 g 1 j) z G.to4 (ix4 q 0 s l) = z (ix3 q s l) := fun z => by
    refine shapeCast_apply _ G.to4 _ _ ?_
    rw [Shape.rowMajor_val_three, Shape.rowMajor_val_four]
    show (q.val * j + s.val) * 256 + l.val = ((q.val * 1 + 0) * j + s.val) * 256 + l.val
    ring
  rw [shapeCast_apply _ G.back _ (ix4 q p s l)]
  · by_cases hp : p = 0
    · subst hp
      rw [if_pos rfl, ← e3 x]
      refine concatenate_apply_piece (t := Sh4 g 2 j) 1 [⟨Sh4 g 1 j, shapeCast (Sh4 g 1 j) x G.to4⟩, ⟨Sh4 g 1 j, shapeCast (Sh4 g 1 j) y G.to4⟩] G.cat (ix4 q 0 s l) 0 (by simp) (Sh4 g 1 j) _ rfl rfl 0 rfl (ix4 q 0 s l) ?_ ?_
      · intro b hb; fin_cases b <;> first | rfl | exact absurd rfl hb
      · rfl
    · obtain rfl : p = 1 := by omega
      rw [if_neg (by decide), ← e3 y]
      refine concatenate_apply_piece (t := Sh4 g 2 j) 1 [⟨Sh4 g 1 j, shapeCast (Sh4 g 1 j) x G.to4⟩, ⟨Sh4 g 1 j, shapeCast (Sh4 g 1 j) y G.to4⟩] G.cat (ix4 q 1 s l) 1 (by simp) (Sh4 g 1 j) _ rfl rfl 1 rfl (ix4 q 0 s l) ?_ ?_
      · intro b hb; fin_cases b <;> first | rfl | exact absurd rfl hb
      · rfl
  · rw [Shape.rowMajor_val_two, Shape.rowMajor_val_four]
    show ((q.val * 2 + p.val) * j + s.val) * 256 + l.val = (q.val * (2 * j) + p.val * j + s.val) * 256 + l.val
    ring

/-- Whether a block row's bit of weight `k` is clear. -/
def upL (k : ℕ) (r : ℕ) : Bool := decide (r / k % 2 = 0)

/-- A word's bit of weight `2 ^ n`, tested as the kernel does. -/
theorem and_word (x n : ℕ) (hx : x < 2 ^ 32) (hn : n < 32) :
    IntOp.cmpi .eq (IntOp.andi (BitVec.ofNat 32 x) (BitVec.ofNat 32 (2 ^ n))) 0#32 = if x / 2 ^ n % 2 = 0 then 1 else 0 := by
  have h2 : 2 ^ n < 2 ^ 32 := Nat.pow_lt_pow_right (by norm_num) hn
  have key : (BitVec.ofNat 32 x &&& BitVec.ofNat 32 (2 ^ n) = 0#32) ↔ x / 2 ^ n % 2 = 0 := by
    rw [← BitVec.toNat_inj, BitVec.toNat_and, BitVec.toNat_ofNat, BitVec.toNat_ofNat, Nat.mod_eq_of_lt hx, Nat.mod_eq_of_lt h2,
      BitVec.toNat_ofNat, Nat.zero_mod, SortNet.and_two_pow_eq_zero_iff_testBit, Nat.testBit_eq_decide_div_mod_eq, decide_eq_false_iff_not]
    omega
  show BitVec.ofBool (BitVec.ofNat 32 x &&& BitVec.ofNat 32 (2 ^ n) == 0#32) = _
  by_cases h : x / 2 ^ n % 2 = 0
  · rw [if_pos h, key.mpr h]; rfl
  · rw [if_neg h, beq_eq_false_iff_ne.mpr (fun e => h (key.mp e))]; rfl

/-- A select on a word that is one or zero. -/
theorem select_ite {α : Type} (p : Prop) [Decidable p] (a b : α) :
    Scalar.select (if p then (1 : BitVec 1) else 0) a b = if p then a else b := by
  unfold Scalar.select; by_cases h : p <;> simp [h]

/-- The compare-exchange of a row of the first half. -/
theorem cx_lo (j : ℕ) (up : ℕ → Bool) (f : Blk F) (r : ℕ) (hr : r < 8192) (l : Fin 256) (h : r / j % 2 = 0) :
    cx j up f (row r l) = if up r then mn (f (row r l)) (f (row (r + j) l)) else mx (f (row r l)) (f (row (r + j) l)) := by
  have e : ((row r l) 0).val = r := by show r % 8192 = r; exact Nat.mod_eq_of_lt hr
  unfold cx; rw [e, if_pos h]; rfl

/-- The compare-exchange of a row of the second half. -/
theorem cx_hi (j : ℕ) (up : ℕ → Bool) (f : Blk F) (r : ℕ) (hr : r < 8192) (l : Fin 256) (h : r / j % 2 = 1) :
    cx j up f (row r l) = if up r then mx (f (row (r - j) l)) (f (row r l)) else mn (f (row (r - j) l)) (f (row r l)) := by
  have e : ((row r l) 0).val = r := by show r % 8192 = r; exact Nat.mod_eq_of_lt hr
  unfold cx; rw [e, if_neg (by omega)]; rfl

/-- Position `(q, p, s)` of chunk `t`, counted in runs of `j` rows. -/
theorem run_div {g j q p s t : ℕ} (hg : g * (2 * j) = 512) (hp : p < 2) (hs : s < j) :
    (512 * t + (q * (2 * j) + p * j + s)) / j % 2 = p := by
  have e : 512 * t + (q * (2 * j) + p * j + s) = s + j * (2 * (g * t + q) + p) := by rw [← hg]; ring
  rw [e, Nat.add_mul_div_left _ _ (by omega), Nat.div_eq_of_lt hs]; omega

/-- All of a group of `2 j` rows lies on one side of a multiple of `2 ^ n`. -/
theorem grp_div {g j q p s t n : ℕ} (hg : g * (2 * j) = 512) (hj : 2 * j ∣ 2 ^ n) (hp : p < 2) (hs : s < j) :
    (512 * t + (q * (2 * j) + p * j + s)) / 2 ^ n = (512 * t + q * (2 * j)) / 2 ^ n := by
  obtain ⟨m, hm⟩ := hj
  have hx : p * j + s < 2 * j := by have : p * j ≤ 1 * j := Nat.mul_le_mul_right _ (by omega); omega
  have e : 512 * t + (q * (2 * j) + p * j + s) = (p * j + s) + 2 * j * (g * t + q) := by rw [← hg]; ring
  have e' : 512 * t + q * (2 * j) = 0 + 2 * j * (g * t + q) := by rw [← hg]; ring
  rw [hm, ← Nat.div_div_eq_div_mul _ (2 * j) m, ← Nat.div_div_eq_div_mul _ (2 * j) m, e, e', Nat.add_mul_div_left _ _ (by omega),
    Nat.add_mul_div_left _ _ (by omega), Nat.div_eq_of_lt hx, Nat.zero_div]

/-- The kernel's direction vector at group `q` of chunk `t`. -/
theorem dir_apply {g j : ℕ} (G : Geo g j) (n : ℕ) (hn : n ≤ 13) (t : Fin loop16.trips) (q : Fin g) (s : Fin j) (l : Fin 256) :
    broadcastTo (Sh3 g j) (shapeCast (ShI g) (cmpi .eq (andi (addi (muli (iota .tc (ShI g) 32 [0] G.io) (broadcast (ShI g) (BitVec.ofNat 32 (2 * j))))
        (broadcast (ShI g) (Scalar.muli (Scf.iv 0#32 1#32 t) 512#32))) (broadcast (ShI g) (BitVec.ofNat 32 (2 ^ n)))) (broadcast (ShI g) 0#32)) G.castI) G.bcI (ix3 q s l)
      = if (512 * t.val + q.val * (2 * j)) / 2 ^ n % 2 = 0 then 1 else 0 := by
  have ht : t.val < 16 := t.isLt
  have hq : q.val * (2 * j) < 512 := by
    have := grp_lt G.num q.isLt (p := 0) (s := s.val) (by omega) s.isLt; omega
  rw [broadcastTo_apply _ G.bcI (ix3 q s l) (ix3 q 0 0), shapeCast_self, ← and_word _ n (by omega) (by omega)]
  · show IntOp.cmpi .eq (IntOp.andi (BitVec.ofNat 32 (0 * g + q.val) * BitVec.ofNat 32 (2 * j) + (0#32 + BitVec.ofNat 32 t.val * 1#32) * 512#32) _) 0#32 = _
    refine congrArg (fun x => IntOp.cmpi .eq (IntOp.andi x _) _) ?_
    rw [BitVec.zero_add, BitVec.mul_one, Nat.zero_mul, Nat.zero_add, ← BitVec.ofNat_mul, ← BitVec.ofNat_mul, ← BitVec.ofNat_add,
      Nat.add_comm, Nat.mul_comm t.val]
  · intro a; fin_cases a
    · show q.val = if g = 1 then 0 else q.val
      split
      · have := q.isLt; omega
      · rfl
    · rfl
    · rfl

/-- A chunk pass inside a block is the pass of compare-exchanges on the chunk's rows. -/
theorem payL_apply {g j : ℕ} (G : Geo g j) (n : ℕ) (hn : n ≤ 13) (hj : 2 * j ∣ 2 ^ n) (t : Fin loop16.trips) (f : Blk F)
    (q : Fin g) (p : Fin 2) (s : Fin j) (l : Fin 256) :
    payL G (2 ^ n) (Scf.iv 0#32 1#32 t) (chunk f (512 * t.val)) (ix2 ⟨q.val * (2 * j) + p.val * j + s.val, grp_lt G.num q.isLt p.isLt s.isLt⟩ l)
      = cx j (upL (2 ^ n)) f (row (512 * t.val + (q.val * (2 * j) + p.val * j + s.val)) l) := by
  have ht : t.val < 16 := t.isLt
  have hlt := grp_lt G.num q.isLt p.isLt s.isLt
  have hlt0 := grp_lt G.num q.isLt (p := 0) (by omega) s.isLt
  have hlt1 := grp_lt G.num q.isLt (p := 1) (by omega) s.isLt
  have hA := half_apply G (chunk f (512 * t.val)) 0 G.sl0 q s l
  have hB := half_apply G (chunk f (512 * t.val)) 1 G.sl1 q s l
  have hD := dir_apply G n hn t q s l
  have hr := run_div (t := t.val) (q := q.val) G.num p.isLt s.isLt
  have hu : upL (2 ^ n) (512 * t.val + (q.val * (2 * j) + p.val * j + s.val)) = decide ((512 * t.val + q.val * (2 * j)) / 2 ^ n % 2 = 0) := by
    unfold upL; rw [grp_div G.num hj p.isLt s.isLt]
  unfold payL
  refine (join_apply G _ _ q p s l).trans ?_
  show (if p = 0 then Scalar.select _ (FloatOps.minimumf _ _) (FloatOps.maximumf _ _) else Scalar.select _ (FloatOps.maximumf _ _) (FloatOps.minimumf _ _)) = _
  dsimp only [Fin.val_zero, Fin.val_one] at hA hB
  rw [hA, hB, hD, select_ite, select_ite]
  by_cases hp : p = 0
  · subst hp
    rw [if_pos rfl, cx_lo _ _ _ _ (by omega) _ hr, hu]
    simp only [decide_eq_true_eq]
    have e1 : 512 * t.val + (q.val * (2 * j) + (0 : Fin 2).val * j + s.val) + j = 512 * t.val + (q.val * (2 * j) + 1 * j + s.val) := by simp; ring
    rw [e1]; rfl
  · obtain rfl : p = 1 := by omega
    rw [if_neg hp, cx_hi _ _ _ _ (by omega) _ hr, hu]
    simp only [decide_eq_true_eq]
    have e1 : 512 * t.val + (q.val * (2 * j) + (1 : Fin 2).val * j + s.val) - j = 512 * t.val + (q.val * (2 * j) + 0 * j + s.val) := by
      simp; omega
    rw [e1]; rfl

/-- A chunk pass of a merge is the pass of compare-exchanges, one way throughout, on the chunk's rows. -/
theorem payD_apply {g j : ℕ} (G : Geo g j) (b : Bool) (t : Fin loop16.trips) (f : Blk F)
    (q : Fin g) (p : Fin 2) (s : Fin j) (l : Fin 256) :
    payD G (if b then 1 else 0) (chunk f (512 * t.val)) (ix2 ⟨q.val * (2 * j) + p.val * j + s.val, grp_lt G.num q.isLt p.isLt s.isLt⟩ l)
      = cx j (fun _ => b) f (row (512 * t.val + (q.val * (2 * j) + p.val * j + s.val)) l) := by
  have ht : t.val < 16 := t.isLt
  have hlt := grp_lt G.num q.isLt p.isLt s.isLt
  have hA := half_apply G (chunk f (512 * t.val)) 0 G.sl0 q s l
  have hB := half_apply G (chunk f (512 * t.val)) 1 G.sl1 q s l
  have hr := run_div (t := t.val) (q := q.val) G.num p.isLt s.isLt
  unfold payD
  refine (join_apply G _ _ q p s l).trans ?_
  rw [select_ite, select_ite]
  dsimp only [Fin.val_zero, Fin.val_one] at hA hB
  have hmin : (minimumf (shapeCast (Sh3 g j) (extractStridedSlice (Sh4 g 1 j) ![0, 0, 0, 0] (shapeCast (Sh4 g 2 j) (chunk f (512 * t.val)) G.cast4) G.sl0) G.to3)
      (shapeCast (Sh3 g j) (extractStridedSlice (Sh4 g 1 j) ![0, 1, 0, 0] (shapeCast (Sh4 g 2 j) (chunk f (512 * t.val)) G.cast4) G.sl1) G.to3)) (ix3 q s l) = mn _ _ := congrArg₂ mn hA hB
  have hmax : (maximumf (shapeCast (Sh3 g j) (extractStridedSlice (Sh4 g 1 j) ![0, 0, 0, 0] (shapeCast (Sh4 g 2 j) (chunk f (512 * t.val)) G.cast4) G.sl0) G.to3)
      (shapeCast (Sh3 g j) (extractStridedSlice (Sh4 g 1 j) ![0, 1, 0, 0] (shapeCast (Sh4 g 2 j) (chunk f (512 * t.val)) G.cast4) G.sl1) G.to3)) (ix3 q s l) = mx _ _ := congrArg₂ mx hA hB
  by_cases hp : p = 0
  · subst hp
    rw [if_pos rfl, cx_lo _ _ _ _ (by omega) _ hr]
    have e1 : 512 * t.val + (q.val * (2 * j) + (0 : Fin 2).val * j + s.val) + j = 512 * t.val + (q.val * (2 * j) + 1 * j + s.val) := by simp; ring
    rw [e1]
    cases b
    · simp only [Bool.false_eq_true, if_false]; exact hmax
    · simp only [if_true]; exact hmin
  · obtain rfl : p = 1 := by omega
    rw [if_neg hp, cx_hi _ _ _ _ (by omega) _ hr]
    have e1 : 512 * t.val + (q.val * (2 * j) + (1 : Fin 2).val * j + s.val) - j = 512 * t.val + (q.val * (2 * j) + 0 * j + s.val) := by
      simp; omega
    rw [e1]
    cases b
    · simp only [Bool.false_eq_true, if_false]; exact hmin
    · simp only [if_true]; exact hmax

/-- Every position of a chunk is a position `(q, p, s)`. -/
theorem exists_grp {g j : ℕ} (hg : g * (2 * j) = 512) (r : Fin 512) :
    ∃ (q : Fin g) (p : Fin 2) (s : Fin j), r.val = q.val * (2 * j) + p.val * j + s.val := by
  have hj : 0 < j := by rcases Nat.eq_zero_or_pos j with h | h; · subst h; simp at hg
                        · exact h
  refine ⟨⟨r.val / (2 * j), ?_⟩, ⟨r.val / j % 2, Nat.mod_lt _ (by norm_num)⟩, ⟨r.val % j, Nat.mod_lt _ hj⟩, ?_⟩
  · rw [Nat.div_lt_iff_lt_mul (by omega), hg]; exact r.isLt
  · show r.val = r.val / (2 * j) * (2 * j) + r.val / j % 2 * j + r.val % j
    have h1 := Nat.div_add_mod r.val j
    have h2 := Nat.div_add_mod (r.val / j) 2
    rw [Nat.div_div_eq_div_mul, Nat.mul_comm j 2] at h2
    calc r.val = j * (r.val / j) + r.val % j := h1.symm
      _ = j * (2 * (r.val / (2 * j)) + r.val / j % 2) + r.val % j := by rw [h2]
      _ = _ := by ring

end Cert.Bitonic

end
-- ==== Proof.Run.lean ====
/-
What each pass of the sorter does to the work block.
-/
module

public import proofs.«01_k».proof.Proof.PayVal

@[expose] public section

noncomputable section

namespace Cert.Bitonic

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The rounds library's records over the machine's cells. -/
abbrev UR : Type := URounds (GSem nD τ sig) Unit
/-- The records of the region's own copies and of the exchanges' cells. -/
abbrev UU : Type := UR × UR

local notation "𝕄" => MT nD τ sig ℕ (Elt F) ℕ UU ℕ

abbrev EP : Emb UR (MT nD τ sig ℕ (Elt F) ℕ UU ℕ) := embL
abbrev ER : Emb UR (MT nD τ sig ℕ (Elt F) ℕ UU ℕ) := embR

abbrev 𝒱₀ : Variants := Variants.none

/-- The weakest precondition of a program of the region on device `c`. -/
abbrev Wp (c : Dev nD) {α : Type} (p : P (F := F) α) (Q : α → sProp 𝕄) : sProp 𝕄 :=
  wp frame (wpE (defs₀ (F := F)) 𝒱₀ (c : Thread nD τ) none) Set.univ p Q

/-- A program followed by another. -/
theorem Wp_seq {c : Dev nD} {α β : Type} {p : P (F := F) α} {k : α → P (F := F) β} {A : sProp 𝕄} {B : α → sProp 𝕄} {Q : β → sProp 𝕄}
    (h : A ⊢ Wp c p B) (h' : ∀ a, B a ⊢ Wp c (k a) Q) : A ⊢ Wp c (p >>= k) Q := by
  unfold Wp; rw [wp_bind]; exact h.trans (wp_mono _ _ _ h')

/-! ## The work block -/

/-- Device `c`'s work block holding `f`. -/
def workPts (c : Dev nD) (f : Blk F) : sProp 𝕄 := ((c : Thread nD τ).loc cc0_scratch0) ↦{fullShare} (f : Buf (Elt F) ((c : Thread nD τ).loc cc0_scratch0))

/-- Rows `o, …, o + 511` of the block replaced. -/
def putC (f : Blk F) (o : ℕ) (w : FVec F S512x256 .f32) : Blk F := fun i =>
  if o ≤ (i 0).val ∧ (i 0).val < o + 512 then w (ix2 ⟨((i 0).val - o) % 512, Nat.mod_lt _ (by norm_num)⟩ (i 1)) else f i

/-- A load of 512 rows reads the chunk. -/
theorem read_chunk (o : ℕ) (off : Fin 2 → ℕ) (inb : ∀ a, off a + S512x256.size a ≤ S8192x256.size a) (h : off = ![o, 0]) (f : Blk F) :
    (workM.view.readAt (Elt F) (Rect.unit (s := S8192x256) off S512x256.size inb).toLoadRect f : FVec F S512x256 .f32) = chunk f o := by
  subst h
  funext y
  have h0 : o + 512 ≤ 8192 := inb 0
  have hy : (y 0).val < 512 := (y 0).isLt
  show f _ = f _
  refine congrArg f (funext fun a => Fin.ext ?_)
  fin_cases a
  · show o + 1 * (y 0).val = (o + (y 0).val) % 8192
    rw [Nat.mod_eq_of_lt (by omega)]; omega
  · show 0 + 1 * (y 1).val = (y 1).val
    omega

omit [FloatOps F] in
/-- A store through a rectangle leaves the rest of the block. -/
theorem write_off (R : Rect S8192x256) (f : Blk F) (w : R.shape.Idx → Elt F .f32) (i : S8192x256.Idx) (h : i ∉ R.set) :
    ((View.whole cc0_scratch0).slice R).write (Elt F) f w Finset.univ i = f i := by
  refine View.write_of_not_mem (v := (View.whole cc0_scratch0).slice R) (Val := Elt F) f w Finset.univ fun hm => h ?_
  rw [View.setOn_univ, View.set_slice_whole] at hm
  exact hm

/-- A store of 512 rows replaces the chunk. -/
theorem write_chunk (o : ℕ) (off : Fin 2 → ℕ) (inb : ∀ a, off a + S512x256.size a ≤ S8192x256.size a) (h : off = ![o, 0]) (f : Blk F)
    (w : FVec F S512x256 .f32) :
    ((workM.access (Rect.unit (s := S8192x256) off S512x256.size inb) : View sig .tc _ _ _).write (Elt F) f w Finset.univ : Blk F) = putC f o w := by
  subst h
  have h0 : o + 512 ≤ 8192 := inb 0
  funext i
  unfold putC
  by_cases hi : o ≤ (i 0).val ∧ (i 0).val < o + 512
  · rw [if_pos hi]
    have e : (workM.access (Rect.unit (s := S8192x256) ![o, 0] S512x256.size inb) : View sig .tc _ _ _).emb
        (ix2 ⟨((i 0).val - o) % 512, Nat.mod_lt _ (by norm_num)⟩ (i 1)) = i := by
      refine funext fun a => Fin.ext ?_
      fin_cases a
      · show o + 1 * (((i 0).val - o) % 512) = (i 0).val
        rw [Nat.mod_eq_of_lt (by omega)]; omega
      · show 0 + 1 * (i 1).val = (i 1).val
        omega
    have := View.write_emb_of_mem (v := (workM.access (Rect.unit (s := S8192x256) ![o, 0] S512x256.size inb) : View sig .tc _ _ _)) (Val := Elt F) f w
      (M := Finset.univ) (x := ix2 ⟨((i 0).val - o) % 512, Nat.mod_lt _ (by norm_num)⟩ (i 1)) (Finset.mem_univ _)
    rw [e] at this
    exact this
  · rw [if_neg hi]
    exact write_off (Rect.unit (s := S8192x256) ![o, 0] S512x256.size inb) f w i fun hm => hi (Rect.mem_set_unit.mp hm 0)

/-- The block whose rows below `b` are `G`'s and whose others are `f`'s. -/
def mix (b : ℕ) (G f : Blk F) : Blk F := fun i => if (i 0).val < b then G i else f i

theorem mix_zero (G f : Blk F) : mix 0 G f = f := by funext i; unfold mix; rw [if_neg (by omega)]
theorem mix_all (G f : Blk F) : mix 8192 G f = G := by funext i; exact if_pos (i 0).isLt

/-- The chunk after the replaced rows is untouched. -/
theorem chunk_mix (t : ℕ) (ht : t < 16) (G f : Blk F) : chunk (mix (512 * t) G f) (512 * t) = chunk f (512 * t) := by
  funext y
  have hy : (y 0).val < 512 := (y 0).isLt
  unfold chunk mix
  refine if_neg ?_
  show ¬ (512 * t + (y 0).val) % 8192 < _
  rw [Nat.mod_eq_of_lt (by omega)]; omega

/-- The replaced rows grow by a chunk. -/
theorem putC_mix (t : ℕ) (ht : t < 16) (G f : Blk F) (w : FVec F S512x256 .f32) (hw : ∀ (r : Fin 512) (l : Fin 256), w (ix2 r l) = G (row (512 * t + r.val) l)) :
    putC (mix (512 * t) G f) (512 * t) w = mix (512 * (t + 1)) G f := by
  funext i
  unfold putC
  by_cases hi : 512 * t ≤ (i 0).val ∧ (i 0).val < 512 * t + 512
  · rw [if_pos hi]
    refine (hw _ _).trans ?_
    unfold mix
    rw [if_pos (by omega)]
    show G (row (512 * t + ((i 0).val - 512 * t) % 512) (i 1)) = G i
    rw [Nat.mod_eq_of_lt (by omega), Nat.add_sub_cancel' hi.1, row_eq]
  · rw [if_neg hi]
    unfold mix
    by_cases h : (i 0).val < 512 * t
    · rw [if_pos h, if_pos (by omega)]
    · rw [if_neg h, if_neg (by omega)]

/-! ## Chunk passes -/

/-- One trip of a chunk pass. -/
theorem smallTrip_run (c : Dev nD) (pay : BitVec 32 → FVec F S512x256 .f32 → FVec F S512x256 .f32) (t : Fin loop16.trips) (f : Blk F) :
    workPts c f ⊢ Wp c (smallTrip pay t) (fun _ => workPts c (putC f (512 * t.val) (pay (Scf.iv 0#32 1#32 t) (chunk f (512 * t.val))))) := by
  unfold smallTrip workPts
  simp only [Prog.lift, Prog.bind_op, Prog.bind_ret, Prog.pure_eq_ret]
  iintro Hw
  iapply (wp_load 𝒱₀ (c : Thread nD τ) none Set.univ (m := workM) (Finset.subset_univ _)) $$ Hw; iintro Hw
  iapply (wp_load 𝒱₀ (c : Thread nD τ) none Set.univ (m := workM) (Finset.subset_univ _)) $$ Hw; iintro Hw
  iapply (wp_store 𝒱₀ (c : Thread nD τ) none Set.univ (m := workM)
    (r := Rect.unit (s := S8192x256) (offS t) S512x256.size (offS_inb t)) (Mk := Finset.univ) (Finset.subset_univ _)) $$ Hw; iintro Hw
  rw [read_chunk (512 * t.val) _ _ (offS_eq t), write_chunk (512 * t.val) _ _ (offS_eq t), shapeCast_self, wp_ret]; imodintro
  iexact Hw

/-- A chunk pass whose payload computes `G`'s rows makes the block `G`. -/
theorem smallLoop_run (c : Dev nD) (pay : BitVec 32 → FVec F S512x256 .f32 → FVec F S512x256 .f32) (f G : Blk F)
    (h : ∀ (t : Fin loop16.trips) (r : Fin 512) (l : Fin 256), pay (Scf.iv 0#32 1#32 t) (chunk f (512 * t.val)) (ix2 r l) = G (row (512 * t.val + r.val) l)) :
    workPts c f ⊢ Wp c (smallLoop pay) (fun _ => workPts c G) := by
  unfold smallLoop
  have hI := Scf.wp_for Idealize.ShloMosaic.frame (wpE (defs₀ (F := F)) 𝒱₀ (c : Thread nD τ) none) Set.univ loop16.lb loop16.ub loop16.st ok16 (⟨⟩ : PUnit)
    (fun t _ => smallTrip pay t) (fun k _ => workPts c (mix (512 * k) G f)) (fun k _ => by
      have hk : k.val < 16 := k.isLt
      refine (smallTrip_run c pay k _).trans (wp_mono _ _ _ fun _ => ?_)
      rw [chunk_mix k.val hk, putC_mix k.val hk G f _ (h k)]) (Q := fun _ => workPts c G)
  refine BIBase.Entails.trans ?_ hI
  rw [Nat.mul_zero, mix_zero]
  iintro Hw
  isplitl [Hw]; · iexact Hw
  iintro %_ Hw
  rw [show 512 * Scf.trips loop16.lb loop16.ub loop16.st = 8192 from rfl, mix_all]
  iexact Hw

/-! ## Passes over pairs of chunks -/

/-- The pair a row belongs to, for chunks `jo` chunks apart. -/
def pairOf (jo r : ℕ) : ℕ := r / 512 / (2 * jo) * jo + r / 512 % jo

/-- The first rows of the two chunks of pair `t`. -/
def firstA (jo t : ℕ) : ℕ := t / jo * (2 * (512 * jo)) + t % jo * 512

theorem offA_eq {jo : ℕ} (h : BigJ jo) (t : Fin loop8.trips) : offA jo t = ![firstA jo t.val, 0] := by
  unfold offA firstA; rw [← rowA_toNat jo h t]; rfl
theorem offB_eq {jo : ℕ} (h : BigJ jo) (t : Fin loop8.trips) : offB jo t = ![firstA jo t.val + 512 * jo, 0] := by
  unfold offB firstA; rw [← rowB_toNat jo h t]; rfl

/-- Where the rows of pair `t` are. -/
theorem pairOf_iff {jo : ℕ} (h : BigJ jo) (t r : ℕ) (ht : t < 8) (hr : r < 8192) :
    pairOf jo r = t ↔ (firstA jo t ≤ r ∧ r < firstA jo t + 512) ∨ (firstA jo t + 512 * jo ≤ r ∧ r < firstA jo t + 512 * jo + 512) := by
  unfold pairOf firstA
  rcases h with rfl | rfl | rfl | rfl <;> omega

/-- The two chunks of pair `t` lie apart inside the block, on the two sides of a group. -/
theorem firstA_facts {jo : ℕ} (h : BigJ jo) (t : ℕ) (ht : t < 8) :
    firstA jo t + 512 * jo + 512 ≤ 8192 ∧ 512 ≤ 512 * jo
      ∧ (∀ s < 512, (firstA jo t + s) / (512 * jo) % 2 = 0) ∧ (∀ s < 512, (firstA jo t + 512 * jo + s) / (512 * jo) % 2 = 1) := by
  unfold firstA
  rcases h with rfl | rfl | rfl | rfl <;> exact ⟨by omega, by omega, fun s hs => by omega, fun s hs => by omega⟩

/-- The block whose rows of the first `t` pairs are `G`'s and whose others are `f`'s. -/
def mixP (jo t : ℕ) (G f : Blk F) : Blk F := fun i => if pairOf jo (i 0).val < t then G i else f i

omit [FloatOps F] in
theorem mixP_zero (jo : ℕ) (G f : Blk F) : mixP jo 0 G f = f := by funext i; unfold mixP; rw [if_neg (by omega)]
omit [FloatOps F] in
theorem mixP_all {jo : ℕ} (h : BigJ jo) (G f : Blk F) : mixP jo 8 G f = G := by
  funext i
  have hi : (i 0).val < 8192 := (i 0).isLt
  refine if_pos ?_
  unfold pairOf
  rcases h with rfl | rfl | rfl | rfl <;> omega

/-- One trip of a pass over pairs of chunks. -/
theorem bigTrip_run (c : Dev nD) {jo : ℕ} (h : BigJ jo) (up : BitVec 1) (t : Fin loop8.trips) (f : Blk F) :
    workPts c f ⊢ Wp c (bigTrip h up t) (fun _ => workPts c
      (putC (putC f (firstA jo t.val) (Scalar.select up (minimumf (chunk f (firstA jo t.val)) (chunk f (firstA jo t.val + 512 * jo)))
          (maximumf (chunk f (firstA jo t.val)) (chunk f (firstA jo t.val + 512 * jo)))))
        (firstA jo t.val + 512 * jo) (Scalar.select up (maximumf (chunk f (firstA jo t.val)) (chunk f (firstA jo t.val + 512 * jo)))
          (minimumf (chunk f (firstA jo t.val)) (chunk f (firstA jo t.val + 512 * jo)))))) := by
  unfold bigTrip workPts
  simp only [Prog.lift, Prog.bind_op, Prog.bind_ret, Prog.pure_eq_ret]
  iintro Hw
  iapply (wp_load 𝒱₀ (c : Thread nD τ) none Set.univ (m := workM) (Finset.subset_univ _)) $$ Hw; iintro Hw
  iapply (wp_load 𝒱₀ (c : Thread nD τ) none Set.univ (m := workM) (Finset.subset_univ _)) $$ Hw; iintro Hw
  iapply (wp_load 𝒱₀ (c : Thread nD τ) none Set.univ (m := workM) (Finset.subset_univ _)) $$ Hw; iintro Hw
  iapply (wp_store 𝒱₀ (c : Thread nD τ) none Set.univ (m := workM)
    (r := Rect.unit (s := S8192x256) (offA jo t) S512x256.size (offA_inb h t)) (Mk := Finset.univ) (Finset.subset_univ _)) $$ Hw; iintro Hw
  iapply (wp_load 𝒱₀ (c : Thread nD τ) none Set.univ (m := workM) (Finset.subset_univ _)) $$ Hw; iintro Hw
  iapply (wp_store 𝒱₀ (c : Thread nD τ) none Set.univ (m := workM)
    (r := Rect.unit (s := S8192x256) (offB jo t) S512x256.size (offB_inb h t)) (Mk := Finset.univ) (Finset.subset_univ _)) $$ Hw; iintro Hw
  rw [read_chunk _ _ _ (offA_eq h t), read_chunk _ _ _ (offB_eq h t), write_chunk _ _ _ (offA_eq h t), write_chunk _ _ _ (offB_eq h t),
    shapeCast_self, shapeCast_self, wp_ret]; imodintro
  iexact Hw

/-- A chunk of a block that differs elsewhere only. -/
theorem chunk_mixP {jo : ℕ} (t o : ℕ) (ho : o + 512 ≤ 8192) (hp : ∀ s < 512, pairOf jo (o + s) = t) (G f : Blk F) :
    chunk (mixP jo t G f) o = chunk f o := by
  funext y
  have hy : (y 0).val < 512 := (y 0).isLt
  unfold chunk mixP
  refine if_neg ?_
  show ¬ pairOf jo ((o + (y 0).val) % 8192) < t
  rw [Nat.mod_eq_of_lt (by omega), hp _ hy]; omega

omit [FloatOps F] in
/-- Two blocks that agree row by row. -/
theorem blk_ext {f g : Blk F} (h : ∀ (r : ℕ), r < 8192 → ∀ l : Fin 256, f (row r l) = g (row r l)) : f = g :=
  funext fun i => by
    have := h (i 0).val (i 0).isLt (i 1)
    have e := row_eq i
    exact (congrArg f e).symm.trans (this.trans (congrArg g e))

omit [FloatOps F] in
theorem putC_in (f : Blk F) (o : ℕ) (w : FVec F S512x256 .f32) (r : ℕ) (hr : r < 8192) (l : Fin 256) (h : o ≤ r ∧ r < o + 512) :
    putC f o w (row r l) = w (ix2 ⟨(r - o) % 512, Nat.mod_lt _ (by norm_num)⟩ l) := by
  have e : ((row r l) 0).val = r := by show r % 8192 = r; exact Nat.mod_eq_of_lt hr
  unfold putC
  rw [if_pos (by rw [e]; exact h)]
  refine congrArg w (congrArg (fun a => ix2 a l) (Fin.ext ?_))
  show (((row r l) 0).val - o) % 512 = _
  rw [e]

omit [FloatOps F] in
theorem putC_out (f : Blk F) (o : ℕ) (w : FVec F S512x256 .f32) (r : ℕ) (hr : r < 8192) (l : Fin 256) (h : ¬ (o ≤ r ∧ r < o + 512)) :
    putC f o w (row r l) = f (row r l) := by
  have e : ((row r l) 0).val = r := by show r % 8192 = r; exact Nat.mod_eq_of_lt hr
  unfold putC
  rw [if_neg (by rw [e]; exact h)]

omit [FloatOps F] in
theorem mixP_at (jo t : ℕ) (G f : Blk F) (r : ℕ) (hr : r < 8192) (l : Fin 256) :
    mixP jo t G f (row r l) = if pairOf jo r < t then G (row r l) else f (row r l) := by
  have e : ((row r l) 0).val = r := by show r % 8192 = r; exact Nat.mod_eq_of_lt hr
  unfold mixP
  rw [e]

/-- The two stores of a trip make the pair's rows those of the pass. -/
theorem pair_put {jo : ℕ} (h : BigJ jo) (upw : BitVec 1) (up : ℕ → Bool) (k : ℕ) (hk : k < 8) (f : Blk F)
    (hup : ∀ (r : ℕ), r < 8192 → pairOf jo r = k → upw = if up r then 1 else 0) :
    putC (putC (mixP jo k (cx (512 * jo) up f) f) (firstA jo k) (Scalar.select upw (minimumf (chunk f (firstA jo k)) (chunk f (firstA jo k + 512 * jo)))
          (maximumf (chunk f (firstA jo k)) (chunk f (firstA jo k + 512 * jo)))))
        (firstA jo k + 512 * jo) (Scalar.select upw (maximumf (chunk f (firstA jo k)) (chunk f (firstA jo k + 512 * jo)))
          (minimumf (chunk f (firstA jo k)) (chunk f (firstA jo k + 512 * jo))))
      = mixP jo (k + 1) (cx (512 * jo) up f) f := by
  obtain ⟨h1, h2, h3, h4⟩ := firstA_facts h k hk
  refine blk_ext fun r hr l => ?_
  rw [mixP_at _ _ _ _ _ hr]
  by_cases hB : firstA jo k + 512 * jo ≤ r ∧ r < firstA jo k + 512 * jo + 512
  · have hp : pairOf jo r = k := (pairOf_iff h _ _ hk hr).mpr (.inr hB)
    obtain ⟨s, hs, rfl⟩ : ∃ s < 512, r = firstA jo k + 512 * jo + s := ⟨r - (firstA jo k + 512 * jo), by omega, by omega⟩
    rw [putC_in _ _ _ _ hr _ hB, if_pos (by omega), cx_hi _ _ _ _ hr _ (h4 s hs), hup _ hr hp, select_ite]
    have e1 : (firstA jo k + 512 * jo + s - (firstA jo k + 512 * jo)) % 512 = s := by rw [Nat.add_sub_cancel_left, Nat.mod_eq_of_lt hs]
    have e2 : firstA jo k + 512 * jo + s - 512 * jo = firstA jo k + s := by omega
    rw [e2]
    split
    · exact congrArg₂ mx (congrArg (fun z => f (row (firstA jo k + z) l)) e1) (congrArg (fun z => f (row (firstA jo k + 512 * jo + z) l)) e1)
    · exact congrArg₂ mn (congrArg (fun z => f (row (firstA jo k + z) l)) e1) (congrArg (fun z => f (row (firstA jo k + 512 * jo + z) l)) e1)
  · rw [putC_out _ _ _ _ hr _ hB]
    by_cases hA : firstA jo k ≤ r ∧ r < firstA jo k + 512
    · have hp : pairOf jo r = k := (pairOf_iff h _ _ hk hr).mpr (.inl hA)
      obtain ⟨s, hs, rfl⟩ : ∃ s < 512, r = firstA jo k + s := ⟨r - firstA jo k, by omega, by omega⟩
      rw [putC_in _ _ _ _ hr _ hA, if_pos (by omega), cx_lo _ _ _ _ hr _ (h3 s hs), hup _ hr hp, select_ite]
      have e1 : (firstA jo k + s - firstA jo k) % 512 = s := by rw [Nat.add_sub_cancel_left, Nat.mod_eq_of_lt hs]
      have e2 : firstA jo k + s + 512 * jo = firstA jo k + 512 * jo + s := by omega
      rw [e2]
      split
      · exact congrArg₂ mn (congrArg (fun z => f (row (firstA jo k + z) l)) e1) (congrArg (fun z => f (row (firstA jo k + 512 * jo + z) l)) e1)
      · exact congrArg₂ mx (congrArg (fun z => f (row (firstA jo k + z) l)) e1) (congrArg (fun z => f (row (firstA jo k + 512 * jo + z) l)) e1)
    · have hp : pairOf jo r ≠ k := fun hp => ((pairOf_iff h _ _ hk hr).mp hp).elim hA hB
      rw [putC_out _ _ _ _ hr _ hA, mixP_at _ _ _ _ _ hr]
      by_cases hl : pairOf jo r < k
      · rw [if_pos hl, if_pos (by omega)]
      · rw [if_neg hl, if_neg (by omega)]

/-- A pass over pairs of chunks whose directions are `up`'s is the pass of compare-exchanges. -/
theorem bigLoop_run (c : Dev nD) {jo : ℕ} (h : BigJ jo) (upw : Fin loop8.trips → BitVec 1) (up : ℕ → Bool) (f : Blk F)
    (hup : ∀ (t : Fin loop8.trips) (r : ℕ), r < 8192 → pairOf jo r = t.val → upw t = if up r then 1 else 0) :
    workPts c f ⊢ Wp c (bigLoop h upw) (fun _ => workPts c (cx (512 * jo) up f)) := by
  unfold bigLoop
  have hI := Scf.wp_for Idealize.ShloMosaic.frame (wpE (defs₀ (F := F)) 𝒱₀ (c : Thread nD τ) none) Set.univ loop8.lb loop8.ub loop8.st ok8 (⟨⟩ : PUnit)
    (fun t _ => bigTrip h (upw t) t) (fun k _ => workPts c (mixP jo k (cx (512 * jo) up f) f)) (fun k _ => by
      have hk : k.val < 8 := k.isLt
      obtain ⟨h1, h2, h3, h4⟩ := firstA_facts h k.val hk
      have hpA : ∀ s < 512, pairOf jo (firstA jo k.val + s) = k.val := fun s hs => (pairOf_iff h _ _ hk (by omega)).mpr (.inl ⟨by omega, by omega⟩)
      have hpB : ∀ s < 512, pairOf jo (firstA jo k.val + 512 * jo + s) = k.val := fun s hs => (pairOf_iff h _ _ hk (by omega)).mpr (.inr ⟨by omega, by omega⟩)
      refine (bigTrip_run c h (upw k) k _).trans (wp_mono _ _ _ fun _ => ?_)
      rw [chunk_mixP k.val _ (by omega) hpA, chunk_mixP k.val _ (by omega) hpB]
      exact Entails.of_eq (congrArg (workPts c) (pair_put h (upw k) up k.val hk f (fun r hr hp => hup k r hr hp))))
    (Q := fun _ => workPts c (cx (512 * jo) up f))
  refine BIBase.Entails.trans ?_ hI
  rw [mixP_zero]
  iintro Hw
  isplitl [Hw]; · iexact Hw
  iintro %_ Hw
  rw [show Scf.trips loop8.lb loop8.ub loop8.st = 8 from rfl, mixP_all h]
  iexact Hw

/-! ## The passes as the kernel names them -/

/-- The direction the kernel computes from the device's number for a pass at bit `2 ^ n`. -/
def upD (c n : ℕ) : Bool := decide (8192 * c / 2 ^ n % 2 = 0)

/-- A chunk pass inside a block. -/
theorem smallL_run (c : Dev nD) {g j : ℕ} (G : Geo g j) (k n : ℕ) (hk : k = 2 ^ n) (hn : n ≤ 13) (hj : 2 * j ∣ 2 ^ n) (f : Blk F) :
    workPts c f ⊢ Wp c (smallL G k) (fun _ => workPts c (cx j (upL k) f)) := by
  subst hk
  refine smallLoop_run c _ f _ fun t r l => ?_
  obtain ⟨q, p, s, hr⟩ := exists_grp G.num r
  have := payL_apply G n hn hj t f q p s l
  rw [hr]
  exact (congrArg (fun r => payL G (2 ^ n) (Scf.iv 0#32 1#32 t) (chunk f (512 * t.val)) (ix2 r l)) (Fin.ext hr)).trans this

/-- A chunk pass of a merge across blocks, at the direction `b`. -/
theorem smallD_run (c : Dev nD) {g j : ℕ} (G : Geo g j) (v2 : BitVec 32) (k : ℕ) (b : Bool) (hb : dirWord v2 k = if b then 1 else 0) (f : Blk F) :
    workPts c f ⊢ Wp c (smallD G v2 k) (fun _ => workPts c (cx j (fun _ => b) f)) := by
  refine smallLoop_run c _ f _ fun t r l => ?_
  obtain ⟨q, p, s, hr⟩ := exists_grp G.num r
  have := payD_apply G b t f q p s l
  rw [hr, hb]
  exact (congrArg (fun r => payD G (if b then 1 else 0) (chunk f (512 * t.val)) (ix2 r l)) (Fin.ext hr)).trans this

/-- A pass over pairs of chunks inside a block. -/
theorem bigL_run (c : Dev nD) {jo : ℕ} (h : BigJ jo) (k n : ℕ) (hk : k = 2 ^ n) (hn : n ≤ 13) (hj : 2 * (512 * jo) ∣ 2 ^ n) (f : Blk F) :
    workPts c f ⊢ Wp c (bigL h k) (fun _ => workPts c (cx (512 * jo) (upL k) f)) := by
  subst hk
  refine bigLoop_run c h _ _ f fun t r hr hp => ?_
  have ht : t.val < 8 := t.isLt
  obtain ⟨h1, h2, -, -⟩ := firstA_facts h t.val ht
  have e : rowA jo t = BitVec.ofNat 32 (firstA jo t.val) := by
    apply BitVec.eq_of_toNat_eq
    rw [rowA_toNat jo h t, BitVec.toNat_ofNat]
    exact (Nat.mod_eq_of_lt (show firstA jo t.val < 2 ^ 32 by omega)).symm
  rw [e]
  refine (and_word _ n (by omega) (by omega)).trans ?_
  have hd : firstA jo t.val / 2 ^ n = r / 2 ^ n := by
    obtain ⟨m, hm⟩ := hj
    rw [hm, ← Nat.div_div_eq_div_mul _ (2 * (512 * jo)) m, ← Nat.div_div_eq_div_mul _ (2 * (512 * jo)) m]
    congr 1
    have := (pairOf_iff h _ _ ht hr).mp hp
    unfold firstA at this ⊢
    rcases h with rfl | rfl | rfl | rfl <;> omega
  rw [hd]; unfold upL; simp only [decide_eq_true_eq]

/-- A pass over pairs of chunks of a merge across blocks, at the direction `b`. -/
theorem bigD_run (c : Dev nD) {jo : ℕ} (h : BigJ jo) (v2 : BitVec 32) (k : ℕ) (b : Bool) (hb : dirWord v2 k = if b then 1 else 0) (f : Blk F) :
    workPts c f ⊢ Wp c (bigD h v2 k) (fun _ => workPts c (cx (512 * jo) (fun _ => b) f)) :=
  bigLoop_run c h _ _ f fun _ _ _ _ => hb

end Cert.Bitonic

end
-- ==== Proof.Xchg.lean ====
/-
The landing slots, and an exchange's pass over the work block.
-/
module

public import proofs.«01_k».proof.Proof.Run

@[expose] public section

noncomputable section

namespace Cert.Bitonic

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-- The contents of the landing buffer. -/
abbrev Two (F : FTy → Type) : Type := S2x8192x256.Idx → F .f32

theorem slot_inb : ∀ (s : Fin 2) (a : Fin 3), (![s.val, 0, 0] : Fin 3 → ℕ) a + S1x8192x256.size a ≤ S2x8192x256.size a := by decide

/-- Slot `s` of the landing buffer, as a rectangle and as a block. -/
abbrev slotR (s : Fin 2) : Rect S2x8192x256 := Rect.unit (s := S2x8192x256) ![s.val, 0, 0] S1x8192x256.size (slot_inb s)
abbrev slotM (s : Fin 2) : Memref sig .tc .vmem S8192x256 .f32 :=
  (commM.slice (slotR s) (fun _ => rfl)).squeeze S8192x256 squeezes_S1x8192x256_S8192x256

/-- The elements of slot `s`. -/
theorem slot_set (s : Fin 2) : (slotM s).view.set = (slotR s).set :=
  (View.set_reshape _ _).trans (View.set_slice_whole cc0_scratch1 (slotR s))

theorem mem_slot (s : Fin 2) (i : S2x8192x256.Idx) : i ∈ (slotR s).set ↔ (i 0).val = s.val := by
  rw [Rect.mem_set_unit]
  constructor
  · intro h
    have h0 : s.val ≤ (i 0).val ∧ (i 0).val < s.val + 1 := h 0
    omega
  · intro h a
    have h1 : (i 1).val < 8192 := (i 1).isLt
    have h2 : (i 2).val < 256 := (i 2).isLt
    fin_cases a
    · show s.val ≤ (i 0).val ∧ (i 0).val < s.val + 1; omega
    · show 0 ≤ (i 1).val ∧ (i 1).val < 0 + 8192; omega
    · show 0 ≤ (i 2).val ∧ (i 2).val < 0 + 256; omega

/-- Device `c`'s slot `s` at the landing buffer's contents `f`. -/
def slotPts (c : Dev nD) (s : Fin 2) (f : Two F) : sProp 𝕄 :=
  (slotM s).view.loc (c : Thread nD τ) ↦[(slotM s).view.set]{fullShare} (f : Buf (Elt F) ((slotM s).view.loc (c : Thread nD τ)))

/-- The landing buffer both of whose slots hold the block `W`. -/
def both (W : Blk F) : Two F := fun i => W (ix2 (i 1) (i 2))

/-- Where row `r` of column `l` of slot `s` is. -/
theorem slot_emb (s : Fin 2) (r : Fin 8192) (l : Fin 256) : (slotM s).view.emb (ix2 r l) = ix3 s r l := by
  have e : Shape.reshapeEquiv (s := S1x8192x256) (s' := S8192x256) (squeezes_S1x8192x256_S8192x256).numel_eq (ix2 r l) = ix3 (0 : Fin 1) r l := by
    apply Shape.reshapeEquiv_eq_of_rowMajor
    rw [Shape.rowMajor_val_two, Shape.rowMajor_val_three]
    show ((0 : Fin 1).val * 8192 + r.val) * 256 + l.val = r.val * 256 + l.val
    simp
  show (slotR s).emb (Shape.reshapeEquiv _ (ix2 r l)) = ix3 s r l
  rw [e]
  refine funext fun a => Fin.ext ?_
  fin_cases a
  · show s.val + 1 * 0 = s.val; omega
  · show 0 + 1 * r.val = r.val; omega
  · show 0 + 1 * l.val = l.val; omega

omit [FloatOps F] in
/-- A slot after the block `W` has landed in it. -/
theorem slot_landed (s : Fin 2) (fd : Two F) (W : Blk F) (i : S2x8192x256.Idx) (hi : i ∈ (slotM s).view.set) :
    (slotM s).view.write (Elt F) fd W Finset.univ i = both W i := by
  have h0 : i = (slotM s).view.emb (ix2 (i 1) (i 2)) := by
    rw [slot_set, mem_slot] at hi
    refine Eq.trans ?_ (slot_emb s (i 1) (i 2)).symm
    refine funext fun a => Fin.ext ?_
    fin_cases a
    · exact hi
    · rfl
    · rfl
  have := View.write_emb_of_mem (v := (slotM s).view) (Val := Elt F) fd W (M := Finset.univ) (x := ix2 (i 1) (i 2)) (Finset.mem_univ _)
  rw [← h0] at this
  exact this

omit [FloatOps F] in
/-- The work block as the source of a copy reads its contents. -/
theorem work_read (W : Blk F) : (workM.view.read (Elt F) W : Blk F) = W := View.read_whole _ _

omit [FloatOps F] in
/-- What a slot holds after a copy of the work block `W`. -/
theorem slotPts_landed (c : Dev nD) (s : Fin 2) (fd : Two F) (W : Blk F) :
    ((slotM s).view.loc (c : Thread nD τ) ↦[(slotM s).view.set]{fullShare}
      ((slotM s).view.write (Elt F) fd (workM.view.read (Elt F) W) Finset.univ : Buf (Elt F) ((slotM s).view.loc (c : Thread nD τ))) : sProp 𝕄) = slotPts c s (both W) := by
  unfold slotPts
  rw [work_read]
  exact pointsTo_congr fun i hi => slot_landed s fd W i hi

/-! ## The exchange's pass -/

theorem offC_eq (s : ℕ) (t : Fin loop16.trips) : offC s t = ![s, 512 * t.val, 0] := by
  have h := offS_eq t
  have h0 : offS t 0 = 512 * t.val := congrFun h 0
  unfold offC
  unfold offS at h0
  have h1 : (Scalar.indexCast (Scalar.muli (Scf.iv 0#32 1#32 t) 512#32)).toNat = 512 * t.val := h0
  rw [h1]

theorem offC_inb (s : Fin 2) (t : Fin loop16.trips) : ∀ a, offC s.val t a + S1x512x256.size a ≤ S2x8192x256.size a := by
  have ht : t.val < 16 := t.isLt
  have hs : s.val < 2 := s.isLt
  rw [offC_eq]
  intro a
  fin_cases a
  · show s.val + 1 ≤ 2; omega
  · show 512 * t.val + 512 ≤ 8192; omega
  · show 0 + 256 ≤ 256; omega

theorem offC_sub (s : Fin 2) (t : Fin loop16.trips) (hs : ∀ a, offC s.val t a + S1x512x256.size a ≤ S2x8192x256.size a) :
    (Rect.unit (s := S2x8192x256) (offC s.val t) S1x512x256.size hs).set ⊆ (slotR s).set := by
  intro i hi
  rw [Rect.mem_set_unit] at hi
  have h0 := hi 0
  rw [offC_eq] at h0
  have h0' : s.val ≤ (i 0).val ∧ (i 0).val < s.val + 1 := h0
  rw [mem_slot]; omega

omit [FloatOps F] in
/-- A load of 512 rows of a slot, as a chunk. -/
theorem read_slot (s : Fin 2) (t : Fin loop16.trips) (hs : ∀ a, offC s.val t a + S1x512x256.size a ≤ S2x8192x256.size a) (W : Blk F) :
    shapeCast S512x256 (commM.view.readAt (Elt F) (Rect.unit (s := S2x8192x256) (offC s.val t) S1x512x256.size hs).toLoadRect (both W) : FVec F S1x512x256 .f32)
      shapeCasts_S1x512x256_S512x256 = chunk W (512 * t.val) := by
  have ht : t.val < 16 := t.isLt
  funext y
  have hy : (y 0).val < 512 := (y 0).isLt
  have ho := offC_eq s.val t
  refine (shapeCast_apply (s := S1x512x256) (t := S512x256) _ _ y (ix3 (0 : Fin 1) (y 0) (y 1)) ?_).trans ?_
  rotate_left
  · show W _ = W _
    refine congrArg W (funext fun a => Fin.ext ?_)
    fin_cases a
    · show offC s.val t 1 + 1 * (y 0).val = (512 * t.val + (y 0).val) % 8192
      rw [ho, Nat.mod_eq_of_lt (by omega)]
      show 512 * t.val + 1 * (y 0).val = _
      omega
    · show offC s.val t 2 + 1 * (y 1).val = (y 1).val
      rw [ho]
      show 0 + 1 * (y 1).val = _
      omega
  · rw [Shape.rowMajor_val_two, Shape.rowMajor_val_three]
    show ((0 : Fin 1).val * 512 + (y 0).val) * 256 + (y 1).val = (y 0).val * 256 + (y 1).val
    simp

/-- The block kept in an exchange with the block `W`: the smaller values or the larger. -/
def keepB (b : Bool) (f W : Blk F) : Blk F := fun i => if b then mn (f i) (W i) else mx (f i) (W i)

/-- One trip of an exchange. -/
theorem xchgTrip_run (c : Dev nD) (keep : BitVec 1) (s : Fin 2) (hs : ∀ t a, offC s.val t a + S1x512x256.size a ≤ S2x8192x256.size a) (t : Fin loop16.trips) (f W : Blk F) :
    iprop(workPts c f ∗ slotPts c s (both W)) ⊢ Wp c (xchgTrip keep s.val hs t) (fun _ => iprop(workPts c
      (putC f (512 * t.val) (Scalar.select keep (minimumf (chunk f (512 * t.val)) (chunk W (512 * t.val))) (maximumf (chunk f (512 * t.val)) (chunk W (512 * t.val)))))
        ∗ slotPts c s (both W))) := by
  unfold xchgTrip workPts slotPts
  simp only [Prog.lift, Prog.bind_op, Prog.bind_ret, Prog.pure_eq_ret]
  iintro ⟨Hw, Hs⟩
  iapply (wp_load 𝒱₀ (c : Thread nD τ) none Set.univ (m := workM) (Finset.subset_univ _)) $$ Hw; iintro Hw
  iapply (wp_load 𝒱₀ (c : Thread nD τ) none Set.univ (m := commM)
    (r := (Rect.unit (s := S2x8192x256) (offC s.val t) S1x512x256.size (hs t)).toLoadRect) (S := (slotM s).view.set)
    (by rw [slot_set]; intro i hi; obtain ⟨j, hj, rfl⟩ := Finset.mem_map.mp hi; exact offC_sub s t (hs t) hj)) $$ Hs; iintro Hs
  iapply (wp_load 𝒱₀ (c : Thread nD τ) none Set.univ (m := workM) (Finset.subset_univ _)) $$ Hw; iintro Hw
  iapply (wp_store 𝒱₀ (c : Thread nD τ) none Set.univ (m := workM)
    (r := Rect.unit (s := S8192x256) (offS t) S512x256.size (offS_inb t)) (Mk := Finset.univ) (Finset.subset_univ _)) $$ Hw; iintro Hw
  rw [read_chunk (512 * t.val) _ _ (offS_eq t), write_chunk (512 * t.val) _ _ (offS_eq t), shapeCast_self, read_slot, wp_ret]; imodintro
  isplitl [Hw]; · iexact Hw
  iexact Hs

/-- The sixteen trips of an exchange keep the smaller or the larger values of the two blocks. -/
theorem xchgLoop_run (c : Dev nD) (keep : BitVec 1) (b : Bool) (hb : keep = if b then 1 else 0) (s : Fin 2)
    (hs : ∀ t a, offC s.val t a + S1x512x256.size a ≤ S2x8192x256.size a) (f W : Blk F) :
    iprop(workPts c f ∗ slotPts c s (both W)) ⊢ Wp c (xchgLoop keep s.val hs) (fun _ => iprop(workPts c (keepB b f W) ∗ slotPts c s (both W))) := by
  unfold xchgLoop
  have hI := Scf.wp_for Idealize.ShloMosaic.frame (wpE (defs₀ (F := F)) 𝒱₀ (c : Thread nD τ) none) Set.univ loop16.lb loop16.ub loop16.st ok16 (⟨⟩ : PUnit)
    (fun t _ => xchgTrip keep s.val hs t) (fun k _ => iprop(workPts c (mix (512 * k) (keepB b f W) f) ∗ slotPts c s (both W))) (fun k _ => by
      have hk : k.val < 16 := k.isLt
      refine (xchgTrip_run c keep s hs k _ W).trans (wp_mono _ _ _ fun _ => ?_)
      rw [chunk_mix k.val hk, putC_mix k.val hk (keepB b f W) f _ fun r l => ?_]
      rw [hb, select_ite]
      unfold keepB
      split <;> rfl) (Q := fun _ => iprop(workPts c (keepB b f W) ∗ slotPts c s (both W)))
  refine BIBase.Entails.trans ?_ hI
  rw [Nat.mul_zero, mix_zero]
  iintro Hw
  isplitl [Hw]; · iexact Hw
  iintro %_ Hw
  rw [show 512 * Scf.trips loop16.lb loop16.ub loop16.st = 8192 from rfl, mix_all]
  iexact Hw

end Cert.Bitonic

end
-- ==== Proof.Parts.lean ====
/-
The tile program of the sorter as one chain of passes, copies and exchanges.
-/
module

public import proofs.«01_k».proof.Proof.Xchg

@[expose] public section

noncomputable section

namespace Cert.Bitonic

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

theorem big1 : BigJ 1 := Or.inl rfl
theorem big2 : BigJ 2 := Or.inr (Or.inl rfl)
theorem big4 : BigJ 4 := Or.inr (Or.inr (Or.inl rfl))
theorem big8 : BigJ 8 := Or.inr (Or.inr (Or.inr rfl))

/-- The pass of distance `2^s` with the direction read off the row's bit `k`. -/
def passL : ℕ → ℕ → P (F := F) PUnit
  | 0, k => smallL geo256 k
  | 1, k => smallL geo128 k
  | 2, k => smallL geo64 k
  | 3, k => smallL geo32 k
  | 4, k => smallL geo16 k
  | 5, k => smallL geo8 k
  | 6, k => smallL geo4 k
  | 7, k => smallL geo2 k
  | 8, k => smallL geo1 k
  | 9, k => bigL big1 k
  | 10, k => bigL big2 k
  | 11, k => bigL big4 k
  | _, k => bigL big8 k

/-- The pass of distance `2^s` with the direction read off the device's bit `k`. -/
def passD (v2 : BitVec 32) (k : ℕ) : ℕ → P (F := F) PUnit
  | 0 => smallD geo256 v2 k
  | 1 => smallD geo128 v2 k
  | 2 => smallD geo64 v2 k
  | 3 => smallD geo32 v2 k
  | 4 => smallD geo16 v2 k
  | 5 => smallD geo8 v2 k
  | 6 => smallD geo4 v2 k
  | 7 => smallD geo2 v2 k
  | 8 => smallD geo1 v2 k
  | 9 => bigD big1 v2 k
  | 10 => bigD big2 v2 k
  | 11 => bigD big4 v2 k
  | _ => bigD big8 v2 k

/-- Passes one after the other, and then `p`. -/
def seqL {α : Type} (l : List (ℕ × ℕ)) (p : P (F := F) α) : P (F := F) α :=
  l.foldr (fun x q => passL x.1 x.2 >>= fun _ => q) p
def seqD {α : Type} (v2 : BitVec 32) (k : ℕ) (l : List ℕ) (p : P (F := F) α) : P (F := F) α :=
  l.foldr (fun s q => passD v2 k s >>= fun _ => q) p

theorem seqL_bind {α β : Type} (l : List (ℕ × ℕ)) (p : P (F := F) α) (k : α → P (F := F) β) : (seqL l p >>= k) = seqL l (p >>= k) := by
  induction l with
  | nil => rfl
  | cons x l ih => exact (bind_assoc _ _ _).trans (congrArg _ (funext fun _ => ih))
theorem seqD_bind {α β : Type} (v2 : BitVec 32) (n : ℕ) (l : List ℕ) (p : P (F := F) α) (k : α → P (F := F) β) :
    (seqD v2 n l p >>= k) = seqD v2 n l (p >>= k) := by
  induction l with
  | nil => rfl
  | cons x l ih => exact (bind_assoc _ _ _).trans (congrArg _ (funext fun _ => ih))

/-- The passes whose direction the row decides, in order. -/
def tabL : List (ℕ × ℕ) :=
  [(0,2), (1,4),(0,4), (2,8),(1,8),(0,8), (3,16),(2,16),(1,16),(0,16), (4,32),(3,32),(2,32),(1,32),(0,32),
   (5,64),(4,64),(3,64),(2,64),(1,64),(0,64), (6,128),(5,128),(4,128),(3,128),(2,128),(1,128),(0,128),
   (7,256),(6,256),(5,256),(4,256),(3,256),(2,256),(1,256),(0,256),
   (8,512),(7,512),(6,512),(5,512),(4,512),(3,512),(2,512),(1,512),(0,512),
   (9,1024),(8,1024),(7,1024),(6,1024),(5,1024),(4,1024),(3,1024),(2,1024),(1,1024),(0,1024),
   (10,2048),(9,2048),(8,2048),(7,2048),(6,2048),(5,2048),(4,2048),(3,2048),(2,2048),(1,2048),(0,2048),
   (11,4096),(10,4096),(9,4096),(8,4096),(7,4096),(6,4096),(5,4096),(4,4096),(3,4096),(2,4096),(1,4096),(0,4096)]

/-- The distances of one merge. -/
def tabD : List ℕ := [12,11,10,9,8,7,6,5,4,3,2,1,0]

/-- The ready semaphore of exchange `e` of tile `t`. -/
def rdySem (t : Fin k0_t1_loop.trips) (e : Fin 6) : Sem sig :=
  ((cc0_scratch5.slice (Rect.unit (s := S8) (k0_off103 t (BitVec.ofNat 32 e.val)) S1.size (k0_off103_inb t e))).squeeze S_ squeezes_S1_S_).sem

theorem inb_sem (s : Fin 2) : ∀ a, (![s.val] : Fin 1 → ℕ) a + S1.size a ≤ S2.size a := by revert s; decide

def sndSem (s : Fin 2) : DmaSem sig :=
  ((cc0_scratch3.slice (Rect.unit (s := S2) ![s.val] S1.size (inb_sem s))).squeeze S_ squeezes_S1_S_).sem
def rcvSem (s : Fin 2) : DmaSem sig :=
  ((cc0_scratch4.slice (Rect.unit (s := S2) ![s.val] S1.size (inb_sem s))).squeeze S_ squeezes_S1_S_).sem

/-- The steps of an exchange as programs. -/
def sigOp (d : Dev nD) (t : Fin k0_t1_loop.trips) (e : Fin 6) : P (F := F) PUnit := semSignalWord d (rdySem t e) 1#32
def rdyOp (t : Fin k0_t1_loop.trips) (e : Fin 6) : P (F := F) PUnit := semWaitWord (rdySem t e) 1#32
def sendOp (d : Dev nD) (s : Fin 2) : P (F := F) PUnit :=
  Prog.lift (.enqueueDma workM (.remote (Dev.tc d) (slotM s) (.dma (sndSem s))) (.dma (rcvSem s)) (Memref.isWhole_whole _).wordExact
    ((View.wordExact_bits rfl).reshape _ _) ⟨⟨rfl, Or.inl rfl⟩, trivial⟩)
def sentOp (s : Fin 2) : P (F := F) PUnit :=
  Prog.lift (.waitDma2 (sndSem s) (slotM s) workM ((View.wordExact_bits rfl).reshape _ _) (Memref.isWhole_whole _).wordExact)
def rcvdOp (s : Fin 2) : P (F := F) PUnit :=
  Prog.lift (.waitDma2 (rcvSem s) workM (slotM s) (Memref.isWhole_whole _).wordExact ((View.wordExact_bits rfl).reshape _ _))

/-- The tile's columns of the input and of the output, and the copies in and out. -/
abbrev inT (t : Fin k0_t1_loop.trips) : Memref sig .tc .hbm S8192x256 .f32 :=
  inM.slice (Rect.unit (s := S8192x1024) (k0_off1 t) S8192x256.size (k0_off1_inb t)) (fun _ => rfl)
abbrev outT (t : Fin k0_t1_loop.trips) : Memref sig .tc .hbm S8192x256 .f32 :=
  outM.slice (Rect.unit (s := S8192x1024) (k0_off1 t) S8192x256.size (k0_off1_inb t)) (fun _ => rfl)
def getOp (t : Fin k0_t1_loop.trips) : P (F := F) PUnit :=
  Prog.lift (.enqueueDma (inT t) (.here workM) (.dma cc0_scratch2.sem) (View.wordExact_bits rfl) (Memref.isWhole_whole _).wordExact ⟨Or.inl rfl, trivial⟩)
def gotOp (t : Fin k0_t1_loop.trips) : P (F := F) PUnit :=
  Prog.lift (.waitDma2 cc0_scratch2.sem (inT t) workM (View.wordExact_bits rfl) (Memref.isWhole_whole _).wordExact)

def putOp (t : Fin k0_t1_loop.trips) : P (F := F) PUnit :=
  Prog.lift (.enqueueDma workM (.here (outT t)) (.dma cc0_scratch2.sem) (Memref.isWhole_whole _).wordExact (View.wordExact_bits rfl) ⟨Or.inl rfl, trivial⟩)
def putdOp (t : Fin k0_t1_loop.trips) : P (F := F) PUnit :=
  Prog.lift (.waitDma2 cc0_scratch2.sem workM (outT t) (Memref.isWhole_whole _).wordExact (View.wordExact_bits rfl))

/-- The bit that keeps the smaller value in an exchange over the device bit `j` whose direction is `up`. -/
def keepW (v2 : BitVec 32) (j : ℕ) (up : BitVec 1) : BitVec 1 :=
  Scalar.xori (Scalar.xori (Scalar.cmpi .eq (Scalar.andi v2 (BitVec.ofNat 32 j)) 0#32) up) 1#1

/-! ## Each part of the printed program -/

theorem part23_eq (t : Fin k0_t1_loop.trips) : (k0_part23 inM (Memref.isWhole_whole _) outM (Memref.isWhole_whole _) workM (Memref.isWhole_whole _) commM (Memref.isWhole_whole _)
      cc0_scratch2 cc0_scratch3 cc0_scratch4 cc0_scratch5 0#32 1#32 t : P (F := F) _) =
    (do
      getOp t
      gotOp t
      seqL (tabL.take 8) (pure ⟨Scf.iv 0#32 1#32 t, 0#32⟩)) := rfl

theorem part24_eq : (k0_part24 inM (Memref.isWhole_whole _) outM (Memref.isWhole_whole _) workM (Memref.isWhole_whole _) commM (Memref.isWhole_whole _)
      cc0_scratch2 cc0_scratch3 cc0_scratch4 cc0_scratch5 0#32 : P (F := F) _) =
    seqL ((tabL.drop 8).take 10) (pure 0#32) := rfl

theorem part25_eq : (k0_part25 inM (Memref.isWhole_whole _) outM (Memref.isWhole_whole _) workM (Memref.isWhole_whole _) commM (Memref.isWhole_whole _)
      cc0_scratch2 cc0_scratch3 cc0_scratch4 cc0_scratch5 0#32 : P (F := F) _) =
    seqL ((tabL.drop 18).take 10) (pure 0#32) := rfl

theorem part26_eq : (k0_part26 inM (Memref.isWhole_whole _) outM (Memref.isWhole_whole _) workM (Memref.isWhole_whole _) commM (Memref.isWhole_whole _)
      cc0_scratch2 cc0_scratch3 cc0_scratch4 cc0_scratch5 0#32 : P (F := F) _) =
    seqL ((tabL.drop 28).take 10) (pure 0#32) := rfl

theorem part27_eq : (k0_part27 inM (Memref.isWhole_whole _) outM (Memref.isWhole_whole _) workM (Memref.isWhole_whole _) commM (Memref.isWhole_whole _)
      cc0_scratch2 cc0_scratch3 cc0_scratch4 cc0_scratch5 0#32 : P (F := F) _) =
    seqL ((tabL.drop 38).take 10) (pure 0#32) := rfl

theorem part28_eq : (k0_part28 inM (Memref.isWhole_whole _) outM (Memref.isWhole_whole _) workM (Memref.isWhole_whole _) commM (Memref.isWhole_whole _)
      cc0_scratch2 cc0_scratch3 cc0_scratch4 cc0_scratch5 0#32 : P (F := F) _) =
    seqL ((tabL.drop 48).take 10) (pure 0#32) := rfl

theorem part29_eq : (k0_part29 inM (Memref.isWhole_whole _) outM (Memref.isWhole_whole _) workM (Memref.isWhole_whole _) commM (Memref.isWhole_whole _)
      cc0_scratch2 cc0_scratch3 cc0_scratch4 cc0_scratch5 0#32 : P (F := F) _) =
    seqL ((tabL.drop 58).take 10) (pure 0#32) := rfl

theorem part30_eq : (k0_part30 inM (Memref.isWhole_whole _) outM (Memref.isWhole_whole _) workM (Memref.isWhole_whole _) commM (Memref.isWhole_whole _)
      cc0_scratch2 cc0_scratch3 cc0_scratch4 cc0_scratch5 0#32 : P (F := F) _) =
    seqL ((tabL.drop 68).take 10) (pure 0#32) := rfl

theorem part31_eq (v2 : BitVec 32) : (k0_part31 inM (Memref.isWhole_whole _) outM (Memref.isWhole_whole _) workM (Memref.isWhole_whole _) commM (Memref.isWhole_whole _)
      cc0_scratch2 cc0_scratch3 cc0_scratch4 cc0_scratch5 v2 0#32 : P (F := F) _) =
    seqD v2 8192 (tabD.take 10) (pure 0#32) := rfl

theorem part32_eq (d0 : Dev nD) (v2 : BitVec 32) (t : Fin k0_t1_loop.trips) (w : BitVec 32) : (k0_part32 inM (Memref.isWhole_whole _) outM (Memref.isWhole_whole _) workM (Memref.isWhole_whole _) commM (Memref.isWhole_whole _)
      cc0_scratch2 cc0_scratch3 cc0_scratch4 cc0_scratch5 d0 v2 t w 0#32 : P (F := F) _) =
    seqD v2 8192 (tabD.drop 10) (do
      sigOp ⟨k0_dev1 d0, k0_dev1_lt d0⟩ t 0
      pure ⟨Scalar.xori v2 1#32, keepW v2 1 (dirWord v2 16384)⟩) := rfl

theorem part33_eq (d0 : Dev nD) (v2 : BitVec 32) (t : Fin k0_t1_loop.trips) (w : BitVec 32) (b : BitVec 1) : (k0_part33 inM (Memref.isWhole_whole _) outM (Memref.isWhole_whole _) workM (Memref.isWhole_whole _) commM (Memref.isWhole_whole _)
      cc0_scratch2 cc0_scratch3 cc0_scratch4 cc0_scratch5 d0 v2 t w b : P (F := F) _) =
    (do
      rdyOp t 0
      sendOp ⟨k0_dev2 d0, k0_dev2_lt d0⟩ 0
      sentOp 0
      rcvdOp 0
      xchgLoop b 0 (offC_inb 0)
      seqD v2 16384 (tabD.take 1) (pure ⟨0#32, 1#32⟩)) := rfl

theorem part34_eq (v2 : BitVec 32) : (k0_part34 inM (Memref.isWhole_whole _) outM (Memref.isWhole_whole _) workM (Memref.isWhole_whole _) commM (Memref.isWhole_whole _)
      cc0_scratch2 cc0_scratch3 cc0_scratch4 cc0_scratch5 v2 0#32 1#32 : P (F := F) _) =
    seqD v2 16384 ((tabD.drop 1).take 10) (pure ⟨0#32, 1#32⟩) := rfl

theorem part35_eq (d0 : Dev nD) (v2 : BitVec 32) (t : Fin k0_t1_loop.trips) (w : BitVec 32) : (k0_part35 inM (Memref.isWhole_whole _) outM (Memref.isWhole_whole _) workM (Memref.isWhole_whole _) commM (Memref.isWhole_whole _)
      cc0_scratch2 cc0_scratch3 cc0_scratch4 cc0_scratch5 d0 v2 t w 0#32 1#32 : P (F := F) _) =
    seqD v2 16384 (tabD.drop 11) (do
      sigOp ⟨k0_dev3 d0, k0_dev3_lt d0⟩ t 1
      rdyOp t 1
      pure ⟨dirWord v2 32768, Scalar.xori v2 2#32, keepW v2 2 (dirWord v2 32768), 1#32⟩) := rfl

theorem part36_eq (d0 : Dev nD) (v2 : BitVec 32) (w w' : BitVec 32) (u b : BitVec 1) (w'' : BitVec 32) : (k0_part36 inM (Memref.isWhole_whole _) outM (Memref.isWhole_whole _) workM (Memref.isWhole_whole _) commM (Memref.isWhole_whole _)
      cc0_scratch2 cc0_scratch3 cc0_scratch4 cc0_scratch5 d0 v2 w u w' b w'' : P (F := F) _) =
    (do
      sendOp ⟨k0_dev4 d0, k0_dev4_lt d0⟩ 1
      sentOp 1
      rcvdOp 1
      xchgLoop b 1 (offC_inb 1)
      pure ⟨Scalar.xori v2 1#32, keepW v2 1 u, Scalar.addi (Scalar.muli w 6#32) 2#32, 8#32, Scalar.cmpi .eq 8#32 0#32, 1#32⟩) := rfl

theorem part37_eq (d0 : Dev nD) (t : Fin k0_t1_loop.trips) (w1 w2 w3 : BitVec 32) (b : BitVec 1) (w4 : BitVec 32) : (k0_part37 inM (Memref.isWhole_whole _) outM (Memref.isWhole_whole _) workM (Memref.isWhole_whole _) commM (Memref.isWhole_whole _)
      cc0_scratch2 cc0_scratch3 cc0_scratch4 cc0_scratch5 d0 t w1 w2 w3 b w4 : P (F := F) _) =
    (do
      sigOp ⟨k0_dev5 d0, k0_dev5_lt d0⟩ t 2
      rdyOp t 2
      sendOp ⟨k0_dev6 d0, k0_dev6_lt d0⟩ 0
      sentOp 0) := rfl

theorem part38_eq (v2 : BitVec 32) (b : BitVec 1) : (k0_part38 inM (Memref.isWhole_whole _) outM (Memref.isWhole_whole _) workM (Memref.isWhole_whole _) commM (Memref.isWhole_whole _)
      cc0_scratch2 cc0_scratch3 cc0_scratch4 cc0_scratch5 v2 b : P (F := F) _) =
    (do
      rcvdOp 0
      xchgLoop b 0 (offC_inb 0)
      seqD v2 32768 (tabD.take 8) (pure ⟨⟩)) := rfl

theorem part39_eq (v2 : BitVec 32) (w : BitVec 32) : (k0_part39 inM (Memref.isWhole_whole _) outM (Memref.isWhole_whole _) workM (Memref.isWhole_whole _) commM (Memref.isWhole_whole _)
      cc0_scratch2 cc0_scratch3 cc0_scratch4 cc0_scratch5 v2 w : P (F := F) _) =
    seqD v2 32768 (tabD.drop 8) (pure ⟨dirWord v2 65536, Scalar.xori v2 4#32, keepW v2 4 (dirWord v2 65536),
      Scalar.select (Scalar.cmpi .eq 8#32 0#32) 1#32 8#32, Scalar.remsi (Scalar.addi (Scalar.muli w 6#32) 3#32) (Scalar.select (Scalar.cmpi .eq 8#32 0#32) 1#32 8#32),
      Scalar.cmpi .ne (Scalar.remsi (Scalar.addi (Scalar.muli w 6#32) 3#32) (Scalar.select (Scalar.cmpi .eq 8#32 0#32) 1#32 8#32)) 0#32,
      Scalar.cmpi .slt (Scalar.remsi (Scalar.addi (Scalar.muli w 6#32) 3#32) (Scalar.select (Scalar.cmpi .eq 8#32 0#32) 1#32 8#32)) 0#32, 0#32⟩) := rfl

theorem part40_eq (d0 : Dev nD) (t : Fin k0_t1_loop.trips) (w1 w2 w3 : BitVec 32) (b b' : BitVec 1) (w4 : BitVec 32) : (k0_part40 inM (Memref.isWhole_whole _) outM (Memref.isWhole_whole _) workM (Memref.isWhole_whole _) commM (Memref.isWhole_whole _)
      cc0_scratch2 cc0_scratch3 cc0_scratch4 cc0_scratch5 d0 t w1 w2 w3 b b' w4 : P (F := F) _) =
    (do
      sigOp ⟨k0_dev7 d0, k0_dev7_lt d0⟩ t 3
      rdyOp t 3
      sendOp ⟨k0_dev8 d0, k0_dev8_lt d0⟩ 1
      sentOp 1
      rcvdOp 1
      pure 0#32) := rfl

theorem part41_eq (d0 : Dev nD) (v2 : BitVec 32) (t : Fin k0_t1_loop.trips) (w : BitVec 32) (u b : BitVec 1) (w' : BitVec 32) : (k0_part41 inM (Memref.isWhole_whole _) outM (Memref.isWhole_whole _) workM (Memref.isWhole_whole _) commM (Memref.isWhole_whole _)
      cc0_scratch2 cc0_scratch3 cc0_scratch4 cc0_scratch5 d0 v2 t w u b w' : P (F := F) _) =
    (do
      xchgLoop b 1 (offC_inb 1)
      sigOp ⟨k0_dev9 d0, k0_dev9_lt d0⟩ t 4
      rdyOp t 4
      pure ⟨Scalar.xori v2 2#32, keepW v2 2 u⟩) := rfl

theorem part42_eq (d0 : Dev nD) (v2 : BitVec 32) (w : BitVec 32) (u : BitVec 1) (w' : BitVec 32) (b : BitVec 1) : (k0_part42 inM (Memref.isWhole_whole _) outM (Memref.isWhole_whole _) workM (Memref.isWhole_whole _) commM (Memref.isWhole_whole _)
      cc0_scratch2 cc0_scratch3 cc0_scratch4 cc0_scratch5 d0 v2 w u w' b : P (F := F) _) =
    (do
      sendOp ⟨k0_dev10 d0, k0_dev10_lt d0⟩ 0
      sentOp 0
      rcvdOp 0
      xchgLoop b 0 (offC_inb 0)
      pure ⟨Scalar.xori v2 1#32, keepW v2 1 u, Scalar.select (Scalar.cmpi .eq 8#32 0#32) 1#32 8#32, Scalar.remsi (Scalar.addi (Scalar.muli w 6#32) 5#32) (Scalar.select (Scalar.cmpi .eq 8#32 0#32) 1#32 8#32),
        Scalar.cmpi .ne (Scalar.remsi (Scalar.addi (Scalar.muli w 6#32) 5#32) (Scalar.select (Scalar.cmpi .eq 8#32 0#32) 1#32 8#32)) 0#32,
        Scalar.xori (Scalar.cmpi .slt (Scalar.remsi (Scalar.addi (Scalar.muli w 6#32) 5#32) (Scalar.select (Scalar.cmpi .eq 8#32 0#32) 1#32 8#32)) 0#32) (Scalar.cmpi .slt (Scalar.select (Scalar.cmpi .eq 8#32 0#32) 1#32 8#32) 0#32)⟩) := rfl

theorem part43_eq (d0 : Dev nD) (t : Fin k0_t1_loop.trips) (w1 w2 w3 : BitVec 32) (b b' : BitVec 1) : (k0_part43 inM (Memref.isWhole_whole _) outM (Memref.isWhole_whole _) workM (Memref.isWhole_whole _) commM (Memref.isWhole_whole _)
      cc0_scratch2 cc0_scratch3 cc0_scratch4 cc0_scratch5 d0 t w1 w2 w3 b b' : P (F := F) _) =
    (do
      sigOp ⟨k0_dev11 d0, k0_dev11_lt d0⟩ t 5
      rdyOp t 5
      sendOp ⟨k0_dev12 d0, k0_dev12_lt d0⟩ 1
      sentOp 1
      rcvdOp 1
      pure 0#32) := rfl

theorem part44_eq (v2 : BitVec 32) (b : BitVec 1) : (k0_part44 inM (Memref.isWhole_whole _) outM (Memref.isWhole_whole _) workM (Memref.isWhole_whole _) commM (Memref.isWhole_whole _)
      cc0_scratch2 cc0_scratch3 cc0_scratch4 cc0_scratch5 v2 b 0#32 : P (F := F) _) =
    (do
      xchgLoop b 1 (offC_inb 1)
      seqD v2 65536 (tabD.take 9) (pure 0#32)) := rfl

/-- The chain of one tile. -/
def tileChain (d0 : Dev nD) (v2 : BitVec 32) (t : Fin k0_t1_loop.trips) : P (F := F) PUnit := do
  getOp t
  gotOp t
  seqL tabL (seqD v2 8192 tabD (do
  sigOp ⟨k0_dev1 d0, k0_dev1_lt d0⟩ t 0
  rdyOp t 0
  sendOp ⟨k0_dev2 d0, k0_dev2_lt d0⟩ 0
  sentOp 0
  rcvdOp 0
  xchgLoop (keepW v2 1 (dirWord v2 16384)) 0 (offC_inb 0)
  seqD v2 16384 tabD (do
  sigOp ⟨k0_dev3 d0, k0_dev3_lt d0⟩ t 1
  rdyOp t 1
  sendOp ⟨k0_dev4 d0, k0_dev4_lt d0⟩ 1
  sentOp 1
  rcvdOp 1
  xchgLoop (keepW v2 2 (dirWord v2 32768)) 1 (offC_inb 1)
  sigOp ⟨k0_dev5 d0, k0_dev5_lt d0⟩ t 2
  rdyOp t 2
  sendOp ⟨k0_dev6 d0, k0_dev6_lt d0⟩ 0
  sentOp 0
  rcvdOp 0
  xchgLoop (keepW v2 1 (dirWord v2 32768)) 0 (offC_inb 0)
  seqD v2 32768 tabD (do
  sigOp ⟨k0_dev7 d0, k0_dev7_lt d0⟩ t 3
  rdyOp t 3
  sendOp ⟨k0_dev8 d0, k0_dev8_lt d0⟩ 1
  sentOp 1
  rcvdOp 1
  xchgLoop (keepW v2 4 (dirWord v2 65536)) 1 (offC_inb 1)
  sigOp ⟨k0_dev9 d0, k0_dev9_lt d0⟩ t 4
  rdyOp t 4
  sendOp ⟨k0_dev10 d0, k0_dev10_lt d0⟩ 0
  sentOp 0
  rcvdOp 0
  xchgLoop (keepW v2 2 (dirWord v2 65536)) 0 (offC_inb 0)
  sigOp ⟨k0_dev11 d0, k0_dev11_lt d0⟩ t 5
  rdyOp t 5
  sendOp ⟨k0_dev12 d0, k0_dev12_lt d0⟩ 1
  sentOp 1
  rcvdOp 1
  xchgLoop (keepW v2 1 (dirWord v2 65536)) 1 (offC_inb 1)
  seqD v2 65536 tabD (do
  putOp t
  putdOp t
  pure ⟨⟩)))))

theorem seqL_append {α : Type} (l l' : List (ℕ × ℕ)) (p : P (F := F) α) : seqL (l ++ l') p = seqL l (seqL l' p) := List.foldr_append
theorem seqD_append {α : Type} (v2 : BitVec 32) (n : ℕ) (l l' : List ℕ) (p : P (F := F) α) : seqD v2 n (l ++ l') p = seqD v2 n l (seqD v2 n l' p) :=
  List.foldr_append

theorem seqL_tab {α : Type} (p : P (F := F) α) : seqL tabL p = seqL (tabL.take 8) (seqL ((tabL.drop 8).take 10) (seqL ((tabL.drop 18).take 10)
    (seqL ((tabL.drop 28).take 10) (seqL ((tabL.drop 38).take 10) (seqL ((tabL.drop 48).take 10) (seqL ((tabL.drop 58).take 10)
    (seqL ((tabL.drop 68).take 10) p))))))) := by
  rw [← seqL_append, ← seqL_append, ← seqL_append, ← seqL_append, ← seqL_append, ← seqL_append, ← seqL_append]
  exact congrArg (fun l => seqL l p) (by decide)

theorem seqD_tab {α : Type} (v2 : BitVec 32) (n m : ℕ) (p : P (F := F) α) : seqD v2 n tabD p = seqD v2 n (tabD.take m) (seqD v2 n (tabD.drop m) p) := by
  rw [← seqD_append, List.take_append_drop]

theorem seqD_tab3 {α : Type} (v2 : BitVec 32) (n : ℕ) (p : P (F := F) α) :
    seqD v2 n tabD p = seqD v2 n (tabD.take 1) (seqD v2 n ((tabD.drop 1).take 10) (seqD v2 n (tabD.drop 11) p)) := by
  rw [← seqD_append, ← seqD_append]
  exact congrArg (fun l => seqD v2 n l p) (by decide)

/-- The kernel's word of its own device. -/
def myWord (d0 : Dev nD) : BitVec 32 := Scalar.remsi (Scalar.divsi (Dev.word d0) 1#32) 8#32

/-- The kernel's body is the loop of the tile chains. -/
theorem body_eq : (cc0_body inM (Memref.isWhole_whole _) outM (Memref.isWhole_whole _) workM (Memref.isWhole_whole _) commM (Memref.isWhole_whole _)
      cc0_scratch2 cc0_scratch3 cc0_scratch4 cc0_scratch5 : P (F := F) PUnit) = (do
    let d0 ← Prog.lift .deviceId
    Scf.Loop.for k0_t1_loop k0_t1_ok ⟨⟩ fun t _ => tileChain d0 (myWord d0) t
    pure ⟨⟩) := by
  unfold cc0_body
  simp only [part23_eq, part24_eq, part25_eq, part26_eq, part27_eq, part28_eq, part29_eq, part30_eq, part31_eq, part32_eq, part33_eq, part34_eq, part35_eq,
    part36_eq, part37_eq, part38_eq, part39_eq, part40_eq, part41_eq, part42_eq, part43_eq, part44_eq, bind_assoc, pure_bind, seqL_bind, seqD_bind]
  refine congrArg _ (funext fun d0 => ?_)
  refine congrArg (fun f => Scf.Loop.for k0_t1_loop k0_t1_ok PUnit.unit f >>= fun _ => Pure.pure PUnit.unit) (funext fun t => funext fun _ => ?_)
  unfold tileChain
  rw [seqL_tab, seqD_tab _ 8192 10, seqD_tab3 _ 16384, seqD_tab _ 32768 8, seqD_tab _ 65536 9]
  refine congrArg _ (funext fun _ => congrArg _ (funext fun _ => ?_))
  repeat (first | refine congrArg (seqL _) ?_ | refine congrArg (seqD _ _ _) ?_ | refine congrArg _ (funext fun _ => ?_))
  rfl

end Cert.Bitonic

end
-- ==== Proof.Vals.lean ====
/-
What the sorter's passes and exchanges compute, and the runs of whole stretches of passes.
-/
module

public import proofs.«01_k».proof.Proof.Parts

@[expose] public section

noncomputable section

namespace Cert.Bitonic

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ## The schedule of exchanges -/

/-- The device bit that exchange `E` crosses, and the power of two whose bit of the row gives its direction. -/
def jd (E : ℕ) : ℕ := match E % 6 with
  | 0 => 1
  | 1 => 2
  | 2 => 1
  | 3 => 4
  | 4 => 2
  | _ => 1
def kd (E : ℕ) : ℕ := match E % 6 with
  | 0 => 14
  | 1 => 15
  | 2 => 15
  | _ => 16

theorem jd_mod (E : ℕ) : jd (E % 6) = jd E := by unfold jd; rw [Nat.mod_mod]
theorem kd_mod (E : ℕ) : kd (E % 6) = kd E := by unfold kd; rw [Nat.mod_mod]
theorem jd_add (E : ℕ) : jd (E + 6) = jd E := by unfold jd; rw [Nat.add_mod_right]

theorem jd_cases (E : ℕ) : jd E = 1 ∨ jd E = 2 ∨ jd E = 4 := by
  unfold jd; split <;> simp

theorem prt_lt (c : Dev nD) (E : ℕ) : c.val ^^^ jd E < nD := by
  rcases jd_cases E with h | h | h <;> rw [h] <;> revert c <;> decide

/-- The device that device `c` meets in exchange `E`. -/
def prt (c : Dev nD) (E : ℕ) : Dev nD := ⟨c.val ^^^ jd E, prt_lt c E⟩

theorem prt_prt (c : Dev nD) (E : ℕ) : prt (prt c E) E = c := by
  refine Fin.ext ?_
  show c.val ^^^ jd E ^^^ jd E = c.val
  rw [Nat.xor_assoc, Nat.xor_self, Nat.xor_zero]
theorem prt_add (c : Dev nD) (E : ℕ) : prt c (E + 6) = prt c E := Fin.ext (by show _ ^^^ jd _ = _ ^^^ jd _; rw [jd_add])
theorem prt_mod (c : Dev nD) (E : ℕ) : prt c (E % 6) = prt c E := Fin.ext (by show _ ^^^ jd _ = _ ^^^ jd _; rw [jd_mod])

/-- The exchange as a permutation of the devices. -/
def swp (E : ℕ) : Equiv.Perm (Dev nD) := ⟨fun c => prt c E, fun c => prt c E, fun c => prt_prt c E, fun c => prt_prt c E⟩

/-! ## Values -/

/-- The passes inside a block, and a merge of the block in the direction of the device's bit `2^n`. -/
def locV (f : Blk F) : Blk F := tabL.foldl (fun f x => cx (2 ^ x.1) (upL x.2) f) f
def merV (c : Dev nD) (n : ℕ) (f : Blk F) : Blk F := tabD.foldl (fun f s => cx (2 ^ s) (fun _ => upD c n) f) f

/-- Whether device `c` keeps the smaller values in exchange `E`. -/
def keepU (c : Dev nD) (E : ℕ) : Bool := decide (c.val / jd E % 2 = 0) == upD c (kd E)

/-- What follows exchange `e` of a tile before the next exchange: a merge, or nothing. -/
def post (c : Dev nD) (e : ℕ) (f : Blk F) : Blk F := match e with
  | 0 => merV c 14 f
  | 2 => merV c 15 f
  | 5 => merV c 16 f
  | _ => f

/-- The work blocks of all devices before exchange `e` of a tile that began at the blocks `x`. -/
def pre (x : Dev nD → Blk F) : ℕ → Dev nD → Blk F
  | 0, c => merV c 13 (locV (x c))
  | e + 1, c => post c e (keepB (keepU c e) (pre x e c) (pre x e (prt c e)))

/-- The tile's block of an input of the devices. -/
def inBlk (X : Dev nD → S8192x1024.Idx → F .f32) (t : ℕ) (c : Dev nD) : Blk F :=
  fun i => X c (ix2 (i 0) ⟨(256 * t + (i 1).val) % 1024, Nat.mod_lt _ (by norm_num)⟩)

/-- The work block of device `c` before exchange `E`. -/
def xw (X : Dev nD → S8192x1024.Idx → F .f32) (E : ℕ) (c : Dev nD) : Blk F := pre (inBlk X (E / 6)) (E % 6) c
/-- The work block of device `c` when tile `t` is done. -/
def fin (X : Dev nD → S8192x1024.Idx → F .f32) (t : ℕ) (c : Dev nD) : Blk F := pre (inBlk X t) 6 c

/-! ## Stretches of passes -/

theorem passL_run (c : Dev nD) (s k n : ℕ) (hs : s ≤ 12) (hk : k = 2 ^ n) (hn : n ≤ 13) (hj : 2 * 2 ^ s ∣ 2 ^ n) (f : Blk F) :
    workPts c f ⊢ Wp c (passL s k) (fun _ => workPts c (cx (2 ^ s) (upL k) f)) := by
  interval_cases s
  · exact smallL_run c geo256 k n hk hn hj f
  · exact smallL_run c geo128 k n hk hn hj f
  · exact smallL_run c geo64 k n hk hn hj f
  · exact smallL_run c geo32 k n hk hn hj f
  · exact smallL_run c geo16 k n hk hn hj f
  · exact smallL_run c geo8 k n hk hn hj f
  · exact smallL_run c geo4 k n hk hn hj f
  · exact smallL_run c geo2 k n hk hn hj f
  · exact smallL_run c geo1 k n hk hn hj f
  · exact bigL_run c big1 k n hk hn hj f
  · exact bigL_run c big2 k n hk hn hj f
  · exact bigL_run c big4 k n hk hn hj f
  · exact bigL_run c big8 k n hk hn hj f

theorem passD_run (c : Dev nD) (v2 : BitVec 32) (s k : ℕ) (b : Bool) (hs : s ≤ 12) (hb : dirWord v2 k = if b then 1 else 0) (f : Blk F) :
    workPts c f ⊢ Wp c (passD v2 k s) (fun _ => workPts c (cx (2 ^ s) (fun _ => b) f)) := by
  interval_cases s
  · exact smallD_run c geo256 v2 k b hb f
  · exact smallD_run c geo128 v2 k b hb f
  · exact smallD_run c geo64 v2 k b hb f
  · exact smallD_run c geo32 v2 k b hb f
  · exact smallD_run c geo16 v2 k b hb f
  · exact smallD_run c geo8 v2 k b hb f
  · exact smallD_run c geo4 v2 k b hb f
  · exact smallD_run c geo2 v2 k b hb f
  · exact smallD_run c geo1 v2 k b hb f
  · exact bigD_run c big1 v2 k b hb f
  · exact bigD_run c big2 v2 k b hb f
  · exact bigD_run c big4 v2 k b hb f
  · exact bigD_run c big8 v2 k b hb f

/-- A program on the work block, run beside a frame and before another program. -/
theorem Wp_work {c : Dev nD} {α : Type} {q : P (F := F) PUnit} {p : P (F := F) α} {R : sProp 𝕄} {Q : α → sProp 𝕄} {f g : Blk F}
    (h : workPts c f ⊢ Wp c q (fun _ => workPts c g)) (h' : iprop(workPts c g ∗ R) ⊢ Wp c p Q) :
    iprop(workPts c f ∗ R) ⊢ Wp c (q >>= fun _ => p) Q :=
  Wp_seq (B := fun _ => iprop(workPts c g ∗ R))
    (BIBase.Entails.trans (Q := iprop(Wp c q (fun _ => workPts c g) ∗ R)) (sep_mono_left h) (wp_frame_r _ _ _)) (fun _ => h')

/-- A stretch of passes whose directions the rows decide. -/
theorem seqL_run (c : Dev nD) {α : Type} (l : List (ℕ × ℕ)) (hl : ∀ x ∈ l, x.1 ≤ 12 ∧ ∃ n, x.2 = 2 ^ n ∧ n ≤ 13 ∧ 2 * 2 ^ x.1 ∣ 2 ^ n)
    (f : Blk F) {p : P (F := F) α} {R : sProp 𝕄} {Q : α → sProp 𝕄}
    (h : iprop(workPts c (l.foldl (fun f x => cx (2 ^ x.1) (upL x.2) f) f) ∗ R) ⊢ Wp c p Q) : iprop(workPts c f ∗ R) ⊢ Wp c (seqL l p) Q := by
  induction l generalizing f with
  | nil => exact h
  | cons x l ih =>
    obtain ⟨hs, n, hk, hn, hj⟩ := hl x (List.mem_cons_self ..)
    exact Wp_work (passL_run c x.1 x.2 n hs hk hn hj f) (ih (fun y hy => hl y (List.mem_cons_of_mem _ hy)) _ h)

theorem seqD_run (c : Dev nD) {α : Type} (v2 : BitVec 32) (k : ℕ) (b : Bool) (hb : dirWord v2 k = if b then 1 else 0) (l : List ℕ) (hl : ∀ s ∈ l, s ≤ 12)
    (f : Blk F) {p : P (F := F) α} {R : sProp 𝕄} {Q : α → sProp 𝕄}
    (h : iprop(workPts c (l.foldl (fun f s => cx (2 ^ s) (fun _ => b) f) f) ∗ R) ⊢ Wp c p Q) : iprop(workPts c f ∗ R) ⊢ Wp c (seqD v2 k l p) Q := by
  induction l generalizing f with
  | nil => exact h
  | cons s l ih =>
    exact Wp_work (passD_run c v2 s k b (hl s (List.mem_cons_self ..)) hb f) (ih (fun y hy => hl y (List.mem_cons_of_mem _ hy)) _ h)

theorem tabL_good : ∀ x ∈ tabL, x.1 ≤ 12 ∧ ∃ n, x.2 = 2 ^ n ∧ n ≤ 13 ∧ 2 * 2 ^ x.1 ∣ 2 ^ n := by
  have h : ∀ x ∈ tabL, x.1 ≤ 12 ∧ ∃ n ∈ List.range 14, x.2 = 2 ^ n ∧ n ≤ 13 ∧ 2 * 2 ^ x.1 ∣ 2 ^ n := by decide +kernel
  intro x hx
  obtain ⟨h1, n, -, h2⟩ := h x hx
  exact ⟨h1, n, h2⟩

theorem dir_13 : ∀ c : Dev nD, dirWord (myWord c) 8192 = if upD c 13 then 1 else 0 := by decide +kernel
theorem dir_14 : ∀ c : Dev nD, dirWord (myWord c) 16384 = if upD c 14 then 1 else 0 := by decide +kernel
theorem dir_15 : ∀ c : Dev nD, dirWord (myWord c) 32768 = if upD c 15 then 1 else 0 := by decide +kernel
theorem dir_16 : ∀ c : Dev nD, dirWord (myWord c) 65536 = if upD c 16 then 1 else 0 := by decide +kernel

/-- The passes inside a block and the first merge. -/
theorem local_run (c : Dev nD) {α : Type} (f : Blk F) {p : P (F := F) α} {R : sProp 𝕄} {Q : α → sProp 𝕄}
    (h : iprop(workPts c (merV c 13 (locV f)) ∗ R) ⊢ Wp c p Q) : iprop(workPts c f ∗ R) ⊢ Wp c (seqL tabL (seqD (myWord c) 8192 tabD p)) Q :=
  seqL_run c tabL tabL_good f (seqD_run c (myWord c) 8192 (upD c 13) (dir_13 c) tabD (by decide) _ h)

/-- A merge. -/
theorem merge_run (c : Dev nD) {α : Type} (n k : ℕ) (hk : dirWord (myWord c) k = if upD c n then 1 else 0) (f : Blk F) {p : P (F := F) α} {R : sProp 𝕄}
    {Q : α → sProp 𝕄} (h : iprop(workPts c (merV c n f) ∗ R) ⊢ Wp c p Q) : iprop(workPts c f ∗ R) ⊢ Wp c (seqD (myWord c) k tabD p) Q :=
  seqD_run c (myWord c) k (upD c n) hk tabD (by decide) _ h

theorem keep_0 : ∀ c : Dev nD, keepW (myWord c) 1 (dirWord (myWord c) 16384) = if keepU c 0 then 1 else 0 := by decide +kernel
theorem keep_1 : ∀ c : Dev nD, keepW (myWord c) 2 (dirWord (myWord c) 32768) = if keepU c 1 then 1 else 0 := by decide +kernel
theorem keep_2 : ∀ c : Dev nD, keepW (myWord c) 1 (dirWord (myWord c) 32768) = if keepU c 2 then 1 else 0 := by decide +kernel
theorem keep_3 : ∀ c : Dev nD, keepW (myWord c) 4 (dirWord (myWord c) 65536) = if keepU c 3 then 1 else 0 := by decide +kernel
theorem keep_4 : ∀ c : Dev nD, keepW (myWord c) 2 (dirWord (myWord c) 65536) = if keepU c 4 then 1 else 0 := by decide +kernel
theorem keep_5 : ∀ c : Dev nD, keepW (myWord c) 1 (dirWord (myWord c) 65536) = if keepU c 5 then 1 else 0 := by decide +kernel

/-- The device words of the exchanges name the partners. -/
theorem dev_1 : ∀ c : Dev nD, (⟨k0_dev1 c, k0_dev1_lt c⟩ : Dev nD) = prt c 0 := by decide +kernel
theorem dev_2 : ∀ c : Dev nD, (⟨k0_dev2 c, k0_dev2_lt c⟩ : Dev nD) = prt c 0 := by decide +kernel
theorem dev_3 : ∀ c : Dev nD, (⟨k0_dev3 c, k0_dev3_lt c⟩ : Dev nD) = prt c 1 := by decide +kernel
theorem dev_4 : ∀ c : Dev nD, (⟨k0_dev4 c, k0_dev4_lt c⟩ : Dev nD) = prt c 1 := by decide +kernel
theorem dev_5 : ∀ c : Dev nD, (⟨k0_dev5 c, k0_dev5_lt c⟩ : Dev nD) = prt c 2 := by decide +kernel
theorem dev_6 : ∀ c : Dev nD, (⟨k0_dev6 c, k0_dev6_lt c⟩ : Dev nD) = prt c 2 := by decide +kernel
theorem dev_7 : ∀ c : Dev nD, (⟨k0_dev7 c, k0_dev7_lt c⟩ : Dev nD) = prt c 3 := by decide +kernel
theorem dev_8 : ∀ c : Dev nD, (⟨k0_dev8 c, k0_dev8_lt c⟩ : Dev nD) = prt c 3 := by decide +kernel
theorem dev_9 : ∀ c : Dev nD, (⟨k0_dev9 c, k0_dev9_lt c⟩ : Dev nD) = prt c 4 := by decide +kernel
theorem dev_10 : ∀ c : Dev nD, (⟨k0_dev10 c, k0_dev10_lt c⟩ : Dev nD) = prt c 4 := by decide +kernel
theorem dev_11 : ∀ c : Dev nD, (⟨k0_dev11 c, k0_dev11_lt c⟩ : Dev nD) = prt c 5 := by decide +kernel
theorem dev_12 : ∀ c : Dev nD, (⟨k0_dev12 c, k0_dev12_lt c⟩ : Dev nD) = prt c 5 := by decide +kernel

end Cert.Bitonic

end
-- ==== Proof.Proto.lean ====
/-
The protocol of the sorter: what each semaphore cell's rounds carry, what each device owes, and the levels.
-/
module

public import proofs.«01_k».proof.Proof.Vals

@[expose] public section

noncomputable section

namespace Cert.Bitonic

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ## Cells -/

/-- The kernel's semaphores: the eight ready semaphores, the copy semaphore, two send and two receive semaphores. -/
def osem : Fin 13 → SemLoc sig :=
  ![.reg 0, .reg 1, .reg 2, .reg 3, .reg 4, .reg 5, .reg 6, .reg 7, .dma 0, .dma 1, .dma 2, .dma 3, .dma 4]

def kcell (ck : Dev nD × Fin 13) : GSem nD τ sig := ((ck.1 : Thread nD τ), osem ck.2)

/-- The places of exchange `i`'s ready, send and receive semaphores among the thirteen. -/
def kr (i : ℕ) : Fin 13 := ⟨i % 8, by omega⟩
def ks (i : ℕ) : Fin 13 := ⟨9 + i % 2, by omega⟩
def kv (i : ℕ) : Fin 13 := ⟨11 + i % 2, by omega⟩

def rS (i : ℕ) : SemLoc sig := .reg ⟨i % 8, Nat.mod_lt _ (by norm_num)⟩
def sS (i : ℕ) : SemLoc sig := .dma ⟨1 + i % 2, by have := Nat.mod_lt i (show 2 > 0 by norm_num); show 1 + i % 2 < 5; omega⟩
def vS (i : ℕ) : SemLoc sig := .dma ⟨3 + i % 2, by have := Nat.mod_lt i (show 2 > 0 by norm_num); show 3 + i % 2 < 5; omega⟩
def cS : SemLoc sig := .dma 0

abbrev rdyC (c : Dev nD) (i : ℕ) : GSem nD τ sig := ((c : Thread nD τ), rS i)
abbrev sndC (c : Dev nD) (i : ℕ) : GSem nD τ sig := ((c : Thread nD τ), sS i)
abbrev rcvC (c : Dev nD) (i : ℕ) : GSem nD τ sig := ((c : Thread nD τ), vS i)
abbrev cpyC (c : Dev nD) : GSem nD τ sig := ((c : Thread nD τ), cS)

theorem osem_kr (i : ℕ) : osem (kr i) = rS i := by
  have h : ∀ h : Fin 8, osem ⟨h.val, by omega⟩ = .reg h := by decide
  exact h ⟨i % 8, Nat.mod_lt _ (by norm_num)⟩
theorem osem_ks (i : ℕ) : osem (ks i) = sS i := by
  have h : ∀ h : Fin 2, osem ⟨9 + h.val, by omega⟩ = .dma ⟨1 + h.val, by show 1 + h.val < 5; omega⟩ := by decide
  exact h ⟨i % 2, Nat.mod_lt _ (by norm_num)⟩
theorem osem_kv (i : ℕ) : osem (kv i) = vS i := by
  have h : ∀ h : Fin 2, osem ⟨11 + h.val, by omega⟩ = .dma ⟨3 + h.val, by show 3 + h.val < 5; omega⟩ := by decide
  exact h ⟨i % 2, Nat.mod_lt _ (by norm_num)⟩
theorem osem_8 : osem 8 = cS := rfl

/-- The landing slot of exchange `i`. -/
def sl (i : ℕ) : Fin 2 := ⟨i % 2, Nat.mod_lt _ (by norm_num)⟩

/-! ## The schedule -/

/-- The credit of a transfer of a block. -/
@[irreducible] def N : ℕ := (workM : Memref sig .tc .vmem S8192x256 .f32).view.dmaCredit
theorem N_eq : N = (workM : Memref sig .tc .vmem S8192x256 .f32).view.dmaCredit := by unfold N; rfl
theorem N_pos : 0 < N := by rw [N_eq]; exact View.dmaCredit_pos _ (by decide +kernel)

/-- The tile's columns of the input and of the output, as parts of the arrays. -/
def inPts (c : Dev nD) (t : Fin k0_t1_loop.trips) (f : S8192x1024.Idx → F .f32) : sProp 𝕄 :=
  (inT t).view.loc (c : Thread nD τ) ↦[(inT t).view.set]{fullShare} (f : Buf (Elt F) ((inT t).view.loc (c : Thread nD τ)))
def outPts (c : Dev nD) (t : Fin k0_t1_loop.trips) (f : S8192x1024.Idx → F .f32) : sProp 𝕄 :=
  (outT t).view.loc (c : Thread nD τ) ↦[(outT t).view.set]{fullShare} (f : Buf (Elt F) ((outT t).view.loc (c : Thread nD τ)))

/-- The tile's number as a trip of the loop. -/
def tr (t : ℕ) : Fin k0_t1_loop.trips := ⟨t % 4, by have h : k0_t1_loop.trips = 4 := by decide
                                                    rw [h]; exact Nat.mod_lt _ (by norm_num)⟩

variable (X : Dev nD → S8192x1024.Idx → F .f32)

/-- The output's columns of tile `t` done, all others as `f`. -/
def outV (t : ℕ) (c : Dev nD) (f : S8192x1024.Idx → F .f32) : S8192x1024.Idx → F .f32 := fun i =>
  if (i 1).val / 256 = t then fin X t c (ix2 (i 0) ⟨(i 1).val % 256, Nat.mod_lt _ (by norm_num)⟩) else f i

/-- What a ready signal of exchange `E` brings device `c`: its partner's landing slot, that the partner's receive cell has reached the
    exchange's round, and that the partner's ready cell has reached the round of the exchange six later. -/
def rdyPay (c : Dev nD) (E : ℕ) : sProp 𝕄 :=
  iprop((∃ f, slotPts (prt c E) (sl E) f) ∗ reached ER (rcvC (prt c E) E) (E / 2) ∗ reached ER (rdyC (prt c E) (E + 6)) ((E + 6) / 8))
/-- What a landing of exchange `E` brings: the slot holding the partner's block. -/
def rcvPay (c : Dev nD) (E : ℕ) : sProp 𝕄 := slotPts c (sl E) (both (xw X E (prt c E)))
/-- What a finished send of exchange `E` brings back: the own block. -/
def sndPay (c : Dev nD) (E : ℕ) : sProp 𝕄 := workPts c (xw X E c)
/-- What the copies of tile `r / 2` bring: the copy in the work block and the input's columns, or the output's columns and the work block. -/
def cpyPay (c : Dev nD) (r : ℕ) : sProp 𝕄 :=
  if r % 2 = 0 then iprop(workPts c (inBlk X (r / 2) c) ∗ inPts c (tr (r / 2)) (X c))
  else iprop((∃ f, outPts c (tr (r / 2)) (outV X (r / 2) c f)) ∗ workPts c (fin X (r / 2) c))

/-- How many rounds a semaphore has. -/
def lim : SemLoc sig → ℕ
  | .reg _ => 3
  | .dma q => if q.val = 0 then 8 else 12

def pay (c : Dev nD) (sm : SemLoc sig) (r : ℕ) : sProp 𝕄 := match sm with
  | .reg h => rdyPay c (8 * r + h.val)
  | .dma q => if q.val = 0 then cpyPay X c r
    else if q.val ≤ 2 then sndPay X c (2 * r + (q.val - 1))
    else rcvPay X c (2 * r + (q.val - 3))

def amt : SemLoc sig → ℕ
  | .reg _ => 1
  | .dma _ => N

/-- The rounds of every cell. -/
def Rd : Rounds.Schedule (GSem nD τ sig) Unit 𝕄 where
  duties g r := if g.1.2 = .tc ∧ r < lim g.2 then {()} else ∅
  unitless _ := False
  amount g _ _ := amt g.2
  payload g r _ := pay X g.1.1 g.2 r
  amount_pos g _ _ _ := by
    unfold amt; split
    · exact Nat.one_pos
    · exact N_pos

instance slotPts_storable (c : Dev nD) (s : Fin 2) (f : Two F) : BI.Storable (upEmb : UEmb _ 𝕄) (slotPts c s f) := by unfold slotPts; infer_instance
instance workPts_storable (c : Dev nD) (f : Blk F) : BI.Storable (upEmb : UEmb _ 𝕄) (workPts c f) := by unfold workPts; infer_instance
instance inPts_storable (c : Dev nD) (t) (f : S8192x1024.Idx → F .f32) : BI.Storable (upEmb : UEmb _ 𝕄) (inPts c t f) := by unfold inPts; infer_instance
instance outPts_storable (c : Dev nD) (t) (f : S8192x1024.Idx → F .f32) : BI.Storable (upEmb : UEmb _ 𝕄) (outPts c t f) := by unfold outPts; infer_instance

instance Rd_payload_storable (g : GSem nD τ sig) (r : ℕ) (d : Unit) : BI.Storable (upEmb : UEmb _ 𝕄) ((Rd X).payload g r d) := by
  show BI.Storable upEmb (pay X g.1.1 g.2 r)
  unfold pay rdyPay cpyPay sndPay rcvPay
  (repeat' split) <;> infer_instance

theorem duties_in (c : Dev nD) (sm : SemLoc sig) (r : ℕ) (h : r < lim sm) : (Rd X).duties ((c : Thread nD τ), sm) r = {()} := if_pos ⟨rfl, h⟩
theorem duties_out (g : GSem nD τ sig) : ∀ r, lim g.2 ≤ r → (Rd X).duties g r = ∅ := fun r h => if_neg fun h' => absurd h'.2 (by omega)
theorem expect_in (c : Dev nD) (sm : SemLoc sig) (r : ℕ) (h : r < lim sm) : (Rd X).expect ((c : Thread nD τ), sm) r = amt sm := by
  unfold Schedule.expect Schedule.amountOf; rw [duties_in X c sm r h, Finset.sum_singleton]; rfl
theorem rest_in (c : Dev nD) (sm : SemLoc sig) (r : ℕ) (h : r < lim sm) :
    bigSep ((Rd X).duties ((c : Thread nD τ), sm) r \ ∅) (fun u => (Rd X).payload ((c : Thread nD τ), sm) r u) = pay X c sm r := by
  rw [Finset.sdiff_empty, duties_in X c sm r h, bigSep_singleton]; rfl

theorem lim_r {E : ℕ} (h : E < 24) : E / 8 < lim (rS E) := by show E / 8 < 3; omega
theorem lim_s {E : ℕ} (h : E < 24) : E / 2 < lim (sS E) := by
  show E / 2 < if 1 + E % 2 = 0 then 8 else 12
  rw [if_neg (by omega)]; omega
theorem lim_v {E : ℕ} (h : E < 24) : E / 2 < lim (vS E) := by
  show E / 2 < if 3 + E % 2 = 0 then 8 else 12
  rw [if_neg (by omega)]; omega
theorem lim_c {r : ℕ} (h : r < 8) : r < lim cS := h

theorem pay_reg (c : Dev nD) (h : Sem sig) (r : ℕ) : pay X c (.reg h) r = rdyPay c (8 * r + h.val) := by unfold pay; rfl
theorem pay_dma_c (c : Dev nD) (q : DmaSem sig) (r : ℕ) (h : q.val = 0) : pay X c (.dma q) r = cpyPay X c r := by
  unfold pay; exact if_pos h
theorem pay_dma_s (c : Dev nD) (q : DmaSem sig) (r : ℕ) (h : q.val ≠ 0) (h' : q.val ≤ 2) : pay X c (.dma q) r = sndPay X c (2 * r + (q.val - 1)) := by
  unfold pay; exact (if_neg h).trans (if_pos h')
theorem pay_dma_v (c : Dev nD) (q : DmaSem sig) (r : ℕ) (h : q.val ≠ 0) (h' : ¬q.val ≤ 2) : pay X c (.dma q) r = rcvPay X c (2 * r + (q.val - 3)) := by
  unfold pay; exact (if_neg h).trans (if_neg h')

theorem pay_r (c : Dev nD) (E : ℕ) : pay X c (rS E) (E / 8) = rdyPay c E :=
  (pay_reg X c _ _).trans (congrArg (rdyPay c) (Nat.div_add_mod E 8))
theorem pay_s (c : Dev nD) (E : ℕ) : pay X c (sS E) (E / 2) = sndPay X c E :=
  (pay_dma_s X c _ _ (by dsimp only; omega) (by dsimp only; omega)).trans (congrArg (sndPay X c) (by dsimp only; omega))
theorem pay_v (c : Dev nD) (E : ℕ) : pay X c (vS E) (E / 2) = rcvPay X c E :=
  (pay_dma_v X c _ _ (by dsimp only; omega) (by dsimp only; omega)).trans (congrArg (rcvPay X c) (by dsimp only; omega))
theorem pay_c (c : Dev nD) (r : ℕ) : pay X c cS r = cpyPay X c r := pay_dma_c X c _ _ rfl

theorem amt_r (E : ℕ) : amt (rS E) = 1 := rfl
theorem amt_s (E : ℕ) : amt (sS E) = N := rfl
theorem amt_v (E : ℕ) : amt (vS E) = N := rfl
theorem amt_c : amt cS = N := rfl

/-! ## Debts and levels -/

theorem Ico_first {n m : ℕ} (h : n < m) : Finset.Ico n m = insert n (Finset.Ico (n + 1) m) := by
  ext i; simp only [Finset.mem_insert, Finset.mem_Ico]; omega
theorem Ico_last {n m : ℕ} (h : n ≤ m) : Finset.Ico n (m + 1) = insert m (Finset.Ico n m) := by
  ext i; simp only [Finset.mem_insert, Finset.mem_Ico]; omega

/-- What device `c` owes its partner for exchange `i`. -/
def owe1 (c : Dev nD) (i : ℕ) : CellTallies nD τ sig ℕ := tallyAt (rcvC (prt c i) i) i N + tallyAt (rdyC (prt c i) i) i 1
/-- What device `c` owes from exchange `E` on. -/
def owe (c : Dev nD) (E : ℕ) : CellTallies nD τ sig ℕ := ∑ i ∈ Finset.Ico E 24, owe1 c i

theorem owe_step (c : Dev nD) {E : ℕ} (h : E < 24) : owe c E = owe c (E + 1) + owe1 c E := by
  unfold owe; rw [Ico_first h, Finset.sum_insert (by simp), add_comm]
theorem owe_end (c : Dev nD) : owe c 24 = 0 := by unfold owe; rw [Finset.Ico_self, Finset.sum_empty]

def L (g : GSem nD τ sig) : Finset ℕ := if g.1.2 = .tc then Finset.range 24 else ∅
def lv (g : GSem nD τ sig) (i : ℕ) : ℕ := match g.2 with
  | .reg _ => 2 * i + 1
  | .dma q => if q.val ≤ 2 then 0 else 2 * i + 2

theorem L_of_ne (g : GSem nD τ sig) (h : g.1.2 ≠ .tc) : L g = ∅ := if_neg h
theorem L_tc (c : Dev nD) (sm : SemLoc sig) : L ((c : Thread nD τ), sm) = Finset.range 24 := if_pos rfl

theorem lv_r (c : Dev nD) (i : ℕ) : lv (rdyC c i) i = 2 * i + 1 := rfl
theorem lv_v (c : Dev nD) (i : ℕ) : lv (rcvC c i) i = 2 * i + 2 := by
  show (if 3 + i % 2 ≤ 2 then 0 else 2 * i + 2) = _
  rw [if_neg (by omega)]
theorem lv_s (c : Dev nD) (i j : ℕ) : lv (sndC c i) j = 0 := by
  show (if 1 + i % 2 ≤ 2 then 0 else 2 * j + 2) = _
  rw [if_pos (by omega)]
theorem lv_c (c : Dev nD) (j : ℕ) : lv (cpyC c) j = 0 := rfl

theorem owe1_pos {c : Dev nD} {i : ℕ} {g : GSem nD τ sig} {u : ℕ} (h : 0 < owe1 c i g u) : u = i ∧ (g = rcvC (prt c i) i ∨ g = rdyC (prt c i) i) := by
  unfold owe1 at h
  rw [Pi.add_apply, Finsupp.add_apply, tallyAt_apply, tallyAt_apply] at h
  by_cases h1 : g = rcvC (prt c i) i ∧ u = i
  · exact ⟨h1.2, Or.inl h1.1⟩
  · by_cases h2 : g = rdyC (prt c i) i ∧ u = i
    · exact ⟨h2.2, Or.inr h2.1⟩
    · rw [if_neg h1, if_neg h2] at h; exact absurd h (Nat.lt_irrefl 0)

theorem owe_apply (c : Dev nD) (E : ℕ) (g : GSem nD τ sig) (u : ℕ) : owe c E g u = ∑ i ∈ Finset.Ico E 24, owe1 c i g u := by
  unfold owe; rw [Finset.sum_apply, Finsupp.finset_sum_apply]

theorem owe_pos {c : Dev nD} {E : ℕ} {g : GSem nD τ sig} {u : ℕ} (h : 0 < owe c E g u) :
    E ≤ u ∧ u < 24 ∧ (g = rcvC (prt c u) u ∨ g = rdyC (prt c u) u) := by
  rw [owe_apply] at h
  obtain ⟨i, hi, h'⟩ := Finset.exists_ne_zero_of_sum_ne_zero (Nat.pos_iff_ne_zero.mp h)
  obtain ⟨rfl, h2⟩ := owe1_pos (Nat.pos_of_ne_zero h')
  exact ⟨(Finset.mem_Ico.mp hi).1, (Finset.mem_Ico.mp hi).2, h2⟩

/-- A wait at a level below everything owed is allowed. -/
theorem mayWait (c : Dev nD) (sm : SemLoc sig) (i cut : ℕ) (hi : i < 24) (hl : lv ((c : Thread nD τ), sm) i ≤ cut) (O : CellTallies nD τ sig ℕ)
    (hO : ∀ g u, 0 < O g u → u < 24 ∧ cut < lv g u ∧ g.1.2 = .tc) : (levAts L lv : sProp 𝕄) ⊢ MayWait (c : Thread nD τ) sm i O :=
  MayOwe.of_cut (L := L) (lev := lv) cut (fun p hp => by rw [Finset.mem_singleton.mp hp, L_tc]; exact Finset.mem_range.mpr hi)
    (fun g u hg => by obtain ⟨h1, -, h3⟩ := hO g u hg; unfold L; rw [if_pos h3]; exact Finset.mem_range.mpr h1)
    (fun p hp => by rw [Finset.mem_singleton.mp hp]; exact hl)
    (fun g u hg => (hO g u hg).2.1)

/-- Everything owed from exchange `E` on lies above level `2 * E`. -/
theorem owe_lv {c : Dev nD} {E : ℕ} {g : GSem nD τ sig} {u : ℕ} (h : 0 < owe c E g u) : u < 24 ∧ 2 * E < lv g u ∧ g.1.2 = .tc := by
  obtain ⟨h1, h2, rfl | rfl⟩ := owe_pos h
  · exact ⟨h2, by rw [lv_v]; omega, rfl⟩
  · exact ⟨h2, by rw [lv_r]; omega, rfl⟩

theorem owe_lv' {c : Dev nD} {E : ℕ} (hE : E < 24) {g : GSem nD τ sig} {u : ℕ} (h : 0 < (owe c (E + 1) + tallyAt (rcvC (prt c E) E) E N) g u) :
    u < 24 ∧ 2 * E + 1 < lv g u ∧ g.1.2 = .tc := by
  rw [Pi.add_apply, Finsupp.add_apply] at h
  rcases Nat.add_pos_iff_pos_or_pos.mp h with h | h
  · obtain ⟨h1, h2, h3⟩ := owe_lv h; exact ⟨h1, by omega, h3⟩
  · rw [tallyAt_apply] at h
    by_cases h' : g = rcvC (prt c E) E ∧ u = E
    · obtain ⟨rfl, rfl⟩ := h'; exact ⟨hE, by rw [lv_v]; omega, rfl⟩
    · rw [if_neg h'] at h; exact absurd h (Nat.lt_irrefl 0)

/-! ## Sums that move along the exchanges -/

/-- Facts known up to exchange `n`. -/
def upTo (n : ℕ) (Φ : ℕ → sProp 𝕄) : sProp 𝕄 := bigSep (Finset.range n) Φ
instance upTo_persistent (n : ℕ) (Φ : ℕ → sProp 𝕄) [∀ i, BI.Persistent (Φ i)] : BI.Persistent (upTo n Φ) := by unfold upTo; infer_instance
theorem upTo_get {n i : ℕ} (h : i < n) (Φ : ℕ → sProp 𝕄) : upTo n Φ ⊢ Φ i := bigSep_elim (Finset.mem_range.mpr h)
theorem upTo_succ (n : ℕ) (Φ : ℕ → sProp 𝕄) : upTo (n + 1) Φ = iprop(Φ n ∗ upTo n Φ) := by
  unfold upTo; rw [Finset.range_add_one]; exact bigSep_insert Finset.notMem_range_self

/-- What is left for the exchanges from `n` on, up to `m`. -/
def from' (n m : ℕ) (Φ : ℕ → sProp 𝕄) : sProp 𝕄 := bigSep (Finset.Ico n m) Φ
theorem from_first {n m : ℕ} (h : n < m) (Φ : ℕ → sProp 𝕄) : from' n m Φ = iprop(Φ n ∗ from' (n + 1) m Φ) := by
  unfold from'; rw [Ico_first h]; exact bigSep_insert (by simp)
theorem from_last {n m : ℕ} (h : n ≤ m) (Φ : ℕ → sProp 𝕄) : from' n (m + 1) Φ = iprop(Φ m ∗ from' n m Φ) := by
  unfold from'; rw [Ico_last h]; exact bigSep_insert (by simp)

end Cert.Bitonic

end
-- ==== Proof.Exch.lean ====
/-
One exchange of the sorter, run once for every exchange.
-/
module

public import proofs.«01_k».proof.Proof.Proto

@[expose] public section

noncomputable section

namespace Cert.Bitonic

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ## Semaphores by exchange -/

def rX (i : ℕ) : Sem sig := ⟨i % 8, Nat.mod_lt _ (by norm_num)⟩
def sX (i : ℕ) : DmaSem sig := ⟨1 + i % 2, by have := Nat.mod_lt i (show 2 > 0 by norm_num); show 1 + i % 2 < 5; omega⟩
def vX (i : ℕ) : DmaSem sig := ⟨3 + i % 2, by have := Nat.mod_lt i (show 2 > 0 by norm_num); show 3 + i % 2 < 5; omega⟩

theorem rdySem_eq : ∀ (t : Fin k0_t1_loop.trips) (e : Fin 6), rdySem t e = rX (6 * t.val + e.val) := by decide +kernel
theorem sndSem_eq (E : ℕ) : sndSem (sl E) = sX E := by
  have h : ∀ s : Fin 2, sndSem s = ⟨1 + s.val, by show 1 + s.val < 5; omega⟩ := by decide +kernel
  exact h (sl E)
theorem rcvSem_eq (E : ℕ) : rcvSem (sl E) = vX E := by
  have h : ∀ s : Fin 2, rcvSem s = ⟨3 + s.val, by show 3 + s.val < 5; omega⟩ := by decide +kernel
  exact h (sl E)

theorem slot_credit (s : Fin 2) : (slotM s).view.dmaCredit = N := by rw [N_eq]

theorem workPts_view (c : Dev nD) (f : Blk F) :
    workPts c f = ((workM.view.loc (c : Thread nD τ) ↦[workM.view.set]{fullShare} (f : Buf (Elt F) (workM.view.loc (c : Thread nD τ)))) : sProp 𝕄) := by
  unfold workPts; rw [View.set_whole]

theorem sl_add (E : ℕ) : sl (E + 2) = sl E := Fin.ext (Nat.add_mod_right E 2)

/-! ## The state between exchanges -/

variable (X : Dev nD → S8192x1024.Idx → F .f32)

/-- Every cell's invariant, and that its round 0 is reached. -/
def records (K : Dev nD × Fin 13 → ℕ) : sProp 𝕄 :=
  iprop((bigSep Finset.univ fun ck : Dev nD × Fin 13 => cellInv ER (Rd X) (K ck) (kcell ck))
    ∗ bigSep Finset.univ fun ck : Dev nD × Fin 13 => reached ER (kcell ck) 0)
instance records_persistent (K : Dev nD × Fin 13 → ℕ) : BI.Persistent (records X K) := by unfold records; infer_instance

theorem inv_at (K : Dev nD × Fin 13 → ℕ) (c : Dev nD) (k : Fin 13) (sm : SemLoc sig) (h : osem k = sm) :
    records X K ⊢ cellInv ER (Rd X) (K (c, k)) ((c : Thread nD τ), sm) := by
  subst h
  exact sep_elim_left.trans (bigSep_elim (Finset.mem_univ (c, k)))
theorem reached_at (K : Dev nD × Fin 13 → ℕ) (c : Dev nD) (k : Fin 13) (sm : SemLoc sig) (h : osem k = sm) :
    records X K ⊢ reached ER ((c : Thread nD τ), sm) 0 := by
  subst h
  exact sep_elim_right.trans (bigSep_elim (Finset.mem_univ (c, k)))

/-- The tokens and credits of device `c` for exchange `i`. -/
def tok (c : Dev nD) (i : ℕ) : sProp 𝕄 :=
  iprop(dutyTok ER (rdyC (prt c i) i) (i / 8) () ∗ dutyTok ER (rcvC (prt c i) i) (i / 2) () ∗ dutyTok ER (sndC c i) (i / 2) ()
    ∗ cred (tallyAt (rdyC c i) i 1) ∗ cred (tallyAt (rcvC c i) i N))

/-- What device `c` knows before exchange `E`: the rounds reached by its own cells and by the ready cells of its partners. -/
def know (c : Dev nD) (E : ℕ) : sProp 𝕄 :=
  iprop(upTo (E + 8) (fun i => reached ER (rdyC c i) (i / 8)) ∗ upTo (E + 6) (fun i => reached ER (rdyC (prt c i) i) (i / 8))
    ∗ upTo (E + 2) (fun i => reached ER (sndC c i) (i / 2)) ∗ upTo (E + 2) (fun i => reached ER (rcvC c i) (i / 2)))
instance know_persistent (c : Dev nD) (E : ℕ) : BI.Persistent (know (F := F) c E) := by unfold know; infer_instance

/-- The round at which device `c` stands in each of its exchange cells. -/
def posn (c : Dev nD) (E : ℕ) : sProp 𝕄 :=
  iprop(from' E (E + 8) (fun i => atPos ER (rdyC c i) (i / 8) ∅ 0) ∗ from' E (E + 2) (fun i => atPos ER (sndC c i) (i / 2) ∅ 0)
    ∗ from' E (E + 2) (fun i => atPos ER (rcvC c i) (i / 2) ∅ 0))

def slotE (c : Dev nD) (i : ℕ) : sProp 𝕄 := iprop(∃ f, slotPts (F := F) c (sl i) f)

/-- Device `c` before exchange `E`. -/
def St (K : Dev nD × Fin 13 → ℕ) (c : Dev nD) (E : ℕ) : sProp 𝕄 :=
  iprop((records X K ∗ levAts L lv ∗ know c E) ∗ posn c E ∗ from' E 24 (tok c) ∗ (∃ W, owes (c : Thread nD τ) (owe c E) W) ∗ from' E (E + 2) (slotE c))

/-- A round later, at the place of the next exchange that uses the cell. -/
theorem pos_r (c : Dev nD) (E : ℕ) : atPos ER (rdyC c E) (E / 8 + 1) ∅ 0 = (atPos ER (rdyC c (E + 8)) ((E + 8) / 8) ∅ 0 : sProp 𝕄) := by
  unfold rdyC rS; simp only [Nat.add_mod_right, Nat.add_div_right _ (show 0 < 8 by norm_num)]
theorem pos_s (c : Dev nD) (E : ℕ) : atPos ER (sndC c E) (E / 2 + 1) ∅ 0 = (atPos ER (sndC c (E + 2)) ((E + 2) / 2) ∅ 0 : sProp 𝕄) := by
  unfold sndC sS; simp only [Nat.add_mod_right, Nat.add_div_right _ (show 0 < 2 by norm_num)]
theorem pos_v (c : Dev nD) (E : ℕ) : atPos ER (rcvC c E) (E / 2 + 1) ∅ 0 = (atPos ER (rcvC c (E + 2)) ((E + 2) / 2) ∅ 0 : sProp 𝕄) := by
  unfold rcvC vS; simp only [Nat.add_mod_right, Nat.add_div_right _ (show 0 < 2 by norm_num)]
theorem rea_r (c : Dev nD) (E : ℕ) : reached ER (rdyC c E) (E / 8 + 1) = (reached ER (rdyC c (E + 8)) ((E + 8) / 8) : sProp 𝕄) := by
  unfold rdyC rS; simp only [Nat.add_mod_right, Nat.add_div_right _ (show 0 < 8 by norm_num)]
theorem rea_s (c : Dev nD) (E : ℕ) : reached ER (sndC c E) (E / 2 + 1) = (reached ER (sndC c (E + 2)) ((E + 2) / 2) : sProp 𝕄) := by
  unfold sndC sS; simp only [Nat.add_mod_right, Nat.add_div_right _ (show 0 < 2 by norm_num)]
theorem rea_v (c : Dev nD) (E : ℕ) : reached ER (rcvC c E) (E / 2 + 1) = (reached ER (rcvC c (E + 2)) ((E + 2) / 2) : sProp 𝕄) := by
  unfold rcvC vS; simp only [Nat.add_mod_right, Nat.add_div_right _ (show 0 < 2 by norm_num)]

/-- The transfer of exchange `E` from device `c` to its partner. -/
theorem send_run (K : Dev nD × Fin 13 → ℕ) (c : Dev nD) (E : ℕ) (hE : E < 24)
    {hsc : (slotM (sl E) : Memref sig (Dev.tc (prt c E) : Thread nD τ).2.kind .vmem S8192x256 .f32).view.ref.isScScratch = false}
    {hsrc : (workM : Memref sig .tc .vmem S8192x256 .f32).view.WordExact} {hdst : (slotM (sl E) : Memref sig .tc .vmem S8192x256 .f32).view.WordExact}
    {hsem : DmaTarget.Typed .vmem (.dma (vX E)) (.remote (Dev.tc (prt c E) : Thread nD τ) (slotM (sl E)) (.dma (sX E)) hsc)}
    {α : Type} {Q : α → sProp 𝕄} {k : PUnit → P (F := F) α} (fn : Two F) (W : Waits sig ℕ) :
    iprop(cellInv ER (Rd X) (K (c, ks E)) (sndC c E) ∗ cellInv ER (Rd X) (K (prt c E, kv E)) (rcvC (prt c E) E)
        ∗ workPts c (xw X E c) ∗ slotPts (prt c E) (sl E) fn ∗ owes (c : Thread nD τ) (owe c (E + 1) + tallyAt (rcvC (prt c E) E) E N) W
        ∗ dutyTok ER (sndC c E) (E / 2) () ∗ reached ER (sndC c E) (E / 2) ∗ dutyTok ER (rcvC (prt c E) E) (E / 2) () ∗ reached ER (rcvC (prt c E) E) (E / 2))
      ⊢ iprop(((cred (tallyAt (sndC c E) E N) ∗ owes (c : Thread nD τ) (owe c (E + 1)) W) -∗ Wp c (k ⟨⟩) Q)
          -∗ Wp c (.op (.enqueueDma workM (.remote (Dev.tc (prt c E) : Thread nD τ) (slotM (sl E)) (.dma (sX E)) hsc) (.dma (vX E)) hsrc hdst hsem) k) Q) := by
  have hN : (slotM (sl E)).view.amount (SemLoc.dma (vX E) : SemLoc sig) = N := slot_credit (sl E)
  rw [workPts_view]
  unfold slotPts
  refine Rounds.wp_send_pointsTo (src := workM) (dst := slotM (sl E)) (c' := (prt c E : Thread nD τ)) (sS := .dma (sX E)) (sem := .dma (vX E)) 𝒱₀ ER (Rd X) (c : Thread nD τ) none (κ₁ := K (c, ks E)) (κ₂ := K (prt c E, kv E))
    (r₁ := E / 2) (r₂ := E / 2) (d₁ := ()) (d₂ := ()) (fd := fn) ?_ ?_ E E N hN ?_ ?_ (owe c (E + 1)) rfl (W := W) ?_ ?_
  · show () ∈ (Rd X).duties (c, sS E) (E / 2)
    rw [duties_in X c _ _ (lim_s hE)]; exact Finset.mem_singleton_self _
  · show () ∈ (Rd X).duties (prt c E, vS E) (E / 2)
    rw [duties_in X _ _ _ (lim_v hE)]; exact Finset.mem_singleton_self _
  · exact amt_s E
  · exact amt_v E
  · show _ ⊢ pay X c (sS E) (E / 2); rw [pay_s]; unfold sndPay; rw [workPts_view]
  · show _ ⊢ pay X (prt c E) (vS E) (E / 2)
    rw [pay_v]; unfold rcvPay; rw [prt_prt]
    exact Entails.of_eq (slotPts_landed (prt c E) (sl E) fn (xw X E c))

theorem sig_pay (c : Dev nD) (E : ℕ) :
    iprop(slotE c E ∗ reached ER (rcvC c E) (E / 2) ∗ reached ER (rdyC c (E + 6)) ((E + 6) / 8))
      ⊢ (Rd X).payload ((prt c E : Thread nD τ), (SemLoc.reg (rX E) : SemLoc sig)) (E / 8) () := by
  show _ ⊢ pay X (prt c E) (rS E) (E / 8)
  rw [pay_r]; unfold rdyPay slotE; rw [prt_prt]
theorem rdy_rest (c : Dev nD) (E : ℕ) (h : E < 24) :
    bigSep ((Rd X).duties ((c : Thread nD τ), (SemLoc.reg (rX E) : SemLoc sig)) (E / 8) \ ∅)
      (fun u => (Rd X).payload ((c : Thread nD τ), (SemLoc.reg (rX E) : SemLoc sig)) (E / 8) u) ⊢ rdyPay c E :=
  Entails.of_eq ((rest_in X c (rS E) _ (lim_r h)).trans (pay_r X c E))
theorem snd_rest (c : Dev nD) (E : ℕ) (h : E < 24) :
    bigSep ((Rd X).duties ((c : Thread nD τ), (SemLoc.dma (sX E) : SemLoc sig)) (E / 2) \ ∅)
      (fun u => (Rd X).payload ((c : Thread nD τ), (SemLoc.dma (sX E) : SemLoc sig)) (E / 2) u) ⊢ sndPay X c E :=
  Entails.of_eq ((rest_in X c (sS E) _ (lim_s h)).trans (pay_s X c E))
theorem rcv_rest (c : Dev nD) (E : ℕ) (h : E < 24) :
    bigSep ((Rd X).duties ((c : Thread nD τ), (SemLoc.dma (vX E) : SemLoc sig)) (E / 2) \ ∅)
      (fun u => (Rd X).payload ((c : Thread nD τ), (SemLoc.dma (vX E) : SemLoc sig)) (E / 2) u) ⊢ rcvPay X c E :=
  Entails.of_eq ((rest_in X c (vS E) _ (lim_v h)).trans (pay_v X c E))

theorem xtail (c : Dev nD) (keep : BitVec 1) (b : Bool) (hb : keep = if b then 1 else 0) (s : Fin 2)
    (hs : ∀ t a, offC s.val t a + S1x512x256.size a ≤ S2x8192x256.size a) (f W : Blk F) (A : sProp 𝕄) {α : Type} (p : P (F := F) α) (Q : α → sProp 𝕄)
    (h : iprop((workPts c (keepB b f W) ∗ slotPts c s (both W)) ∗ A) ⊢ Wp c p Q) :
    iprop((workPts c f ∗ slotPts c s (both W)) ∗ A) ⊢ Wp c (do xchgLoop keep s.val hs; p) Q :=
  Wp_seq (B := fun _ => iprop((workPts c (keepB b f W) ∗ slotPts c s (both W)) ∗ A))
    (BIBase.Entails.trans (Q := iprop(Wp c (xchgLoop keep s.val hs) (fun _ => iprop(workPts c (keepB b f W) ∗ slotPts c s (both W))) ∗ A))
      (sep_mono_left (xchgLoop_run c keep b hb s hs f W)) (wp_frame_r _ _ _)) (fun _ => h)

/-- What device `c` holds before exchange `E` but for one landing slot. -/
def StS (K : Dev nD × Fin 13 → ℕ) (c : Dev nD) (E : ℕ) : sProp 𝕄 :=
  iprop((records X K ∗ levAts L lv ∗ know c E) ∗ posn c E ∗ from' E 24 (tok c) ∗ (∃ W, owes (c : Thread nD τ) (owe c E) W) ∗ from' E (E + 1) (slotE c))

theorem StS_back (K : Dev nD × Fin 13 → ℕ) (c : Dev nD) (E : ℕ) (f : Two F) (g : Blk F) (R : sProp 𝕄) :
    iprop((workPts c g ∗ slotPts c (sl E) f) ∗ StS X K c (E + 1) ∗ R) ⊢ iprop(St X K c (E + 1) ∗ workPts c g ∗ R) := by
  unfold St StS
  rw [show from' (E + 1) (E + 1 + 2) (slotE (F := F) c) = iprop(slotE c (E + 2) ∗ from' (E + 1) (E + 1 + 1) (slotE c)) from from_last (by omega) _]
  iintro ⟨⟨Hw, Hs⟩, ⟨Hp, Hpos, Ht, HO, Hss⟩, HR⟩
  isplitl [Hp Hpos Ht HO Hss Hs]
  · isplitl [Hp]; · iexact Hp
    isplitl [Hpos]; · iexact Hpos
    isplitl [Ht]; · iexact Ht
    isplitl [HO]; · iexact HO
    isplitl [Hs]
    · unfold slotE; rw [sl_add]; iexists f; iexact Hs
    iexact Hss
  isplitl [Hw]; · iexact Hw
  iexact HR

theorem know_step (c : Dev nD) (E : ℕ) :
    iprop(know c E ∗ reached ER (rdyC c E) (E / 8 + 1) ∗ reached ER (rdyC (prt c E) (E + 6)) ((E + 6) / 8)
      ∗ reached ER (sndC c E) (E / 2 + 1) ∗ reached ER (rcvC c E) (E / 2 + 1)) ⊢ (know (F := F) c (E + 1)) := by
  unfold know
  rw [rea_r, rea_s, rea_v, ← prt_add c E]
  rw [show upTo (E + 1 + 8) (fun i => (reached ER (rdyC c i) (i / 8) : sProp 𝕄)) = _ from upTo_succ (E + 8) _,
    show upTo (E + 1 + 6) (fun i => (reached ER (rdyC (prt c i) i) (i / 8) : sProp 𝕄)) = _ from upTo_succ (E + 6) _,
    show upTo (E + 1 + 2) (fun i => (reached ER (sndC c i) (i / 2) : sProp 𝕄)) = _ from upTo_succ (E + 2) _,
    show upTo (E + 1 + 2) (fun i => (reached ER (rcvC c i) (i / 2) : sProp 𝕄)) = _ from upTo_succ (E + 2) _]
  iintro ⟨⟨H1, H2, H3, H4⟩, K1, K2, K3, K4⟩
  isplitl [H1 K1]; · isplitl [K1]; · iexact K1
                     iexact H1
  isplitl [H2 K2]; · isplitl [K2]; · iexact K2
                     iexact H2
  isplitl [H3 K3]; · isplitl [K3]; · iexact K3
                     iexact H3
  isplitl [K4]; · iexact K4
  iexact H4

theorem posn_step (c : Dev nD) (E : ℕ) :
    iprop((from' (E + 1) (E + 8) (fun i => atPos ER (rdyC c i) (i / 8) ∅ 0) ∗ atPos ER (rdyC c E) (E / 8 + 1) ∅ 0)
      ∗ (from' (E + 1) (E + 2) (fun i => atPos ER (sndC c i) (i / 2) ∅ 0) ∗ atPos ER (sndC c E) (E / 2 + 1) ∅ 0)
      ∗ (from' (E + 1) (E + 2) (fun i => atPos ER (rcvC c i) (i / 2) ∅ 0) ∗ atPos ER (rcvC c E) (E / 2 + 1) ∅ 0)) ⊢ (posn (F := F) c (E + 1)) := by
  unfold posn
  rw [pos_r, pos_s, pos_v]
  rw [show from' (E + 1) (E + 1 + 8) (fun i => (atPos ER (rdyC c i) (i / 8) ∅ 0 : sProp 𝕄)) = _ from from_last (show E + 1 ≤ E + 8 by omega) _,
    show from' (E + 1) (E + 1 + 2) (fun i => (atPos ER (sndC c i) (i / 2) ∅ 0 : sProp 𝕄)) = _ from from_last (show E + 1 ≤ E + 2 by omega) _,
    show from' (E + 1) (E + 1 + 2) (fun i => (atPos ER (rcvC c i) (i / 2) ∅ 0 : sProp 𝕄)) = _ from from_last (show E + 1 ≤ E + 2 by omega) _]
  iintro ⟨⟨H1, K1⟩, ⟨H2, K2⟩, H3, K3⟩
  isplitl [H1 K1]; · isplitl [K1]; · iexact K1
                     iexact H1
  isplitl [H2 K2]; · isplitl [K2]; · iexact K2
                     iexact H2
  isplitl [K3]; · iexact K3
  iexact H3

/-- One exchange, for every tile and every step: what is left to run after it starts from the state before the next one. -/
theorem exch_run (K : Dev nD × Fin 13 → ℕ) (c : Dev nD) (t : Fin k0_t1_loop.trips) (e : Fin 6) (E : ℕ) (hE : E = 6 * t.val + e.val) (hlt : E < 24)
    (d d' : Dev nD) (hd : d = prt c E) (hd' : d' = prt c E) (s : Fin 2) (hs : s = sl E) (keep : BitVec 1) (hk : keep = if keepU c E then 1 else 0)
    (ho : ∀ t a, offC s.val t a + S1x512x256.size a ≤ S2x8192x256.size a) {α : Type} (p : P (F := F) α) (Q : α → sProp 𝕄) (R : sProp 𝕄)
    (h : iprop(St X K c (E + 1) ∗ workPts c (keepB (keepU c E) (xw X E c) (xw X E (prt c E))) ∗ R) ⊢ Wp c p Q) :
    iprop(St X K c E ∗ workPts c (xw X E c) ∗ R)
      ⊢ Wp c (do sigOp d t e; rdyOp t e; sendOp d' s; sentOp s; rcvdOp s; xchgLoop keep s.val ho; p) Q := by
  subst hs hd hd'
  unfold sigOp rdyOp sendOp sentOp rcvdOp
  rw [rdySem_eq, ← hE]
  simp only [sndSem_eq, rcvSem_eq, semSignalWord, semWaitWord, Prog.lift, Prog.bind_op, Prog.bind_ret, Prog.pure_eq_ret]
  unfold St know posn
  rw [from_first (show E < E + 8 by omega), from_first (show E < E + 2 by omega), from_first (show E < E + 2 by omega), from_first hlt,
    from_first (show E < E + 2 by omega)]
  iintro ⟨⟨⟨#Hrec, #Hlev, #Hkr, #Hkp, #Hks, #Hkv⟩, ⟨⟨HaR, HaRs⟩, ⟨HaS, HaSs⟩, HaV, HaVs⟩, ⟨Htok, Htoks⟩, ⟨%W, HO⟩, ⟨Hsl, Hsls⟩⟩, Hw, HR⟩
  unfold tok
  icases Htok with ⟨HtR, HtV, HtS, HcR, HcV⟩
  ihave #HIr := (inv_at X K c (kr E) (rS E) (osem_kr E)) $$ Hrec
  ihave #HIrP := (inv_at X K (prt c E) (kr E) (rS E) (osem_kr E)) $$ Hrec
  ihave #HIs := (inv_at X K c (ks E) (sS E) (osem_ks E)) $$ Hrec
  ihave #HIv := (inv_at X K c (kv E) (vS E) (osem_kv E)) $$ Hrec
  ihave #HIvP := (inv_at X K (prt c E) (kv E) (vS E) (osem_kv E)) $$ Hrec
  ihave #HrP := (upTo_get (show E < E + 6 by omega) (fun i => reached ER (rdyC (prt c i) i) (i / 8))) $$ Hkp
  ihave #HrV := (upTo_get (show E < E + 2 by omega) (fun i => reached ER (rcvC c i) (i / 2))) $$ Hkv
  ihave #HrS := (upTo_get (show E < E + 2 by omega) (fun i => reached ER (sndC c i) (i / 2))) $$ Hks
  ihave #HrR6 := (upTo_get (show E + 6 < E + 8 by omega) (fun i => reached ER (rdyC c i) (i / 8))) $$ Hkr
  iapply (Rounds.wp_signal 𝒱₀ ER (Rd X) (c : Thread nD τ) none (dst := (prt c E : Thread nD τ)) (sem := rX E) (κ := K (prt c E, kr E))
      (r := E / 8) (d := ()) (k' := 1)
      (by show () ∈ (Rd X).duties (prt c E, rS E) (E / 8); rw [duties_in X _ _ _ (lim_r hlt)]; exact Finset.mem_singleton_self _)
      ((amt_r E).trans (by decide)) E (owe c (E + 1) + tallyAt (rcvC (prt c E) E) E N) ((owe_step c hlt).trans (add_assoc _ _ _).symm))
    $$ [HO HtR Hsl]
  · isplitr; · iexact HIrP
    isplitl [HO]; · iexact HO
    isplitl [HtR]; · iexact HtR
    isplitl [Hsl]
    · iapply (sig_pay X c E)
      isplitl [Hsl]; · iexact Hsl
      isplitr; · iexact HrV
      iexact HrR6
    · iexact HrP
  iintro HO
  iapply (Rounds.wp_wait_rest_token 𝒱₀ ER (Rd X) (c : Thread nD τ) none (κ := K (c, kr E))
      (wpE_semWait_eq 𝒱₀ (c : Thread nD τ) none Set.univ) (Set.mem_univ _) E (O := owe c (E + 1) + tallyAt (rcvC (prt c E) E) E N) (W := W) (R := E / 8) (m := 0) (T := ∅)
      (by rw [show ((c : Thread nD τ), (SemLoc.reg (rX E) : SemLoc sig)) = rdyC c E from rfl, expect_in X c (rS E) _ (lim_r hlt)]; rfl)) $$ [HcR HO HaR]
  · isplitr; · iexact HIr
    isplitl [HcR]; · iexact HcR
    isplitl [HO]; · iexact HO
    isplitr
    · iapply (mayWait c (rS E) E (2 * E + 1) hlt (le_of_eq (lv_r c E)) _ (fun g u h => owe_lv' hlt h)); iexact Hlev
    iexact HaR
  iintro ⟨HO, HaR, #HrR8, Hpay⟩
  ihave Hp := (rdy_rest X c E hlt) $$ Hpay
  unfold rdyPay
  icases Hp with ⟨⟨%fn, HslN⟩, #HrVP, #HrRP6⟩
  iapply (send_run X K c E hlt fn _) $$ [Hw HslN HO HtS HtV]
  · isplitr; · iexact HIs
    isplitr; · iexact HIvP
    isplitl [Hw]; · iexact Hw
    isplitl [HslN]; · iexact HslN
    isplitl [HO]; · iexact HO
    isplitl [HtS]; · iexact HtS
    isplitr; · iexact HrS
    isplitl [HtV]; · iexact HtV
    iexact HrVP
  iintro ⟨HcS, HO⟩
  iapply (Rounds.wp_wait_rest_token 𝒱₀ ER (Rd X) (c : Thread nD τ) none (κ := K (c, ks E))
      (wpE_waitDma2_eq 𝒱₀ (c : Thread nD τ) none Set.univ) (Set.mem_univ _) E (O := owe c (E + 1)) (R := E / 2) (m := 0) (T := ∅)
      (by rw [show ((c : Thread nD τ), (SemLoc.dma (sX E) : SemLoc sig)) = sndC c E from rfl, expect_in X c (sS E) _ (lim_s hlt), amt_s, N_eq, Nat.zero_add])) $$ [HcS HO HaS]
  · isplitr; · iexact HIs
    isplitl [HcS]; · rw [← N_eq]; iexact HcS
    isplitl [HO]; · iexact HO
    isplitr
    · iapply (mayWait c (sS E) E (2 * (E + 1)) hlt (by rw [show ((c : Thread nD τ), sS E) = sndC c E from rfl, lv_s]; omega) _ (fun g u h => owe_lv h)); iexact Hlev
    iexact HaS
  iintro ⟨HO, HaS, #HrS2, Hpay⟩
  ihave Hw := (snd_rest X c E hlt) $$ Hpay
  iapply (Rounds.wp_wait_rest_token 𝒱₀ ER (Rd X) (c : Thread nD τ) none (κ := K (c, kv E))
      (wpE_waitDma2_eq 𝒱₀ (c : Thread nD τ) none Set.univ) (Set.mem_univ _) E (O := owe c (E + 1)) (R := E / 2) (m := 0) (T := ∅)
      (by rw [show ((c : Thread nD τ), (SemLoc.dma (vX E) : SemLoc sig)) = rcvC c E from rfl, expect_in X c (vS E) _ (lim_v hlt), amt_v, slot_credit, Nat.zero_add])) $$ [HcV HO HaV]
  · isplitr; · iexact HIv
    isplitl [HcV]; · rw [slot_credit]; iexact HcV
    isplitl [HO]; · iexact HO
    isplitr
    · iapply (mayWait c (vS E) E (2 * (E + 1)) hlt (by rw [show ((c : Thread nD τ), vS E) = rcvC c E from rfl, lv_v]; omega) _ (fun g u h => owe_lv h)); iexact Hlev
    iexact HaV
  iintro ⟨HO, HaV, #HrV2, Hpay⟩
  ihave Hsl := (rcv_rest X c E hlt) $$ Hpay
  iapply (xtail c keep (keepU c E) hk (sl E) ho (xw X E c) (xw X E (prt c E)) iprop(StS X K c (E + 1) ∗ R) p Q ((StS_back X K c E _ _ R).trans h))
    $$ [Hw Hsl HO HaR HaRs HaS HaSs HaV HaVs Htoks Hsls HR]
  isplitl [Hw Hsl]
  · isplitl [Hw]; · unfold sndPay; iexact Hw
    unfold rcvPay; iexact Hsl
  isplitl [HO HaR HaRs HaS HaSs HaV HaVs Htoks Hsls]
  · unfold StS
    isplitr
    · isplitr; · iexact Hrec
      isplitr; · iexact Hlev
      iapply (know_step c E)
      isplitr
      · unfold know
        isplitr; · iexact Hkr
        isplitr; · iexact Hkp
        isplitr; · iexact Hks
        iexact Hkv
      isplitr; · iexact HrR8
      isplitr; · iexact HrRP6
      isplitr; · iexact HrS2
      iexact HrV2
    isplitl [HaR HaRs HaS HaSs HaV HaVs]
    · iapply (posn_step c E)
      isplitl [HaR HaRs]
      · isplitl [HaRs]; · iexact HaRs
        iexact HaR
      isplitl [HaS HaSs]
      · isplitl [HaSs]; · iexact HaSs
        iexact HaS
      isplitl [HaVs]; · iexact HaVs
      iexact HaV
    isplitl [Htoks]; · iexact Htoks
    isplitl [HO]; · iexists _; iexact HO
    iexact Hsls
  iexact HR

end Cert.Bitonic

end
-- ==== Proof.Copy.lean ====
/-
The copies of a tile's columns in and out.
-/
module

public import proofs.«01_k».proof.Proof.Exch

@[expose] public section

noncomputable section

namespace Cert.Bitonic

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ## The columns of a tile -/

theorem trips_eq : k0_t1_loop.trips = 4 := by decide
theorem tile_lt (t : Fin k0_t1_loop.trips) : t.val < 4 := lt_of_lt_of_eq t.isLt trips_eq
theorem off_eq : ∀ t : Fin k0_t1_loop.trips, k0_off1 t = ![0, 256 * t.val] := by decide +kernel

abbrev tileR (t : Fin k0_t1_loop.trips) : Rect S8192x1024 := Rect.unit (s := S8192x1024) (k0_off1 t) S8192x256.size (k0_off1_inb t)

theorem mem_tile (t : Fin k0_t1_loop.trips) (i : S8192x1024.Idx) : i ∈ (tileR t).set ↔ (i 1).val / 256 = t.val := by
  have h0 : (i 0).val < 8192 := (i 0).isLt
  have h1 : (i 1).val < 1024 := (i 1).isLt
  rw [Rect.mem_set_unit, off_eq]
  constructor
  · intro h
    have h1 : 256 * t.val ≤ (i 1).val ∧ (i 1).val < 256 * t.val + 256 := h 1
    omega
  · intro h a
    fin_cases a
    · show 0 ≤ (i 0).val ∧ (i 0).val < 0 + 8192; omega
    · show 256 * t.val ≤ (i 1).val ∧ (i 1).val < 256 * t.val + 256; omega

theorem tile_emb (t : Fin k0_t1_loop.trips) (r : Fin 8192) (l : Fin 256) :
    (tileR t).emb (ix2 r l) = ix2 r ⟨(256 * t.val + l.val) % 1024, Nat.mod_lt _ (by norm_num)⟩ := by
  have ht := tile_lt t
  have hl : l.val < 256 := l.isLt
  have e1 : ((tileR t).emb (ix2 r l) 1).val = (k0_off1 t) 1 + 1 * l.val := rfl
  have e0 : ((tileR t).emb (ix2 r l) 0).val = (k0_off1 t) 0 + 1 * r.val := rfl
  rw [off_eq] at e0 e1
  have e0' : ((tileR t).emb (ix2 r l) 0).val = 0 + 1 * r.val := e0
  have e1' : ((tileR t).emb (ix2 r l) 1).val = 256 * t.val + 1 * l.val := e1
  refine funext fun a => Fin.ext ?_
  fin_cases a
  · show ((tileR t).emb (ix2 r l) 0).val = r.val; omega
  · show ((tileR t).emb (ix2 r l) 1).val = (256 * t.val + l.val) % 1024; omega

theorem inT_set (t : Fin k0_t1_loop.trips) : (inT t).view.set = (tileR t).set := View.set_slice_whole main_arg0 (tileR t)
theorem outT_set (t : Fin k0_t1_loop.trips) : (outT t).view.set = (tileR t).set := View.set_slice_whole main_v1 (tileR t)

variable (X : Dev nD → S8192x1024.Idx → F .f32)

omit [FloatOps F] in
theorem in_read (t : Fin k0_t1_loop.trips) (c : Dev nD) : ((inT t).view.read (Elt F) (X c) : Blk F) = inBlk X t.val c := by
  funext i
  show X c ((tileR t).emb i) = _
  have e : i = ix2 (i 0) (i 1) := by refine funext fun a => ?_; fin_cases a <;> rfl
  exact congrArg (X c) ((congrArg (tileR t).emb e).trans (tile_emb t (i 0) (i 1)))

theorem out_written (t : Fin k0_t1_loop.trips) (c : Dev nD) (fd : S8192x1024.Idx → F .f32) (i : S8192x1024.Idx) (hi : i ∈ (outT t).view.set) :
    (outT t).view.write (Elt F) fd (fin X t.val c) Finset.univ i = outV X t.val c fd i := by
  rw [outT_set, mem_tile] at hi
  have ht := tile_lt t
  have h1 : (i 1).val < 1024 := (i 1).isLt
  have h0 : i = (outT t).view.emb (ix2 (i 0) ⟨(i 1).val % 256, Nat.mod_lt _ (by norm_num)⟩) := by
    refine Eq.trans ?_ (tile_emb t (i 0) ⟨(i 1).val % 256, Nat.mod_lt _ (by norm_num)⟩).symm
    refine funext fun a => Fin.ext ?_
    fin_cases a
    · rfl
    · show (i 1).val = (256 * t.val + (i 1).val % 256) % 1024; omega
  have := View.write_emb_of_mem (v := (outT t).view) (Val := Elt F) fd (fin X t.val c) (M := Finset.univ)
    (x := ix2 (i 0) ⟨(i 1).val % 256, Nat.mod_lt _ (by norm_num)⟩) (Finset.mem_univ _)
  rw [← h0] at this
  refine this.trans ?_
  unfold outV
  rw [if_pos hi]
  rfl

/-! ## The arrays -/

/-- Device `c`'s input and output arrays. -/
def inAll (c : Dev nD) (f : S8192x1024.Idx → F .f32) : sProp 𝕄 := (c : Thread nD τ).loc main_arg0 ↦{fullShare} (f : Buf (Elt F) ((c : Thread nD τ).loc main_arg0))
def outAll (c : Dev nD) (f : S8192x1024.Idx → F .f32) : sProp 𝕄 := (c : Thread nD τ).loc main_v1 ↦{fullShare} (f : Buf (Elt F) ((c : Thread nD τ).loc main_v1))
def inRest (c : Dev nD) (t : Fin k0_t1_loop.trips) (f : S8192x1024.Idx → F .f32) : sProp 𝕄 :=
  (c : Thread nD τ).loc main_arg0 ↦[Finset.univ \ (inT t).view.set]{fullShare} (f : Buf (Elt F) ((c : Thread nD τ).loc main_arg0))
def outRest (c : Dev nD) (t : Fin k0_t1_loop.trips) (f : S8192x1024.Idx → F .f32) : sProp 𝕄 :=
  (c : Thread nD τ).loc main_v1 ↦[Finset.univ \ (outT t).view.set]{fullShare} (f : Buf (Elt F) ((c : Thread nD τ).loc main_v1))

theorem in_split (c : Dev nD) (t : Fin k0_t1_loop.trips) (f : S8192x1024.Idx → F .f32) : inAll c f ⊣⊢ iprop(inPts c t f ∗ inRest c t f) :=
  pointsTo_split_subset (Finset.subset_univ _)
theorem out_split (c : Dev nD) (t : Fin k0_t1_loop.trips) (f : S8192x1024.Idx → F .f32) : outAll c f ⊣⊢ iprop(outPts c t f ∗ outRest c t f) :=
  pointsTo_split_subset (Finset.subset_univ _)

theorem out_join (c : Dev nD) (t : Fin k0_t1_loop.trips) (f g : S8192x1024.Idx → F .f32) :
    iprop(outPts c t (outV X t.val c f) ∗ outRest c t g) ⊢ outAll c (outV X t.val c g) := by
  have h1 : outPts c t (outV X t.val c f) = outPts c t (outV X t.val c g) := pointsTo_congr fun i hi => by
    rw [outT_set, mem_tile] at hi; unfold outV; rw [if_pos hi, if_pos hi]
  have h2 : outRest c t g = outRest c t (outV X t.val c g) := pointsTo_congr fun i hi => by
    have hn := (Finset.mem_sdiff.mp hi).2
    rw [outT_set, mem_tile] at hn; unfold outV; rw [if_neg hn]
  rw [h1, h2]
  exact (out_split c t _).2

/-! ## The copies run -/

theorem work_credit : (workM : Memref sig .tc .vmem S8192x256 .f32).view.dmaCredit = N := N_eq.symm
theorem out_credit (t : Fin k0_t1_loop.trips) : (outT t).view.dmaCredit = N := by rw [N_eq]

/-- Device `c`'s copy semaphore before its copy `r`. -/
def CpS (c : Dev nD) (r : ℕ) : sProp 𝕄 :=
  iprop(reached ER (cpyC c) r ∗ atPos ER (cpyC c) r ∅ 0 ∗ from' r 8 (fun i => dutyTok ER (cpyC c) i ()))

theorem tr_val (t : Fin k0_t1_loop.trips) (r : ℕ) (h : r / 2 = t.val) : tr (r / 2) = t := Fin.ext (by
  have := tile_lt t; show r / 2 % 4 = t.val; omega)

theorem cpy_pay_in (c : Dev nD) (t : Fin k0_t1_loop.trips) : pay X c cS (2 * t.val) = iprop(workPts c (inBlk X t.val c) ∗ inPts c t (X c)) := by
  rw [pay_c]; unfold cpyPay
  rw [if_pos (by omega), tr_val t _ (by omega), show 2 * t.val / 2 = t.val by omega]
theorem cpy_pay_out (c : Dev nD) (t : Fin k0_t1_loop.trips) : pay X c cS (2 * t.val + 1) =
    iprop((∃ f, outPts c t (outV X t.val c f)) ∗ workPts c (fin X t.val c)) := by
  rw [pay_c]; unfold cpyPay
  rw [if_neg (by omega), tr_val t _ (by omega), show (2 * t.val + 1) / 2 = t.val by omega]
theorem cpy_rest (c : Dev nD) (r : ℕ) (h : r < 8) :
    bigSep ((Rd X).duties ((c : Thread nD τ), (SemLoc.dma cc0_scratch2.sem : SemLoc sig)) r \ ∅)
      (fun u => (Rd X).payload ((c : Thread nD τ), (SemLoc.dma cc0_scratch2.sem : SemLoc sig)) r u) ⊢ pay X c cS r :=
  Entails.of_eq (rest_in X c cS _ (lim_c h))

/-- The wait for a copy. -/
theorem wait_run (K : Dev nD × Fin 13 → ℕ) (c : Dev nD) (E r : ℕ) (hr : r < 8) {sp sp' : Space} {s : Shape} {e : EltTy}
    {src : Memref sig .tc sp s e} {dst : Memref sig .tc sp' s e} {h1 : src.view.WordExact} {h2 : dst.view.WordExact}
    (hN : dst.view.dmaCredit = N) {α : Type} (p : P (F := F) α) (Q : α → sProp 𝕄) (R : sProp 𝕄)
    (h : iprop(St X K c E ∗ pay X c cS r ∗ CpS c (r + 1) ∗ R) ⊢ Wp c p Q) :
    iprop(St X K c E ∗ (cred (tallyAt (cpyC c) 0 N) ∗ atPos ER (cpyC c) r ∅ 0 ∗ from' (r + 1) 8 (fun i => dutyTok ER (cpyC c) i ())) ∗ R)
      ⊢ Wp c (.op (.waitDma2 cc0_scratch2.sem src dst h1 h2) fun _ => p) Q := by
  unfold St
  iintro ⟨⟨⟨#Hrec, #Hlev, #Hkn⟩, Hpos, Htok, ⟨%W, HO⟩, Hsl⟩, ⟨Hc, Ha, Ht⟩, HR⟩
  ihave #HI := (inv_at X K c 8 cS osem_8) $$ Hrec
  iapply (Rounds.wp_wait_rest_token 𝒱₀ ER (Rd X) (c : Thread nD τ) none (κ := K (c, 8))
      (wpE_waitDma2_eq 𝒱₀ (c : Thread nD τ) none Set.univ) (Set.mem_univ _) 0 (O := owe c E) (R := r) (m := 0) (T := ∅)
      (by rw [show ((c : Thread nD τ), (SemLoc.dma cc0_scratch2.sem : SemLoc sig)) = cpyC c from rfl, expect_in X c cS _ (lim_c hr), amt_c, hN, Nat.zero_add])) $$ [Hc HO Ha]
  · isplitr; · iexact HI
    isplitl [Hc]; · rw [hN]; iexact Hc
    isplitl [HO]; · iexact HO
    isplitr
    · iapply (mayWait c cS 0 0 (by norm_num) (le_of_eq (lv_c c 0)) _ (fun g u h => by
        obtain ⟨h1, h2, h3⟩ := owe_lv h; exact ⟨h1, by omega, h3⟩)); iexact Hlev
    iexact Ha
  iintro ⟨HO, Ha, #Hr, Hpay⟩
  ihave Hp := (cpy_rest X c r hr) $$ Hpay
  iapply h
  unfold St
  isplitl [Hpos Htok HO Hsl]
  · isplitr
    · isplitr; · iexact Hrec
      isplitr; · iexact Hlev
      iexact Hkn
    isplitl [Hpos]; · iexact Hpos
    isplitl [Htok]; · iexact Htok
    isplitl [HO]; · iexists _; iexact HO
    iexact Hsl
  isplitl [Hp]; · iexact Hp
  isplitl [Ha Ht]
  · unfold CpS
    isplitr; · iexact Hr
    isplitl [Ha]; · iexact Ha
    iexact Ht
  iexact HR

/-- The copy of a tile's columns into the work block. -/
theorem get_run (K : Dev nD × Fin 13 → ℕ) (c : Dev nD) (E : ℕ) (t : Fin k0_t1_loop.trips) {α : Type} (p : P (F := F) α) (Q : α → sProp 𝕄) (R : sProp 𝕄)
    (h : iprop(St X K c E ∗ workPts c (inBlk X t.val c) ∗ inAll c (X c) ∗ CpS c (2 * t.val + 1) ∗ R) ⊢ Wp c p Q) :
    iprop(St X K c E ∗ (∃ f, workPts c f) ∗ inAll c (X c) ∗ CpS c (2 * t.val) ∗ R) ⊢ Wp c (do getOp t; gotOp t; p) Q := by
  have ht := tile_lt t
  have hN : (workM : Memref sig .tc .vmem S8192x256 .f32).view.amount (SemLoc.dma cc0_scratch2.sem : SemLoc sig) = N := work_credit
  have h' : iprop(St X K c E ∗ pay X c cS (2 * t.val) ∗ CpS c (2 * t.val + 1) ∗ (inRest c t (X c) ∗ R)) ⊢ Wp c p Q := by
    rw [cpy_pay_in]
    refine BIBase.Entails.trans ?_ h
    iintro ⟨HS, ⟨Hw, Hi⟩, HC, Hi', HR⟩
    isplitl [HS]; · iexact HS
    isplitl [Hw]; · iexact Hw
    isplitl [Hi Hi']
    · iapply (in_split c t (X c)).2
      isplitl [Hi]; · iexact Hi
      iexact Hi'
    isplitl [HC]; · iexact HC
    iexact HR
  unfold getOp gotOp
  simp only [Prog.lift, Prog.bind_op, Prog.bind_ret, Prog.pure_eq_ret]
  unfold CpS
  rw [from_first (show 2 * t.val < 8 by omega)]
  iintro ⟨HS, ⟨%f, Hw⟩, Hi, ⟨#Hr, Ha, Ht, Hts⟩, HR⟩
  ihave Hi2 := (in_split c t (X c)).1 $$ Hi
  icases Hi2 with ⟨Hi, Hi'⟩
  ihave Hw' := (Entails.of_eq (workPts_view c f)) $$ Hw
  unfold St
  icases HS with ⟨⟨#Hrec, #Hlev, #Hkn⟩, HS⟩
  ihave #HI := (inv_at X K c 8 cS osem_8) $$ Hrec
  unfold inPts
  iapply (Rounds.wp_copy_pointsTo (src := inT t) (dst := workM) (sem := .dma cc0_scratch2.sem) 𝒱₀ ER (Rd X) (c : Thread nD τ) none (κ := K (c, 8))
      (r := 2 * t.val) (d := ()) (fd := f)
      (by show () ∈ (Rd X).duties (c, cS) (2 * t.val); rw [duties_in X c _ _ (lim_c (by omega))]; exact Finset.mem_singleton_self _) 0 N hN amt_c
      (by
        show _ ⊢ pay X c cS (2 * t.val)
        rw [cpy_pay_in, in_read]
        have e : (workM.view.write (Elt F) (f : S8192x256.Idx → F .f32) (inBlk X t.val c) Finset.univ) = inBlk X t.val c := View.write_whole_univ _ _ _
        rw [e]
        exact sep_mono_left (Entails.of_eq (workPts_view c _).symm))) $$ [Hi Hw' Ht]
  · isplitr; · iexact HI
    isplitl [Hi]; · iexact Hi
    isplitl [Hw']; · iexact Hw'
    isplitl [Ht]; · iexact Ht
    iexact Hr
  iintro Hc
  iapply (wait_run X K c E (2 * t.val) (by omega) work_credit p Q iprop(inRest c t (X c) ∗ R) h')
  unfold St
  isplitl [HS]
  · isplitr
    · isplitr; · iexact Hrec
      isplitr; · iexact Hlev
      iexact Hkn
    iexact HS
  isplitl [Hc Ha Hts]
  · isplitl [Hc]; · iexact Hc
    isplitl [Ha]; · iexact Ha
    iexact Hts
  isplitl [Hi']; · iexact Hi'
  iexact HR

/-- The copy of the work block to the tile's columns of the output. -/
theorem put_run (K : Dev nD × Fin 13 → ℕ) (c : Dev nD) (E : ℕ) (t : Fin k0_t1_loop.trips) (g : S8192x1024.Idx → F .f32) {α : Type} (p : P (F := F) α)
    (Q : α → sProp 𝕄) (R : sProp 𝕄)
    (h : iprop(St X K c E ∗ workPts c (fin X t.val c) ∗ outAll c (outV X t.val c g) ∗ CpS c (2 * t.val + 2) ∗ R) ⊢ Wp c p Q) :
    iprop(St X K c E ∗ workPts c (fin X t.val c) ∗ outAll c g ∗ CpS c (2 * t.val + 1) ∗ R) ⊢ Wp c (do putOp t; putdOp t; p) Q := by
  have ht := tile_lt t
  have hN : (outT t).view.amount (SemLoc.dma cc0_scratch2.sem : SemLoc sig) = N := out_credit t
  have h' : iprop(St X K c E ∗ pay X c cS (2 * t.val + 1) ∗ CpS c (2 * t.val + 1 + 1) ∗ (outRest c t g ∗ R)) ⊢ Wp c p Q := by
    rw [cpy_pay_out]
    refine BIBase.Entails.trans ?_ h
    iintro ⟨HS, ⟨⟨%f, Hi⟩, Hw⟩, HC, Hi', HR⟩
    isplitl [HS]; · iexact HS
    isplitl [Hw]; · iexact Hw
    isplitl [Hi Hi']
    · iapply (out_join X c t f g)
      isplitl [Hi]; · iexact Hi
      iexact Hi'
    isplitl [HC]; · iexact HC
    iexact HR
  unfold putOp putdOp
  simp only [Prog.lift, Prog.bind_op, Prog.bind_ret, Prog.pure_eq_ret]
  unfold CpS
  rw [from_first (show 2 * t.val + 1 < 8 by omega)]
  iintro ⟨HS, Hw, Hi, ⟨#Hr, Ha, Ht, Hts⟩, HR⟩
  ihave Hi2 := (out_split c t g).1 $$ Hi
  icases Hi2 with ⟨Hi, Hi'⟩
  ihave Hw' := (Entails.of_eq (workPts_view c (fin X t.val c))) $$ Hw
  unfold St
  icases HS with ⟨⟨#Hrec, #Hlev, #Hkn⟩, HS⟩
  ihave #HI := (inv_at X K c 8 cS osem_8) $$ Hrec
  unfold outPts
  iapply (Rounds.wp_copy_pointsTo (src := workM) (dst := outT t) (sem := .dma cc0_scratch2.sem) 𝒱₀ ER (Rd X) (c : Thread nD τ) none (κ := K (c, 8))
      (r := 2 * t.val + 1) (d := ()) (fd := g)
      (by show () ∈ (Rd X).duties (c, cS) (2 * t.val + 1); rw [duties_in X c _ _ (lim_c (by omega))]; exact Finset.mem_singleton_self _) 0 N hN amt_c
      (by
        show _ ⊢ pay X c cS (2 * t.val + 1)
        rw [cpy_pay_out]
        refine sep_mono (BIBase.Entails.trans (Entails.of_eq ?_) (exists_intro g)) (Entails.of_eq (workPts_view c _).symm)
        rw [work_read]
        exact pointsTo_congr fun i hi => out_written X t c g i hi)) $$ [Hi Hw' Ht]
  · isplitr; · iexact HI
    isplitl [Hw']; · iexact Hw'
    isplitl [Hi]; · iexact Hi
    isplitl [Ht]; · iexact Ht
    iexact Hr
  iintro Hc
  iapply (wait_run X K c E (2 * t.val + 1) (by omega) (out_credit t) p Q iprop(outRest c t g ∗ R) h')
  unfold St
  isplitl [HS]
  · isplitr
    · isplitr; · iexact Hrec
      isplitr; · iexact Hlev
      iexact Hkn
    iexact HS
  isplitl [Hc Ha Hts]
  · isplitl [Hc]; · iexact Hc
    isplitl [Ha]; · iexact Ha
    iexact Hts
  isplitl [Hi']; · iexact Hi'
  iexact HR

end Cert.Bitonic

end
-- ==== Proof.Tile.lean ====
/-
One tile, and the whole body.
-/
module

public import proofs.«01_k».proof.Proof.Copy

@[expose] public section

noncomputable section

namespace Cert.Bitonic

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (X : Dev nD → S8192x1024.Idx → F .f32)

theorem prt_tile (c : Dev nD) (t e : ℕ) : prt c (6 * t + e) = prt c e := by
  rw [← prt_mod c (6 * t + e), Nat.mul_add_mod, prt_mod]
theorem sl_tile (t e : ℕ) (s : Fin 2) (h : s.val = e % 2) : s = sl (6 * t + e) := Fin.ext (by show s.val = (6 * t + e) % 2; omega)
theorem keep_tile (c : Dev nD) (t e : ℕ) : keepU c (6 * t + e) = keepU c e := by
  unfold keepU
  rw [← jd_mod (6 * t + e), ← kd_mod (6 * t + e), Nat.mul_add_mod, jd_mod, kd_mod]
theorem xw_tile (c : Dev nD) (t e : ℕ) (he : e < 6) : xw X (6 * t + e) c = pre (inBlk X t) e c := by
  unfold xw; rw [show (6 * t + e) / 6 = t by omega, show (6 * t + e) % 6 = e by omega]
theorem step_val (c : Dev nD) (t e : ℕ) (he : e < 6) :
    post c e (keepB (keepU c (6 * t + e)) (xw X (6 * t + e) c) (xw X (6 * t + e) (prt c (6 * t + e)))) = pre (inBlk X t) (e + 1) c := by
  rw [xw_tile X _ t e he, xw_tile X _ t e he, keep_tile, prt_tile]; rfl

/-- One tile on device `c`: its columns of the output hold the sorted network's result, everything else is as before. -/
theorem tile_run (K : Dev nD × Fin 13 → ℕ) (c : Dev nD) (t : Fin k0_t1_loop.trips) (g : S8192x1024.Idx → F .f32) :
    iprop(St X K c (6 * t.val) ∗ (∃ f, workPts c f) ∗ inAll c (X c) ∗ CpS c (2 * t.val) ∗ outAll c g)
      ⊢ Wp c (tileChain c (myWord c) t)
        (fun _ => iprop(St X K c (6 * t.val + 6) ∗ (∃ f, workPts c f) ∗ inAll c (X c) ∗ CpS c (2 * t.val + 2) ∗ outAll c (outV X t.val c g))) := by
  have ht := tile_lt t
  unfold tileChain
  refine get_run X K c (6 * t.val) t _ _ (outAll c g) ?_
  refine sep_left_comm.1.trans (local_run c _ ?_)
  refine sep_left_comm.1.trans ?_
  rw [show merV c 13 (locV (inBlk X t.val c)) = xw X (6 * t.val + 0) c from (xw_tile X c t.val 0 (by norm_num)).symm]
  refine exch_run X K c t 0 (6 * t.val + 0) rfl (by omega) _ _ ((dev_1 c).trans (prt_tile c t.val 0).symm) ((dev_2 c).trans (prt_tile c t.val 0).symm) 0 (sl_tile t.val 0 0 rfl) _ ((keep_0 c).trans (by rw [keep_tile])) (offC_inb 0) _ _ _ ?_
  refine sep_left_comm.1.trans (merge_run c 14 _ (dir_14 c) _ ?_)
  rw [show merV c 14 _ = _ from step_val X c t.val 0 (by norm_num)]
  refine sep_left_comm.1.trans ?_
  rw [← xw_tile X c t.val 1 (by norm_num)]
  refine exch_run X K c t 1 (6 * t.val + 1) rfl (by omega) _ _ ((dev_3 c).trans (prt_tile c t.val 1).symm) ((dev_4 c).trans (prt_tile c t.val 1).symm) 1 (sl_tile t.val 1 1 rfl) _ ((keep_1 c).trans (by rw [keep_tile])) (offC_inb 1) _ _ _ ?_
  rw [show keepB _ _ _ = _ from step_val X c t.val 1 (by norm_num)]
  rw [← xw_tile X c t.val 2 (by norm_num)]
  refine exch_run X K c t 2 (6 * t.val + 2) rfl (by omega) _ _ ((dev_5 c).trans (prt_tile c t.val 2).symm) ((dev_6 c).trans (prt_tile c t.val 2).symm) 0 (sl_tile t.val 2 0 rfl) _ ((keep_2 c).trans (by rw [keep_tile])) (offC_inb 0) _ _ _ ?_
  refine sep_left_comm.1.trans (merge_run c 15 _ (dir_15 c) _ ?_)
  rw [show merV c 15 _ = _ from step_val X c t.val 2 (by norm_num)]
  refine sep_left_comm.1.trans ?_
  rw [← xw_tile X c t.val 3 (by norm_num)]
  refine exch_run X K c t 3 (6 * t.val + 3) rfl (by omega) _ _ ((dev_7 c).trans (prt_tile c t.val 3).symm) ((dev_8 c).trans (prt_tile c t.val 3).symm) 1 (sl_tile t.val 3 1 rfl) _ ((keep_3 c).trans (by rw [keep_tile])) (offC_inb 1) _ _ _ ?_
  rw [show keepB _ _ _ = _ from step_val X c t.val 3 (by norm_num)]
  rw [← xw_tile X c t.val 4 (by norm_num)]
  refine exch_run X K c t 4 (6 * t.val + 4) rfl (by omega) _ _ ((dev_9 c).trans (prt_tile c t.val 4).symm) ((dev_10 c).trans (prt_tile c t.val 4).symm) 0 (sl_tile t.val 4 0 rfl) _ ((keep_4 c).trans (by rw [keep_tile])) (offC_inb 0) _ _ _ ?_
  rw [show keepB _ _ _ = _ from step_val X c t.val 4 (by norm_num)]
  rw [← xw_tile X c t.val 5 (by norm_num)]
  refine exch_run X K c t 5 (6 * t.val + 5) rfl (by omega) _ _ ((dev_11 c).trans (prt_tile c t.val 5).symm) ((dev_12 c).trans (prt_tile c t.val 5).symm) 1 (sl_tile t.val 5 1 rfl) _ ((keep_5 c).trans (by rw [keep_tile])) (offC_inb 1) _ _ _ ?_
  refine sep_left_comm.1.trans (merge_run c 16 _ (dir_16 c) _ ?_)
  rw [show merV c 16 _ = _ from step_val X c t.val 5 (by norm_num)]
  refine sep_left_comm.1.trans ?_
  rw [show pre (inBlk X t.val) (5 + 1) c = fin X t.val c from rfl]
  refine BIBase.Entails.trans (Q := iprop(St X K c (6 * t.val + 6) ∗ workPts c (fin X t.val c) ∗ outAll c g ∗ CpS c (2 * t.val + 1) ∗ inAll c (X c))) ?_ ?_
  · iintro ⟨HS, Hw, Hi, HC, Ho⟩
    isplitl [HS]; · iexact HS
    isplitl [Hw]; · iexact Hw
    isplitl [Ho]; · iexact Ho
    isplitl [HC]; · iexact HC
    iexact Hi
  refine put_run X K c (6 * t.val + 6) t g _ _ (inAll c (X c)) ?_
  unfold Wp
  rw [Prog.pure_eq_ret, wp_ret]
  iintro ⟨HS, Hw, Ho, HC, Hi⟩
  imodintro
  isplitl [HS]; · iexact HS
  isplitl [Hw]; · iexists _; iexact Hw
  isplitl [Hi]; · iexact Hi
  isplitl [HC]; · iexact HC
  iexact Ho

end Cert.Bitonic

end
-- ==== Proof.Body.lean ====
/-
The whole body on one device, from the launch's state to the closed cells.
-/
module

public import proofs.«01_k».proof.Proof.Tile

@[expose] public section

noncomputable section

namespace Cert.Bitonic

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (X : Dev nD → S8192x1024.Idx → F .f32)

/-- The output of device `c` when every tile is done. -/
def outF (c : Dev nD) : S8192x1024.Idx → F .f32 := fun i => fin X ((i 1).val / 256) c (ix2 (i 0) ⟨(i 1).val % 256, Nat.mod_lt _ (by norm_num)⟩)
/-- The output of device `c` when `n` tiles are done, from contents `g`. -/
def outN (c : Dev nD) (g : S8192x1024.Idx → F .f32) (n : ℕ) : S8192x1024.Idx → F .f32 := fun i => if (i 1).val / 256 < n then outF X c i else g i
theorem outN_zero (c : Dev nD) (g : S8192x1024.Idx → F .f32) : outN X c g 0 = g := by funext i; unfold outN; rw [if_neg (by omega)]
theorem outN_succ (c : Dev nD) (g : S8192x1024.Idx → F .f32) (n : ℕ) : outV X n c (outN X c g n) = outN X c g (n + 1) := by
  funext i
  unfold outV outN
  by_cases h : (i 1).val / 256 = n
  · rw [if_pos h, if_pos (by omega)]; unfold outF; rw [h]
  · rw [if_neg h]
    by_cases h' : (i 1).val / 256 < n
    · rw [if_pos h', if_pos (by omega)]
    · rw [if_neg h', if_neg (by omega)]
theorem outN_four (c : Dev nD) (g : S8192x1024.Idx → F .f32) : outN X c g 4 = outF X c := by
  funext i; unfold outN
  have : (i 1).val < 1024 := (i 1).isLt
  rw [if_pos (by omega)]

/-! ## The thirteen cells -/

omit [FloatOps F] in
theorem bigSep_fin13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

omit [FloatOps F] in
theorem bigSep_with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem from_8 (n : ℕ) (Φ : ℕ → sProp 𝕄) :
    from' n (n + 8) Φ = iprop(Φ n ∗ Φ (n + 1) ∗ Φ (n + 2) ∗ Φ (n + 3) ∗ Φ (n + 4) ∗ Φ (n + 5) ∗ Φ (n + 6) ∗ from' (n + 7) (n + 8) Φ) := by
  rw [from_first (show n < n + 8 by omega), from_first (show n + 1 < n + 8 by omega), from_first (show n + 1 + 1 < n + 8 by omega),
    from_first (show n + 1 + 1 + 1 < n + 8 by omega), from_first (show n + 1 + 1 + 1 + 1 < n + 8 by omega), from_first (show n + 1 + 1 + 1 + 1 + 1 < n + 8 by omega),
    from_first (show n + 1 + 1 + 1 + 1 + 1 + 1 < n + 8 by omega)]
theorem from_1 (n : ℕ) (Φ : ℕ → sProp 𝕄) : from' n (n + 1) Φ = Φ n := by
  unfold from'; rw [show Finset.Ico n (n + 1) = {n} from by ext a; rw [Finset.mem_Ico, Finset.mem_singleton]; omega, bigSep_singleton]
theorem from_2 (n : ℕ) (Φ : ℕ → sProp 𝕄) : from' n (n + 2) Φ = iprop(Φ n ∗ Φ (n + 1)) := by
  rw [from_first (show n < n + 2 by omega), from_1]

theorem ends (c : Dev nD) : iprop(posn c 24 ∗ atPos ER (cpyC c) 8 ∅ 0)
    ⊢ (bigSep Finset.univ fun k : Fin 13 => (atPos ER (kcell (c, k)) (lim (osem k)) ∅ 0 : sProp 𝕄)) := by
  unfold posn
  rw [from_8, from_2, from_2, from_1, bigSep_fin13]
  iintro ⟨⟨⟨H0, H1, H2, H3, H4, H5, H6, H7⟩, ⟨H9, H10⟩, H11, H12⟩, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem starts (c : Dev nD) : (bigSep Finset.univ fun k : Fin 13 => (atPos ER (kcell (c, k)) 0 ∅ 0 : sProp 𝕄))
    ⊢ iprop(posn c 0 ∗ atPos ER (cpyC c) 0 ∅ 0) := by
  unfold posn
  rw [from_8, from_2, from_2, from_1, bigSep_fin13]
  iintro ⟨H0, H1, H2, H3, H4, H5, H6, H7, H8, H9, H10, H11, H12⟩
  isplitr [H8]
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H9 H10]
    · isplitl [H9]; · iexact H9
      iexact H10
    isplitl [H11]; · iexact H11
    iexact H12
  iexact H8

theorem close (K : Dev nD × Fin 13 → ℕ) (c : Dev nD) : iprop(records X K ∗ posn c 24 ∗ atPos ER (cpyC c) 8 ∅ 0)
    ⊢ |={Set.univ}=> (bigSep Finset.univ fun k : Fin 13 => semVal (kcell (c, k)) 0 : sProp 𝕄) := by
  refine (sep_mono_right (ends c)).trans ((bigSep_with_records (Ψ := fun k => iprop(|={Set.univ}=> semVal (kcell (c, k)) 0)) fun k _ => ?_).trans (bigSep_fupd _ _))
  exact (sep_mono_left (inv_at X K c k _ rfl)).trans
    (Rounds.cell_close ER (Rd X) (Set.mem_univ (K (c, k))) (fun h => h) (R := lim (osem k)) (fun r h => duties_out X (kcell (c, k)) r h))

/-! ## The body -/

/-- Device `c` as the body leaves it. -/
def Done (c : Dev nD) : sProp 𝕄 :=
  iprop((∃ W, owes (c : Thread nD τ) 0 W) ∗ (bigSep Finset.univ fun k : Fin 13 => semVal (kcell (c, k)) 0)
    ∗ from' 24 26 (slotE c) ∗ (∃ f, workPts c f) ∗ inAll c (X c) ∗ outAll c (outF X c))

theorem body_run (K : Dev nD × Fin 13 → ℕ) (c : Dev nD) (g : S8192x1024.Idx → F .f32) :
    iprop(St X K c 0 ∗ (∃ f, workPts c f) ∗ inAll c (X c) ∗ CpS c 0 ∗ outAll c g)
      ⊢ Wp c (cc0_body inM (Memref.isWhole_whole _) outM (Memref.isWhole_whole _) workM (Memref.isWhole_whole _) commM (Memref.isWhole_whole _)
          cc0_scratch2 cc0_scratch3 cc0_scratch4 cc0_scratch5) (fun _ => Done X c) := by
  rw [body_eq]
  simp only [Prog.lift, Prog.bind_op, Prog.bind_ret]
  unfold Wp
  rw [wp_deviceId]
  show _ ⊢ Wp c _ _
  refine Wp_seq (B := fun _ => iprop(St X K c 24 ∗ (∃ f, workPts c f) ∗ inAll c (X c) ∗ CpS c 8 ∗ outAll c (outF X c))) ?_ fun _ => ?_
  · have hI := Scf.wp_for Idealize.ShloMosaic.frame (wpE (defs₀ (F := F)) 𝒱₀ (c : Thread nD τ) none) Set.univ _ _ _ k0_t1_ok (⟨⟩ : PUnit)
      (fun t _ => tileChain c (myWord c) t)
      (fun n _ => iprop(St X K c (6 * n) ∗ (∃ f, workPts c f) ∗ inAll c (X c) ∗ CpS c (2 * n) ∗ outAll c (outN X c g n)))
      (fun t _ => by
        have := tile_run X K c t (outN X c g t.val)
        rw [outN_succ] at this
        exact this)
      (Q := fun _ => iprop(St X K c 24 ∗ (∃ f, workPts c f) ∗ inAll c (X c) ∗ CpS c 8 ∗ outAll c (outF X c)))
    refine BIBase.Entails.trans ?_ hI
    rw [outN_zero]
    iintro H
    isplitl [H]; · iexact H
    iintro %_ H
    rw [show Scf.trips k0_t1_loop.lb k0_t1_loop.ub k0_t1_loop.st = 4 from trips_eq, outN_four]
    iexact H
  · unfold Wp
    rw [Prog.pure_eq_ret, wp_ret]
    unfold St CpS
    rw [owe_end]
    iintro ⟨⟨⟨#Hrec, -⟩, Hpos, -, HO, Hsl⟩, Hw, Hi, ⟨-, Ha, -⟩, Ho⟩
    imod (close X K c) $$ [Hpos Ha] with Hz
    · isplitr; · iexact Hrec
      isplitl [Hpos] <;> iassumption
    imodintro
    unfold Done
    isplitl [HO]; · iexact HO
    isplitl [Hz]; · iexact Hz
    isplitl [Hsl]; · iexact Hsl
    isplitl [Hw]; · iexact Hw
    isplitl [Hi]; · iexact Hi
    iexact Ho

end Cert.Bitonic

end
-- ==== Proof.Fund.lean ====
/-
What the launch gives: the cells' ghost state, the tokens handed around, the credits.
-/
module

public import proofs.«01_k».proof.Proof.Body
public import Idealize.ShloMosaic.Lib.Pipeline.Launch
public import Idealize.ShloMosaic.Lib.Pipeline.Kit

@[expose] public section

noncomputable section

namespace Cert.Bitonic

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (X : Dev nD → S8192x1024.Idx → F .f32)

/-! ## Stars over counted sets -/

omit [FloatOps F] in
theorem star_fin (n : ℕ) (Φ : ℕ → sProp 𝕄) : (bigSep Finset.univ fun i : Fin n => Φ i.val) = from' 0 n Φ := by
  unfold from'
  rw [show Finset.Ico 0 n = Finset.univ.map (Fin.valEmbedding (n := n)) from by
    ext a; rw [Finset.mem_Ico, Finset.mem_map]
    exact ⟨fun h => ⟨⟨a, h.2⟩, Finset.mem_univ _, rfl⟩, fun ⟨b, _, h⟩ => ⟨Nat.zero_le _, h ▸ b.isLt⟩⟩, bigSep_map]
  rfl

omit [FloatOps F] in
theorem cred_sum {I : Type} [DecidableEq I] (s : Finset I) (T : I → CellTallies nD τ sig ℕ) : (cred (∑ i ∈ s, T i) : sProp 𝕄) = bigSep s fun i => cred (T i) := by
  induction s using Finset.induction_on with
  | empty => rw [Finset.sum_empty, cred_zero, BI.bigSep_empty]; rfl
  | insert a S ha ih => rw [Finset.sum_insert ha, BI.bigSep_insert ha, BI.Entails.antisymm (cred_add _ _).1 (cred_add _ _).2, ih]; rfl

/-! ## Credits -/

/-- What the other devices owe device `c` in exchange `i`. -/
def due1 (c : Dev nD) (i : ℕ) : CellTallies nD τ sig ℕ := tallyAt (rcvC c i) i N + tallyAt (rdyC c i) i 1
def due (c : Dev nD) : CellTallies nD τ sig ℕ := ∑ i ∈ Finset.Ico 0 24, due1 c i

theorem owe_total : ∑ d : Dev nD, owe d 0 = ∑ d : Dev nD, due d := by
  unfold owe due
  rw [Finset.sum_comm, Finset.sum_comm (s := Finset.univ) (f := fun d i => due1 d i)]
  refine Finset.sum_congr rfl fun i _ => ?_
  exact Equiv.sum_comp (swp i) (fun d => due1 d i)

theorem due_other (c d : Dev nD) (h : d ≠ c) (sm : SemLoc sig) : due d ((c : Thread nD τ), sm) = 0 := by
  unfold due
  rw [Finset.sum_apply]
  refine Finset.sum_eq_zero fun i _ => ?_
  unfold due1
  have hne : ∀ sm', (((c : Thread nD τ), sm) : GSem nD τ sig) ≠ ((d : Thread nD τ), sm') := fun sm' h' =>
    h (congrArg (fun g : GSem nD τ sig => g.1.1) h').symm
  rw [Pi.add_apply, tallyAt_ne_cell (hne _), tallyAt_ne_cell (hne _), add_zero]

theorem launch_due (c : Dev nD) (sm : SemLoc sig) :
    launchCredit (Pipeline.owing fun d => owe d 0) 0 ((c : Thread nD τ), sm) = due c ((c : Thread nD τ), sm) := by
  ext u
  rw [Pipeline.launchCredit_owing]
  have h := congrFun owe_total ((c : Thread nD τ), sm)
  rw [Finset.sum_apply, Finset.sum_apply, Finset.sum_eq_single c (fun d _ hd => due_other c d hd sm) (fun h => absurd (Finset.mem_univ c) h)] at h
  rw [← h, Finsupp.finset_sum_apply]

theorem due_cells (c : Dev nD) : ∑ sm : SemLoc sig, tallyOn ((c : Thread nD τ), sm) (due c ((c : Thread nD τ), sm)) = due c := by
  funext g
  rw [Finset.sum_apply]
  by_cases hg : g.1 = (c : Thread nD τ)
  · obtain ⟨g1, sm⟩ := g
    have hg : g1 = (c : Thread nD τ) := hg
    subst hg
    rw [Finset.sum_eq_single sm (fun s _ hs => tallyOn_ne (fun h => hs (congrArg Prod.snd h).symm) _) (fun h => absurd (Finset.mem_univ sm) h), tallyOn_self]
  · rw [Finset.sum_eq_zero fun s _ => tallyOn_ne (fun h => hg (congrArg Prod.fst h)) _]
    symm
    unfold due
    rw [Finset.sum_apply]
    refine Finset.sum_eq_zero fun i _ => ?_
    unfold due1
    rw [Pi.add_apply, tallyAt_ne_cell (fun h => hg (congrArg Prod.fst h)), tallyAt_ne_cell (fun h => hg (congrArg Prod.fst h)), add_zero]

theorem creds (c : Dev nD) : (Pipeline.launchCred (fun d => owe d 0) c : sProp 𝕄)
    ⊢ from' 0 24 (fun i => iprop(cred (tallyAt (rcvC c i) i N) ∗ cred (tallyAt (rdyC c i) i 1))) := by
  unfold Pipeline.launchCred
  rw [bigSep_congr (fun sm _ => by rw [launch_due c sm]), ← cred_sum, due_cells]
  unfold due from'
  rw [cred_sum]
  exact bigSep_mono fun i _ => (cred_add _ _).1

/-! ## Cells and tokens -/

theorem osem_injective : Function.Injective osem := by decide +kernel
theorem kcell_injective : Function.Injective kcell := by
  rintro ⟨c, k⟩ ⟨c', k'⟩ h
  have h1 : c = c' := congrArg (fun g : GSem nD τ sig => g.1.1) h
  have h2 : k = k' := osem_injective (congrArg Prod.snd h)
  rw [h1, h2]
def theCells : Finset (GSem nD τ sig) := Finset.univ.map ⟨kcell, kcell_injective⟩

/-- The tokens of a device: for every exchange its ready, receive and send cells' rounds, and the rounds of its copy cell. -/
def tokAt : Fin 4 × Fin 24 → SemLoc sig × ℕ
  | (0, i) => (rS i, i.val / 8)
  | (1, i) => (vS i, i.val / 2)
  | (2, i) => (sS i, i.val / 2)
  | (3, i) => (cS, i.val)
theorem tokAt_injective : Function.Injective tokAt := by decide +kernel
def tokOf (x : Dev nD × (Fin 4 × Fin 24)) : GSem nD τ sig × ℕ × Unit := (((x.1 : Thread nD τ), (tokAt x.2).1), (tokAt x.2).2, ())
theorem tokOf_injective : Function.Injective tokOf := by
  rintro ⟨c, x⟩ ⟨c', x'⟩ h
  have h1 : c = c' := congrArg (fun g : GSem nD τ sig × ℕ × Unit => g.1.1.1) h
  have h2 : x = x' := tokAt_injective (Prod.ext (congrArg (fun g : GSem nD τ sig × ℕ × Unit => g.1.2) h) (congrArg (fun g : GSem nD τ sig × ℕ × Unit => g.2.1) h))
  rw [h1, h2]
def theToks : Finset (GSem nD τ sig × ℕ × Unit) := Finset.univ.map ⟨tokOf, tokOf_injective⟩

/-- A device's own tokens at launch. -/
def ownToks (c : Dev nD) : sProp 𝕄 :=
  iprop((bigSep Finset.univ fun i : Fin 24 => dutyTok ER (rdyC c i) (i.val / 8) ()) ∗ (bigSep Finset.univ fun i : Fin 24 => dutyTok ER (rcvC c i) (i.val / 2) ())
    ∗ (bigSep Finset.univ fun i : Fin 24 => dutyTok ER (sndC c i) (i.val / 2) ()) ∗ (bigSep Finset.univ fun i : Fin 24 => dutyTok ER (cpyC c) i.val ()))

/-- The tokens a device pays with. -/
def payToks (c : Dev nD) : sProp 𝕄 :=
  iprop((bigSep Finset.univ fun i : Fin 24 => dutyTok ER (rdyC (prt c i) i) (i.val / 8) ()) ∗ (bigSep Finset.univ fun i : Fin 24 => dutyTok ER (rcvC (prt c i) i) (i.val / 2) ())
    ∗ (bigSep Finset.univ fun i : Fin 24 => dutyTok ER (sndC c i) (i.val / 2) ()) ∗ (bigSep Finset.univ fun i : Fin 24 => dutyTok ER (cpyC c) i.val ()))

/-- The partner of every exchange at once. -/
def swpAll : Dev nD × Fin 24 ≃ Dev nD × Fin 24 where
  toFun x := (prt x.1 x.2, x.2)
  invFun x := (prt x.1 x.2, x.2)
  left_inv x := by show (prt (prt x.1 x.2) x.2, x.2) = x; rw [prt_prt]
  right_inv x := by show (prt (prt x.1 x.2) x.2, x.2) = x; rw [prt_prt]

theorem around (Φ : Dev nD → Fin 24 → sProp 𝕄) :
    (bigSep Finset.univ fun c : Dev nD => bigSep Finset.univ fun i : Fin 24 => Φ c i)
      = bigSep Finset.univ fun c : Dev nD => bigSep Finset.univ fun i : Fin 24 => Φ (prt c i) i := by
  rw [← bigSep_univ_prod (fun x : Dev nD × Fin 24 => Φ x.1 x.2), bigSep_univ_equiv swpAll (fun x : Dev nD × Fin 24 => Φ x.1 x.2), bigSep_univ_prod]
  rfl

theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep', around (fun c i => (dutyTok ER (rdyC c i) (i.val / 8) () : sProp 𝕄)),
    around (fun c i => (dutyTok ER (rcvC c i) (i.val / 2) () : sProp 𝕄))]

theorem star_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- What device `c` has of the ghost state at launch. -/
def G (c : Dev nD) : sProp 𝕄 :=
  iprop((bigSep Finset.univ fun k : Fin 13 => roundState ER (Rd X) (kcell (c, k)) 0)
    ∗ (bigSep Finset.univ fun k : Fin 13 => iprop(atPos ER (kcell (c, k)) 0 ∅ 0 ∗ reached ER (kcell (c, k)) 0)) ∗ ownToks c)
/-- And once the invariants are allocated. -/
def G' (c : Dev nD) : sProp 𝕄 :=
  iprop(∃ K, records X K ∗ (bigSep Finset.univ fun k : Fin 13 => atPos ER (kcell (c, k)) 0 ∅ 0) ∗ payToks c)

theorem fund_cells : BI.own (ER (initOf theCells theToks)) ⊢ (|==> bigSep Finset.univ (G X) : sProp 𝕄) := by
  have hX (Φ : GSem nD τ sig → sProp 𝕄) : bigSep theCells Φ = bigSep Finset.univ fun c : Dev nD => bigSep Finset.univ fun k : Fin 13 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => ownToks c := by
    unfold theToks; rw [bigSep_map, bigSep_univ_prod]
    exact bigSep_congr fun c _ => by unfold ownToks; rw [bigSep_univ_prod, star_fin4]; rfl
  iintro HX
  imod (Rounds.fund ER (Rd X) theCells theToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems_eq (c : Dev nD) : (Pipeline.ownSems0 (Ix := ℕ) (Name := ℕ) (U := UU) (Lvl := ℕ) (Val := Elt F) (τ := τ) osem c : sProp 𝕄)
    = bigSep Finset.univ fun k : Fin 13 => semVal (kcell (c, k)) 0 := rfl

theorem core_alloc (c : Dev nD) :
    iprop(Pipeline.ownSems0 (Ix := ℕ) (Name := ℕ) (U := UU) (Lvl := ℕ) (Val := Elt F) (τ := τ) osem c ∗ G X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ ownToks c) := by
  unfold G
  rw [ownSems_eq]
  iintro ⟨Hv, Hst, Hat, Htok⟩
  imod (show iprop((bigSep Finset.univ fun k : Fin 13 => semVal (kcell (c, k)) 0) ∗ bigSep Finset.univ fun k : Fin 13 => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem give (K : Dev nD × Fin 13 → ℕ) (c : Dev nD) : iprop(records X K ∗ (bigSep Finset.univ fun k : Fin 13 => atPos ER (kcell (c, k)) 0 ∅ 0) ∗ payToks c) ⊢ (G' X c : sProp 𝕄) := by
  unfold G'
  iintro H
  iexists K
  iexact H

theorem regroup :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' X) := by
  rw [bigSep_sep', bigSep_sep', ← bigSep_univ_prod (fun ck : Dev nD × Fin 13 => iprop(∃ κ : ℕ, cellInv ER (Rd X) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (Rd X) κ (kcell ck) : sProp 𝕄))) $$ HI
  icases HK with ⟨%K, #HI⟩
  ihave Htk := (toks_around (F := F)) $$ Htok
  iapply (bigSep_with_records (R := records X K) (Φ := fun c => iprop((bigSep Finset.univ fun k : Fin 13 => atPos ER (kcell (c, k)) 0 ∅ 0) ∗ payToks c)) fun c _ =>
    give X K c)
  isplitr
  · unfold records; isplitl; · iexact HI
    iexact HR
  · rw [bigSep_sep']
    isplitl [Hat]; · iexact Hat
    iexact Htk

theorem glob : (bigSep Finset.univ fun c => iprop(Pipeline.ownSems0 (Ix := ℕ) (Name := ℕ) (U := UU) (Lvl := ℕ) (Val := Elt F) (τ := τ) osem c ∗ G X c) : sProp 𝕄)
    ⊢ |={Set.univ}=> bigSep Finset.univ (G' X) :=
  ((bigSep_mono fun c _ => core_alloc X c).trans (bigSep_fupd _ _)).trans (BI.fupd_mono (regroup X))

end Cert.Bitonic

end
-- ==== Proof.Launch.lean ====
/-
The run of the whole program on every device, for any float values.
-/
module

public import proofs.«01_k».proof.Proof.Fund
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Bitonic

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-- The memory every device starts with. -/
def s₀ : MemSt nD τ sig (Elt F) := ⟨m, fun _ => 0, ρ⟩

/-- The devices' inputs. -/
def arg (c : Dev nD) : S8192x1024.Idx → F .f32 := m ((c : Thread nD τ).loc main_arg0)

/-! ## The landing buffer in two slots -/

def commPts (c : Dev nD) (f : Two F) : sProp 𝕄 := (c : Thread nD τ).loc cc0_scratch1 ↦{fullShare} (f : Buf (Elt F) ((c : Thread nD τ).loc cc0_scratch1))

theorem slot_rest : Finset.univ \ (slotM 0).view.set = (slotM 1).view.set := by
  ext i
  rw [slot_set, slot_set, Finset.mem_sdiff, mem_slot, mem_slot]
  have : (i 0).val < 2 := (i 0).isLt
  constructor
  · rintro ⟨-, h⟩
    have h : ¬ (i 0).val = 0 := h
    show (i 0).val = 1
    omega
  · intro h
    have h : (i 0).val = 1 := h
    exact ⟨Finset.mem_univ _, fun h' => by have h' : (i 0).val = 0 := h'; omega⟩

theorem slots_split (c : Dev nD) (f : Two F) : commPts c f ⊢ iprop(slotPts c 0 f ∗ slotPts c 1 f) := by
  unfold commPts slotPts
  refine (pointsTo_split_subset (Finset.subset_univ (slotM 0).view.set)).1.trans ?_
  rw [slot_rest]

theorem slots_join (c : Dev nD) (f g : Two F) : iprop(slotPts c 0 f ∗ slotPts c 1 g) ⊢ (∃ f, commPts c f : sProp 𝕄) := by
  unfold commPts slotPts
  have h := pointsTo_join_subset (Ix := ℕ) (Val := Elt F) (Name := ℕ) (U := UU) (Lvl := ℕ) (ℓ := (c : Thread nD τ).loc cc0_scratch1) (q := fullShare)
    (f := (g : Buf (Elt F) ((c : Thread nD τ).loc cc0_scratch1))) (g := (f : Buf (Elt F) ((c : Thread nD τ).loc cc0_scratch1))) (Finset.subset_univ (slotM 0).view.set)
  rw [slot_rest] at h
  iintro H
  iexists _
  iapply h
  iexact H

/-! ## A device's start -/

variable (X : Dev nD → S8192x1024.Idx → F .f32)

theorem know_start (K : Dev nD × Fin 13 → ℕ) (c : Dev nD) : records X K ⊢ know c 0 := by
  have hu : ∀ (n : ℕ) (Φ : ℕ → sProp 𝕄), (∀ i, i < n → records X K ⊢ Φ i) → (records X K ⊢ upTo n Φ) := fun n Φ h => by
    unfold upTo
    exact (BI.bigSep_of_persistent (Finset.range n) (records X K)).trans (bigSep_mono fun i hi => h i (Finset.mem_range.mp hi))
  have h8 : ∀ (d : Dev nD) (i : ℕ), i < 8 → (records X K ⊢ reached ER (rdyC d i) (i / 8)) := fun d i hi => by
    rw [show i / 8 = 0 by omega]; exact reached_at X K d (kr i) _ (osem_kr i)
  unfold know
  iintro #H
  isplitl; · iapply (hu _ _ fun i hi => h8 c i (by omega)); iexact H
  isplitl; · iapply (hu _ _ fun i hi => h8 (prt c i) i (by omega)); iexact H
  isplitl
  · iapply (hu _ _ fun i hi => show records X K ⊢ reached ER (sndC c i) (i / 2) by
      rw [show i / 2 = 0 by omega]; exact reached_at X K c (ks i) _ (osem_ks i)); iexact H
  · iapply (hu _ _ fun i hi => show records X K ⊢ reached ER (rcvC c i) (i / 2) by
      rw [show i / 2 = 0 by omega]; exact reached_at X K c (kv i) _ (osem_kv i)); iexact H

omit [FloatOps F] in
theorem tok_order (A B C D E : sProp 𝕄) : iprop(A ∗ B ∗ C ∗ D ∗ E) ⊢ iprop(A ∗ B ∗ C ∗ E ∗ D) := by
  iintro ⟨H1, H2, H3, H4, H5⟩
  isplitl [H1]; · iexact H1
  isplitl [H2]; · iexact H2
  isplitl [H3]; · iexact H3
  isplitl [H5] <;> iassumption

theorem toks_start (c : Dev nD) : iprop(payToks c ∗ Pipeline.launchCred (fun d => owe d 0) c)
    ⊢ iprop(from' 0 24 (tok c) ∗ from' 0 8 (fun i => (dutyTok ER (cpyC c) i () : sProp 𝕄))) := by
  have h8 : from' 0 24 (fun i => (dutyTok ER (cpyC c) i () : sProp 𝕄)) ⊢ from' 0 8 (fun i => (dutyTok ER (cpyC c) i () : sProp 𝕄)) := by
    unfold from'
    rw [show Finset.Ico 0 24 = Finset.Ico 0 8 ∪ Finset.Ico 8 24 from (Finset.Ico_union_Ico_eq_Ico (by norm_num) (by norm_num)).symm,
      BI.bigSep_union (Finset.Ico_disjoint_Ico_consecutive 0 8 24)]
    exact sep_elim_left
  have ht : iprop(from' 0 24 (fun i => (dutyTok ER (rdyC (prt c i) i) (i / 8) () : sProp 𝕄)) ∗ from' 0 24 (fun i => (dutyTok ER (rcvC (prt c i) i) (i / 2) () : sProp 𝕄))
      ∗ from' 0 24 (fun i => (dutyTok ER (sndC c i) (i / 2) () : sProp 𝕄)) ∗ from' 0 24 (fun i => iprop(cred (tallyAt (rcvC c i) i N) ∗ cred (tallyAt (rdyC c i) i 1))))
      ⊢ (from' 0 24 (tok c) : sProp 𝕄) := by
    unfold from'
    rw [← bigSep_sep', ← bigSep_sep', ← bigSep_sep']
    refine bigSep_mono fun i _ => ?_
    unfold tok
    exact tok_order _ _ _ _ _
  unfold payToks
  rw [star_fin 24 (fun i => (dutyTok ER (rdyC (prt c i) i) (i / 8) () : sProp 𝕄)), star_fin 24 (fun i => (dutyTok ER (rcvC (prt c i) i) (i / 2) () : sProp 𝕄)),
    star_fin 24 (fun i => (dutyTok ER (sndC c i) (i / 2) () : sProp 𝕄)), star_fin 24 (fun i => (dutyTok ER (cpyC c) i () : sProp 𝕄))]
  iintro ⟨⟨H1, H2, H3, H4⟩, H5⟩
  ihave H5 := (creds c) $$ H5
  isplitl [H1 H2 H3 H5]
  · iapply ht
    isplitl [H1]; · iexact H1
    isplitl [H2]; · iexact H2
    isplitl [H3] <;> iassumption
  · iapply h8; iexact H4

/-! ## The region's data -/

/-- What a device starts the kernel with, beside its scratch buffers. -/
def start (c : Dev nD) : sProp 𝕄 :=
  iprop(inAll c (arg m c) ∗ outAll c (m ((c : Thread nD τ).loc main_v1)) ∗ levAts L lv ∗ Pipeline.launchCred (fun d => owe d 0) c ∗ G' (arg m) c)
def Φ₀ (c : Dev nD) : sProp 𝕄 := iprop(start m c ∗ (∃ f, workPts c f) ∗ ∃ f, commPts c f)
def Φ₁ (c : Dev nD) : sProp 𝕄 :=
  iprop((inAll c (arg m c) ∗ outAll c (outF (arg m) c)) ∗ (bigSep Finset.univ fun k : Fin 13 => semVal (kcell (c, k)) 0) ∗ (∃ f, workPts c f) ∗ ∃ f, commPts c f)

def dats (_ : Fin 1) (c : Dev nD) : Dat τ (Elt F) ℕ ℕ UU ℕ cfg0 c where
  A w := (s₀ m ρ).mem ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => owe c 0
    | ⟨_ + 1, _⟩ => 0

theorem body_start (c : Dev nD) : iprop(Φ₀ m c ∗ ∃ W, owes (c : Thread nD τ) (owe c 0) W)
    ⊢ (∃ K, St (arg m) K c 0 ∗ (∃ f, workPts c f) ∗ inAll c (arg m c) ∗ CpS c 0 ∗ outAll c (m ((c : Thread nD τ).loc main_v1)) : sProp 𝕄) := by
  unfold Φ₀ start G' St CpS
  iintro ⟨⟨⟨Hin, Hout, #Hlev, Hcr, %K, #HR, Hat, Hpay⟩, Hwork, %f, Hc⟩, HO⟩
  iexists K
  ihave Hs := (slots_split c f) $$ Hc
  icases Hs with ⟨Hs0, Hs1⟩
  ihave Ht := (toks_start c) $$ [Hpay Hcr]
  · isplitl [Hpay] <;> iassumption
  icases Ht with ⟨Htok, Hcp⟩
  ihave Hp := (starts c) $$ Hat
  icases Hp with ⟨Hpos, Hat⟩
  isplitl [Hs0 Hs1 Htok Hpos HO]
  · isplitl []
    · isplitl []; · iexact HR
      isplitl []; · iexact Hlev
      iapply (know_start (arg m) K c); iexact HR
    isplitl [Hpos]; · iexact Hpos
    isplitl [Htok]; · iexact Htok
    isplitl [HO]; · iexact HO
    rw [from_2]; unfold slotE
    isplitl [Hs0]
    · iexists f; iexact Hs0
    · iexists f; iexact Hs1
  isplitl [Hwork]; · iexact Hwork
  isplitl [Hin]; · iexact Hin
  isplitl [Hcp Hat]
  · isplitl []
    · iapply (reached_at (arg m) K c 8 cS rfl); iexact HR
    isplitl [Hat] <;> iassumption
  iexact Hout

theorem body_end (c : Dev nD) : Done (arg m) c ⊢ iprop(Φ₁ m c ∗ ∃ W, owes (c : Thread nD τ) 0 W) := by
  unfold Done Φ₁
  rw [from_2 24]
  unfold slotE
  iintro ⟨HO, Hsem, ⟨⟨%f, H0⟩, %g, H1⟩, Hw, Hin, Hout⟩
  ihave Hc := (show iprop(slotPts c (sl 24) f ∗ slotPts c (sl (24 + 1)) g) ⊢ (∃ f, commPts c f : sProp 𝕄) from slots_join c f g) $$ [H0 H1]
  · isplitl [H0] <;> iassumption
  isplitr [HO]
  · isplitl [Hin Hout]
    · isplitl [Hin] <;> iassumption
    isplitl [Hsem]; · iexact Hsem
    isplitl [Hw] <;> iassumption
  iexact HO

theorem body_all (c : Dev nD) : iprop(Φ₀ m c ∗ ∃ W, owes (c : Thread nD τ) (owe c 0) W)
    ⊢ Wp c (cc0_body inM (Memref.isWhole_whole _) outM (Memref.isWhole_whole _) workM (Memref.isWhole_whole _) commM (Memref.isWhole_whole _)
          cc0_scratch2 cc0_scratch3 cc0_scratch4 cc0_scratch5) (fun _ => iprop(Φ₁ m c ∗ ∃ W, owes (c : Thread nD τ) 0 W)) := by
  refine (body_start m c).trans (exists_elim fun K => (body_run (arg m) K c _).trans ?_)
  exact wp_mono _ _ _ fun _ => body_end m c

theorem body_obligation (c : Dev nD) : BodyObligation (dats m ρ 0 c) (defs₀ (F := F)) 𝒱₀ (0 : ℕ) Set.univ := fun t => by
  rw [fin_N0 t]
  refine BIBase.Entails.trans (Q := iprop(Φ₀ m c ∗ ∃ W, owes (c : Thread nD τ) (owe c 0) W)) ?_ ((body_all m c).trans (wp_mono _ _ _ fun _ => ?_))
  · show iprop(Φ₀ m c ∗ (dats m ρ 0 c).owesAt 0 t0_0.castSucc ∗ _) ⊢ _
    iintro ⟨H, Ho, -⟩
    unfold Dat.owesAt Pipeline.owesWithin
    icases Ho with ⟨%W, %hW, HO⟩
    isplitl [H]; · iexact H
    iexists W; iexact HO
  · show _ ⊢ iprop(Φ₁ m c ∗ (dats m ρ 0 c).owesAt 0 t0_0.succ ∗ _)
    iintro ⟨H, %W, HO⟩
    isplitl [H]; · iexact H
    isplitl [HO]
    · unfold Dat.owesAt Pipeline.owesWithin
      iexists W; isplitr; · ipureintro; exact fun _ _ => Or.inl trivial
      iexact HO
    · rw [Finset.univ_eq_empty, BI.bigSep_empty]; iempintro

/-! ## The launch -/

theorem ownSemFacts : Pipeline.OwnSemFacts cfg0.spec osem := by decide

def u₀ : UU := (initOf (Pipeline.cells cfgs cellOf_inj) (Pipeline.launchToks cfgs cellOf_inj), initOf theCells theToks)

theorem start_intro (c : Dev nD) :
    iprop(Pipeline.unscopedRestP Pipeline.Prefetch.none cfg0.spec c (fun b => m ((c : Thread nD τ).loc b)) ∗ unscopedSems0 c ∗ levAts L lv
        ∗ Pipeline.launchCred (fun d => owe d 0) c ∗ prngReg c (ρ c) ∗ G' (arg m) c)
      ⊢ |={Set.univ}=> iprop(start m c ∗ emp) := by
  rw [Pipeline.unscopedRestP_none, unscopedRest0_eq]
  unfold start inAll outAll
  iintro ⟨⟨Hin, Hout⟩, -, Hlev, Hcr, -, HG⟩
  imodintro
  isplitl
  · isplitl [Hin]; · iexact Hin
    isplitl [Hout]; · iexact Hout
    isplitl [Hlev]; · iexact Hlev
    isplitl [Hcr] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hw, Hc⟩
  isplitl [Hs]; · iexact Hs
  isplitl [Hw]
  · iexact Hw
  · iexact Hc

theorem phi1_exit (c : Dev nD) :
    (dats m ρ 0 c).Φ (Fin.last cfg0.N)
      ⊢ iprop((inAll c (arg m c) ∗ outAll c (outF (arg m) c)) ∗ Pipeline.ownSems0 osem c ∗ Pipeline.scopedRest cfg0.spec c) := by
  rw [show (dats m ρ 0 c).Φ (Fin.last cfg0.N) = Φ₁ m c from rfl, scopedRest0_eq, ownSems_eq]
  exact .rfl

theorem waits (c : Dev nD) : (levAts L lv : sProp 𝕄) ⊢ Pipeline.cellsWaits cfgs (dats m ρ) (0 : ℕ) 0 c :=
  Pipeline.cellsWaits_intro cfgs (dats m ρ) (0 : ℕ) 0 c fun w s t => w.elim0

/-- From any memory with zero counters, every weakly fair execution of the program on all devices terminates, and in
    every final state each device's input is unchanged, its result is the sorted block and every semaphore is zero. -/
theorem run_main : θ_run defs (onTc (τ := τ) (main (F := F))) (s₀ m ρ)
    (fun r => (∀ c : Dev nD, r.2.mem ((c : Thread nD τ).loc main_arg0) = m ((c : Thread nD τ).loc main_arg0)
      ∧ r.2.mem ((c : Thread nD τ).loc main_v1) = outF (arg m) c) ∧ r.2.sem = fun _ => 0) :=
  Pipeline.θ_run_region_owing_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := fun _ w => w.elim0)
    (hdistinct := winFacts0.arr_inj)
    (O₀ := fun d => owe d 0) (howed₀ := fun _ => rfl) (howedN := fun _ => rfl)
    (L := L) (lv := lv) (hL := L_of_ne) (hwaits := waits m ρ)
    (G := G (arg m)) (G' := G' (arg m)) (u₀ := u₀)
    (hu₀ := by
      unfold u₀
      iintro Hu
      ihave H := (ownU_pair _ _) $$ Hu
      icases H with ⟨HP, HX⟩
      imod (fund_cells (arg m)) $$ HX with HG
      imodintro
      isplitl [HP] <;> iassumption)
    (hglob := glob (arg m))
    (hA := fun _ _ => rfl) (hpf := fun _ k => k.elim0)
    (X := start m) (Y := fun c => iprop(inAll c (arg m c) ∗ outAll c (outF (arg m) c))) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ s.mem ((c : Thread nD τ).loc main_v1) = outF (arg m) c)
    (hY := fun c s' => by
      unfold inAll outAll
      iintro ⟨⟨H1, H2⟩, -, HSI⟩
      icombine HSI H1 gives %h1
      icombine HSI H2 gives %h2
      imodintro
      isplitr; · ipureintro; exact ⟨Buf.eq_of_forall_mem_univ h1, Buf.eq_of_forall_mem_univ h2⟩
      iexact HSI)
    (hQ := fun _ h hs => ⟨fun c => (h c).2.2, sem_eq_zero_of_scoped (by decide) hs⟩)

end Cert.Bitonic

end
-- ==== Proof.Net.lean ====
/-
The passes and exchanges of one tile, over the extended reals, are the bitonic sorting network on all rows of all devices.
-/
module

public import proofs.«01_k».proof.Proof.Vals
public import Idealize.ShloMosaic.PureOps.Ideal
public import Idealize.ShloMosaic.Lib.SortNet.Sorts

@[expose] public section

noncomputable section

namespace Cert.Bitonic

open Cert.KernelIdeal Cert.KernelIdeal.Gen

open Idealize.ShloMosaic
open Idealize.ShloMosaic.ValueIdx
open Idealize.ShloMosaic.SortNet (Network partner stage sortNet)

/-! ## One column over all devices -/

/-- Column `L` of the blocks of all devices, the rows numbered through. -/
def allRows (B : Dev nD → Blk Ideal) (L : Fin 256) : Fin (2 ^ 16) → EReal := fun i =>
  B ⟨i.val / 8192, by have := i.isLt; show _ < 8; omega⟩ (row (i.val % 8192) L)

theorem allRows_at (B : Dev nD → Blk Ideal) (L : Fin 256) (i : Fin (2 ^ 16)) (c : Dev nD) (r : ℕ) (hr : r < 8192) (h : i.val = 8192 * c.val + r) :
    allRows B L i = B c (row r L) := by
  unfold allRows
  rw [show (⟨i.val / 8192, by have := i.isLt; show _ < 8; omega⟩ : Dev nD) = c from Fin.ext (by show i.val / 8192 = c.val; omega), show i.val % 8192 = r by omega]

/-- Every row of the column is a row of a device. -/
theorem place (i : Fin (2 ^ 16)) : ∃ (c : Dev nD) (r : ℕ), r < 8192 ∧ i.val = 8192 * c.val + r :=
  ⟨⟨i.val / 8192, by have := i.isLt; show _ < 8; omega⟩, i.val % 8192, by omega, by show _ = 8192 * (i.val / 8192) + _; omega⟩

/-! ## One stage of the network -/

/-- The stage at distance `2 ^ s` of level `l` of the ascending sort. -/
def st (l s : ℕ) : Network (2 ^ 16) := stage 16 s fun i => decide (i.val &&& 2 ^ (l + 1) = 0) == false

/-- Whether level `l` sorts upwards at row `i`. -/
def dirB (l i : ℕ) : Bool := decide (i / 2 ^ (l + 1) % 2 = 0)

theorem bit_iff (i s : ℕ) : i &&& 2 ^ s = 0 ↔ i / 2 ^ s % 2 = 0 := by
  rw [SortNet.and_two_pow_eq_zero_iff_testBit, Nat.testBit_eq_decide_div_mod_eq, decide_eq_false_iff_not]
  omega

theorem dirB_partner (l s : ℕ) (hs : s < 16) (h : s ≠ l + 1) (i : Fin (2 ^ 16)) : dirB l (partner 16 s i).val = dirB l i.val := by
  have e : ∀ x : ℕ, dirB l x = !(x.testBit (l + 1)) := fun x => by
    unfold dirB
    rw [Nat.testBit_eq_decide_div_mod_eq]
    rcases Nat.mod_two_eq_zero_or_one (x / 2 ^ (l + 1)) with h | h <;> rw [h] <;> rfl
  rw [e, e, SortNet.partner_val hs, Nat.testBit_xor, Nat.testBit_two_pow_of_ne h, Bool.xor_false]

theorem st_word (l : ℕ) (i : Fin (2 ^ 16)) : (decide (i.val &&& 2 ^ (l + 1) = 0) == false) = !dirB l i.val := by
  have : ∀ (p q : Prop) [Decidable p] [Decidable q], (p ↔ q) → (decide p == false) = !decide q := fun p q _ _ h => by
    rw [decide_eq_decide.mpr h]
    cases decide q <;> rfl
  exact this _ _ (bit_iff i.val (l + 1))

/-- The earlier row of a pair. -/
theorem st_low (l s : ℕ) (hs : s < 16) (v : Fin (2 ^ 16) → EReal) (i : Fin (2 ^ 16)) (h : i.val / 2 ^ s % 2 = 0) :
    Network.apply (st l s) v i = if dirB l i.val then min (v i) (v (partner 16 s i)) else max (v i) (v (partner 16 s i)) := by
  unfold st
  rw [(SortNet.apply_stage hs _ v i ((bit_iff _ _).mpr h)).1, st_word]
  cases dirB l i.val <;> rfl

/-- The later row of a pair. -/
theorem st_high (l s : ℕ) (hs : s < 16) (hl : s ≠ l + 1) (v : Fin (2 ^ 16) → EReal) (i : Fin (2 ^ 16)) (h : i.val / 2 ^ s % 2 = 1) :
    Network.apply (st l s) v i = if dirB l i.val then max (v (partner 16 s i)) (v i) else min (v (partner 16 s i)) (v i) := by
  have hne : ¬ (i.val &&& 2 ^ s = 0) := fun h' => by have := (bit_iff _ _).mp h'; omega
  have := (SortNet.apply_stage hs (fun i => decide (i.val &&& 2 ^ (l + 1) = 0) == false) v (partner 16 s i) (SortNet.partner_and_of_set hs i hne)).2
  rw [SortNet.partner_partner hs, st_word, dirB_partner l s hs hl] at this
  unfold st
  rw [this]
  cases dirB l i.val <;> rfl

/-! ## A pass inside the blocks is a stage -/

theorem pass_bits (s c r : ℕ) (hs : s < 13) (hr : r < 8192) : (8192 * c + r) / 2 ^ s % 2 = r / 2 ^ s % 2 := by
  interval_cases s <;> norm_num <;> omega
theorem pass_room (s r : ℕ) (hs : s < 13) (hr : r < 8192) (h : r / 2 ^ s % 2 = 0) : r + 2 ^ s < 8192 := by
  interval_cases s <;> norm_num at h ⊢ <;> omega
theorem pass_back (s r : ℕ) (hs : s < 13) (hr : r < 8192) (h : r / 2 ^ s % 2 = 1) : 2 ^ s ≤ r := by
  by_contra h'
  rw [Nat.div_eq_of_lt (by omega)] at h
  omega

theorem allRows_cx (l s : ℕ) (hs : s < 13) (hl : s ≠ l + 1) (up : Dev nD → ℕ → Bool) (hup : ∀ (c : Dev nD) (r : ℕ), r < 8192 → up c r = dirB l (8192 * c.val + r))
    (B : Dev nD → Blk Ideal) (L : Fin 256) : allRows (fun c => cx (2 ^ s) (up c) (B c)) L = Network.apply (st l s) (allRows B L) := by
  funext i
  obtain ⟨c, r, hr, hi⟩ := place i
  have hb := pass_bits s c.val r hs hr
  rw [← hi] at hb
  rw [allRows_at _ L i c r hr hi]
  rcases Nat.mod_two_eq_zero_or_one (r / 2 ^ s) with h | h
  · have hp := SortNet.partner_val_of_clear (show s < 16 by omega) i ((bit_iff _ _).mpr (hb.trans h))
    rw [cx_lo _ _ _ r hr L h, st_low l s (by omega) _ i (hb.trans h), hup c r hr, ← hi, allRows_at B L i c r hr hi,
      allRows_at B L (partner 16 s i) c (r + 2 ^ s) (pass_room s r hs hr h) (by omega)]
    rfl
  · have hp := SortNet.partner_val_of_set (show s < 16 by omega) i (fun h' => by have := (bit_iff _ _).mp h'; omega)
    have hb' := pass_back s r hs hr h
    rw [cx_hi _ _ _ r hr L h, st_high l s (by omega) hl _ i (hb.trans h), hup c r hr, ← hi, allRows_at B L i c r hr hi,
      allRows_at B L (partner 16 s i) c (r - 2 ^ s) (lt_of_le_of_lt (Nat.sub_le _ _) hr) (by rw [hp.2, hi, Nat.add_sub_assoc hb'])]
    rfl

theorem upL_dir (l : ℕ) (hl : l < 12) (c r : ℕ) (hr : r < 8192) : upL (2 ^ (l + 1)) r = dirB l (8192 * c + r) := by
  unfold upL dirB
  rw [pass_bits (l + 1) c r (by omega) hr]

theorem upD_dir (l : ℕ) (h : 12 ≤ l) (h' : l < 16) (c r : ℕ) (hr : r < 8192) : upD c (l + 1) = dirB l (8192 * c + r) := by
  unfold upD dirB
  refine decide_eq_decide.mpr ?_
  interval_cases l <;> norm_num <;> omega

/-! ## An exchange between devices is a stage -/

theorem jd_pow (e : ℕ) (he : e < 6) : ∃ a, a < 3 ∧ jd e = 2 ^ a ∧ 13 + a < kd e := by
  interval_cases e
  exacts [⟨0, by decide⟩, ⟨1, by decide⟩, ⟨0, by decide⟩, ⟨2, by decide⟩, ⟨1, by decide⟩, ⟨0, by decide⟩]

theorem prt_low (e : ℕ) (he : e < 6) (c : Dev nD) (h : c.val / jd e % 2 = 0) : (prt c e).val = c.val + jd e := by
  interval_cases e <;> revert c <;> decide
theorem prt_high (e : ℕ) (he : e < 6) (c : Dev nD) (h : c.val / jd e % 2 = 1) : c.val = (prt c e).val + jd e := by
  interval_cases e <;> revert c <;> decide

theorem exch_bits (a c r : ℕ) (ha : a < 3) (hr : r < 8192) : (8192 * c + r) / 2 ^ (13 + a) % 2 = c / 2 ^ a % 2 := by
  interval_cases a <;> norm_num <;> omega
theorem exch_step (a c r : ℕ) (ha : a < 3) : 8192 * (c + 2 ^ a) + r = 8192 * c + r + 2 ^ (13 + a) := by
  interval_cases a <;> norm_num <;> omega

theorem allRows_exch (e a : ℕ) (he : e < 6) (ha : a < 3) (hj : jd e = 2 ^ a) (hk : 13 + a < kd e) (hk' : kd e ≤ 16) (B : Dev nD → Blk Ideal) (L : Fin 256) :
    allRows (fun c => keepB (keepU c e) (B c) (B (prt c e))) L = Network.apply (st (kd e - 1) (13 + a)) (allRows B L) := by
  funext i
  obtain ⟨c, r, hr, hi⟩ := place i
  have hb := exch_bits a c.val r ha hr
  rw [← hi] at hb
  have hd : upD c.val (kd e) = dirB (kd e - 1) i.val := by
    have := upD_dir (kd e - 1) (by omega) (by omega) c.val r hr
    rwa [show kd e - 1 + 1 = kd e by omega, ← hi] at this
  rw [allRows_at _ L i c r hr hi]
  unfold keepB keepU
  rw [hd]
  rcases Nat.mod_two_eq_zero_or_one (c.val / 2 ^ a) with h | h
  · have hp := SortNet.partner_val_of_clear (show 13 + a < 16 by omega) i ((bit_iff _ _).mpr (hb.trans h))
    have hq := prt_low e he c (by rw [hj]; exact h)
    rw [st_low _ _ (by omega) _ i (hb.trans h), allRows_at B L i c r hr hi,
      allRows_at B L (partner 16 (13 + a) i) (prt c e) r hr (by have := exch_step a c.val r ha; rw [hp, hq, hj]; omega), hj, decide_eq_true h]
    cases dirB (kd e - 1) i.val <;> rfl
  · have hp := SortNet.partner_val_of_set (show 13 + a < 16 by omega) i (fun h' => by have := (bit_iff _ _).mp h'; omega)
    have hq := prt_high e he c (by rw [hj]; exact h)
    rw [st_high _ _ (by omega) (by omega) _ i (hb.trans h), allRows_at B L i c r hr hi,
      allRows_at B L (partner 16 (13 + a) i) (prt c e) r hr (by have := exch_step a (prt c e).val r ha; rw [hj] at hq; rw [← hq] at this; omega), hj,
      decide_eq_false (by omega)]
    cases dirB (kd e - 1) i.val
    · exact min_comm _ _
    · exact max_comm _ _

/-! ## Stretches of stages -/

/-- The stages listed, by level and distance. -/
def run (p : List (ℕ × ℕ)) : Network (2 ^ 16) := p.flatMap fun x => st x.1 x.2

theorem run_append (p q : List (ℕ × ℕ)) (v : Fin (2 ^ 16) → EReal) : Network.apply (run (p ++ q)) v = Network.apply (run q) (Network.apply (run p) v) := by
  unfold run
  rw [List.flatMap_append, Network.apply_append]

theorem run_cons (l s : ℕ) (q : List (ℕ × ℕ)) (v : Fin (2 ^ 16) → EReal) : Network.apply (run ((l, s) :: q)) v = Network.apply (run q) (Network.apply (st l s) v) := by
  unfold run
  rw [List.flatMap_cons, Network.apply_append]

/-- The levels inside a half block. -/
def progL : List (ℕ × ℕ) := (List.range 12).flatMap fun l => (List.range (l + 1)).reverse.map fun s => (l, s)
/-- The stages of level `l` inside a block. -/
def progM (l : ℕ) : List (ℕ × ℕ) := tabD.map fun s => (l, s)

theorem tabL_eq : tabL = progL.map fun y => (y.2, 2 ^ (y.1 + 1)) := by decide +kernel

theorem allRows_foldL (L : Fin 256) (p : List (ℕ × ℕ)) (hp : ∀ y ∈ p, y.1 < 12 ∧ y.2 ≤ y.1) (B : Dev nD → Blk Ideal) :
    allRows (fun c => (p.map fun y => (y.2, 2 ^ (y.1 + 1))).foldl (fun f x => cx (2 ^ x.1) (upL x.2) f) (B c)) L = Network.apply (run p) (allRows B L) := by
  induction p generalizing B with
  | nil => rfl
  | cons y p ih =>
    obtain ⟨l, s⟩ := y
    obtain ⟨h1, h2⟩ : l < 12 ∧ s ≤ l := hp (l, s) (List.mem_cons_self ..)
    rw [run_cons, ← allRows_cx l s (by omega) (by omega) (fun _ => upL (2 ^ (l + 1))) (fun c r hr => upL_dir l h1 c.val r hr) B L]
    exact ih (fun z hz => hp z (List.mem_cons_of_mem _ hz)) _

theorem allRows_locV (B : Dev nD → Blk Ideal) (L : Fin 256) : allRows (fun c => locV (B c)) L = Network.apply (run progL) (allRows B L) := by
  unfold locV
  rw [tabL_eq]
  exact allRows_foldL L progL (by decide +kernel) B

theorem allRows_foldD (L : Fin 256) (l : ℕ) (hl : 12 ≤ l) (hl' : l < 16) (p : List ℕ) (hp : ∀ s ∈ p, s < 13) (B : Dev nD → Blk Ideal) :
    allRows (fun c => p.foldl (fun f s => cx (2 ^ s) (fun _ => upD c.val (l + 1)) f) (B c)) L = Network.apply (run (p.map fun s => (l, s))) (allRows B L) := by
  induction p generalizing B with
  | nil => rfl
  | cons s p ih =>
    have h1 := hp s (List.mem_cons_self ..)
    rw [List.map_cons, run_cons, ← allRows_cx l s h1 (by omega) (fun c _ => upD c.val (l + 1)) (fun c r hr => upD_dir l hl hl' c.val r hr) B L]
    exact ih (fun z hz => hp z (List.mem_cons_of_mem _ hz)) _

theorem allRows_merV (l : ℕ) (hl : 12 ≤ l) (hl' : l < 16) (B : Dev nD → Blk Ideal) (L : Fin 256) :
    allRows (fun c => merV c (l + 1) (B c)) L = Network.apply (run (progM l)) (allRows B L) := by
  unfold merV progM
  exact allRows_foldD L l hl hl' tabD (by decide) B

/-! ## The whole tile -/

/-- The stages that exchange `e` of a tile and what follows it do. -/
def progX : ℕ → List (ℕ × ℕ)
  | 0 => (13, 13) :: progM 13
  | 1 => [(14, 14)]
  | 2 => (14, 13) :: progM 14
  | 3 => [(15, 15)]
  | 4 => [(15, 14)]
  | 5 => (15, 13) :: progM 15
  | _ => []

theorem allRows_pre_succ (x : Dev nD → Blk Ideal) (e : ℕ) (he : e < 6) (L : Fin 256) :
    allRows (pre x (e + 1)) L = Network.apply (run (progX e)) (allRows (pre x e) L) := by
  have hx : ∀ a l : ℕ, a < 3 → jd e = 2 ^ a → 13 + a < kd e → kd e ≤ 16 → kd e - 1 = l →
      allRows (fun c => keepB (keepU c e) (pre x e c) (pre x e (prt c e))) L = Network.apply (st l (13 + a)) (allRows (pre x e) L) :=
    fun a l ha hj hk hk' hl => hl ▸ allRows_exch e a he ha hj hk hk' (pre x e) L
  interval_cases e
  · rw [progX, run_cons, ← hx 0 13 (by decide) (by decide) (by decide) (by decide) (by decide)]
    exact allRows_merV 13 (by decide) (by decide) _ L
  · rw [progX, run_cons, ← hx 1 14 (by decide) (by decide) (by decide) (by decide) (by decide)]
    rfl
  · rw [progX, run_cons, ← hx 0 14 (by decide) (by decide) (by decide) (by decide) (by decide)]
    exact allRows_merV 14 (by decide) (by decide) _ L
  · rw [progX, run_cons, ← hx 2 15 (by decide) (by decide) (by decide) (by decide) (by decide)]
    rfl
  · rw [progX, run_cons, ← hx 1 15 (by decide) (by decide) (by decide) (by decide) (by decide)]
    rfl
  · rw [progX, run_cons, ← hx 0 15 (by decide) (by decide) (by decide) (by decide) (by decide)]
    exact allRows_merV 15 (by decide) (by decide) _ L

/-- The network's stages in the order of the program. -/
theorem prog_eq : ((List.range 16).flatMap fun l => (List.range (l + 1)).reverse.map fun s => (l, s))
    = progL ++ (progM 12 ++ (progX 0 ++ (progX 1 ++ (progX 2 ++ (progX 3 ++ (progX 4 ++ progX 5)))))) := by decide +kernel

theorem sortNet_eq : sortNet 16 false = run ((List.range 16).flatMap fun l => (List.range (l + 1)).reverse.map fun s => (l, s)) := by
  unfold sortNet run
  rw [List.flatMap_assoc]
  refine List.flatMap_congr fun l _ => ?_
  rw [List.flatMap_map]
  rfl

/-- A tile's column, when the tile is done, is the bitonic sort of the column it began with. -/
theorem allRows_pre (x : Dev nD → Blk Ideal) (L : Fin 256) : allRows (pre x 6) L = Network.apply (sortNet 16 false) (allRows x L) := by
  have h0 : allRows (pre x 0) L = Network.apply (run (progM 12)) (Network.apply (run progL) (allRows x L)) := by
    rw [← allRows_locV]
    exact allRows_merV 12 (by decide) (by decide) _ L
  rw [sortNet_eq, prog_eq, run_append, run_append, run_append, run_append, run_append, run_append, run_append, ← h0]
  rw [allRows_pre_succ x 5 (by decide), allRows_pre_succ x 4 (by decide), allRows_pre_succ x 3 (by decide), allRows_pre_succ x 2 (by decide), allRows_pre_succ x 1 (by decide),
    allRows_pre_succ x 0 (by decide)]

/-- So it ascends through all rows of all devices, and is a rearrangement of the column it began with. -/
theorem sorted_col (x : Dev nD → Blk Ideal) (L : Fin 256) :
    Monotone (allRows (pre x 6) L) ∧ ∃ σ : Equiv.Perm (Fin (2 ^ 16)), allRows (pre x 6) L = allRows x L ∘ σ := by
  rw [allRows_pre]
  exact ⟨SortNet.sortNet_apply_monotone 16 _, Network.exists_perm _ _⟩

end Cert.Bitonic

end
-- ==== Proof.RefSort.lean ====
/-
The reference's sort at the extended reals: every column ascends and is a rearrangement of the input's column. So it is
what the kernel's network leaves, and the kernel's blocks are the reference's result laid over the devices.
-/
module

public import proofs.«01_k».proof.Proof.Net
public import proofs.«01_k».proof.Proof.Body
public import proofs.«01_k».proof.ReferenceIdeal
public import Idealize.ShloMosaic.Lib.SortFacts
public import Idealize.ShloMosaic.Lib.Layout
public import Mathlib.Data.List.FinRange
public import Mathlib.Data.List.OfFn
public import Mathlib.Data.List.Sort

@[expose] public section

noncomputable section

namespace Cert.Bitonic

open Cert.KernelIdeal Cert.KernelIdeal.Gen

open Idealize.ShloMosaic
open Idealize.ShloMosaic.ValueIdx

/-- The whole array's shape. -/
abbrev Whole : Shape := ⟨2, ![65536, 1024]⟩

/-! ## The comparison -/

theorem select_self (c : BitVec 1) (x : Ideal .f32) : Scalar.select c x x = x := by
  unfold Scalar.select
  split <;> rfl

theorem zero_word : (FloatOps.ofBits .f32 0x00000000#32 : Ideal .f32) = (0 : EReal) := by
  rw [Ideal.ofBits_def]
  simp [Ideal.ofBits, Ideal.ieee]

/-- An operand of the comparison, zeros made one and undefined words made one, is itself. -/
theorem canon (w x : Ideal .f32) : Scalar.select (FloatOps.cmpf .une x x) w
    (Scalar.select (FloatOps.cmpf .oeq x (FloatOps.ofBits .f32 0x00000000#32)) (FloatOps.ofBits .f32 0x00000000#32) x) = x := by
  rw [zero_word]
  have h1 : FloatOps.cmpf .une x x = (0#1 : BitVec 1) := by
    show BitVec.ofBool (decide (x ≠ x)) = 0#1
    simp
  have h2 : FloatOps.cmpf .oeq x (0 : EReal) = BitVec.ofBool (decide (x = (0 : EReal))) := rfl
  rw [h1, h2]
  by_cases h : x = (0 : EReal)
  · rw [decide_eq_true h, h]; rfl
  · rw [decide_eq_false h]; rfl

/-- The reference compares by the order of the extended reals. -/
theorem compare_lt (x y : Ideal .f32) : Cert.ReferenceIdeal.comparator_f32_d0 (F := Ideal) x y = BitVec.ofBool (decide ((x : EReal) < y)) := by
  show FloatOps.cmpfTotal .lt (Scalar.select (FloatOps.cmpf .une x x) _ (Scalar.select (FloatOps.cmpf .oeq x _) _ x))
    (Scalar.select (FloatOps.cmpf .une y y) _ (Scalar.select (FloatOps.cmpf .oeq y _) _ y)) = _
  rw [canon, canon]
  rfl

/-! ## A column of the sort -/

/-- What the reference computes of an array. -/
def ref (V : Whole.Idx → EReal) : Whole.Idx → EReal := Host.sort Whole 0 (Cert.ReferenceIdeal.comparator_f32_d0 (F := Ideal)) V

/-- Column `q` of an array. -/
def column (V : Whole.Idx → EReal) (q : Fin 1024) : Fin (2 ^ 16) → EReal := fun i => V (ix2 (show Fin 65536 from i) q)

theorem along_row (i k : Fin 65536) (q : Fin 1024) : Shape.Idx.along (s := Whole) (ix2 i q) 0 k = ix2 k q := by
  unfold Shape.Idx.along
  funext d
  match d with
  | ⟨0, _⟩ => rfl
  | ⟨1, _⟩ => rfl

/-- A column of the sort reads the column through the sorted positions. -/
theorem column_ref (V : Whole.Idx → EReal) (q : Fin 1024) :
    column (ref V) q = column V q ∘ sortedFrom fun k k' => decide (column V q k < column V q k') := by
  funext i
  have e : ∀ k k' : Fin 65536, (Cert.ReferenceIdeal.comparator_f32_d0 (F := Ideal) (V (ix2 k q)) (V (ix2 k' q)) == 1#1) = decide (V (ix2 k q) < V (ix2 k' q)) := fun k k' => by
    rw [compare_lt]
    by_cases h : V (ix2 k q) < V (ix2 k' q)
    · rw [decide_eq_true h]; rfl
    · rw [decide_eq_false h]; rfl
  show Host.sort Whole 0 _ V (ix2 (show Fin 65536 from i) q) = _
  unfold Host.sort
  rw [dif_pos (by decide)]
  show V (Shape.Idx.along (s := Whole) (ix2 (show Fin 65536 from i) q) 0 (sortedFrom (fun k k' : Fin 65536 =>
    Cert.ReferenceIdeal.comparator_f32_d0 (F := Ideal) (V (Shape.Idx.along (s := Whole) (ix2 (show Fin 65536 from i) q) 0 k))
      (V (Shape.Idx.along (s := Whole) (ix2 (show Fin 65536 from i) q) 0 k')) == 1#1) i)) = _
  simp only [along_row]
  rw [funext fun k => funext fun k' => e k k']
  exact congrArg V (along_row _ _ q)

/-- Reading through the sorted positions ascends and rearranges. -/
theorem sortedFrom_sorted {n : ℕ} (v : Fin n → EReal) :
    Monotone (v ∘ sortedFrom fun k k' => decide (v k < v k')) ∧ ∃ σ : Equiv.Perm (Fin n), (v ∘ sortedFrom fun k k' => decide (v k < v k')) = v ∘ σ := by
  refine ⟨fun i j hij => ?_, Equiv.ofBijective _ ⟨sortedFrom_injective _, sortedFrom_surjective _⟩, rfl⟩
  rcases hij.lt_or_eq with h | h
  · have := sortedFrom_noInversion (fun k k' => decide (v k < v k')) (fun k k' => decide (v k < v k'))
      (fun a b h => decide_eq_false (not_lt.mpr (of_decide_eq_true h).le)) (fun a b h => h)
      (fun a b c h h' => decide_eq_false (not_lt.mpr (le_trans (not_lt.mp (of_decide_eq_false h')) (not_lt.mp (of_decide_eq_false h))))) i j h
    exact not_lt.mp (of_decide_eq_false this)
  · rw [h]

theorem column_ref_sorted (V : Whole.Idx → EReal) (q : Fin 1024) :
    Monotone (column (ref V) q) ∧ ∃ σ : Equiv.Perm (Fin (2 ^ 16)), column (ref V) q = column V q ∘ σ := by
  rw [column_ref]
  exact sortedFrom_sorted _

/-- Two ascending rearrangements of one column are equal. -/
theorem sorted_unique {n : ℕ} {u w v : Fin n → EReal} (hu : Monotone u) (hw : Monotone w) (eu : ∃ σ : Equiv.Perm (Fin n), u = v ∘ σ)
    (ew : ∃ σ : Equiv.Perm (Fin n), w = v ∘ σ) : u = w := by
  obtain ⟨σ, eσ⟩ := eu
  obtain ⟨τ, eτ⟩ := ew
  have hp : (List.ofFn u).Perm (List.ofFn w) := by
    rw [eσ, eτ]
    exact (Equiv.Perm.ofFn_comp_perm σ v).trans (Equiv.Perm.ofFn_comp_perm τ v).symm
  refine List.ofFn_injective (List.Perm.eq_of_pairwise (le := fun a b : EReal => a ≤ b) (fun _ _ _ _ => le_antisymm) ?_ ?_ hp)
  · rw [List.pairwise_ofFn]
    exact fun i j hij => hu hij.le
  · rw [List.pairwise_ofFn]
    exact fun i j hij => hw hij.le

/-! ## The kernel's blocks -/

/-- Where block `c`'s element is in the whole array. -/
theorem block_at (h : Layout.Tiles (⟨2, ![8192, 1024]⟩ : Shape) Whole 0 8) (V : Whole.Idx → EReal) (c : Fin 8) (r : Fin 8192) (q : Fin 1024) :
    Layout.block ⟨2, ![8192, 1024]⟩ Whole 0 8 c V h (ix2 r q) = V (ix2 (⟨8192 * c.val + r.val, by have := c.isLt; have := r.isLt; omega⟩ : Fin 65536) q) := by
  unfold Layout.block
  congr 1
  funext d
  refine Fin.ext ?_
  rw [Layout.Tiles.idx_val]
  match d with
  | ⟨0, _⟩ =>
    show c.val * 8192 + r.val = 8192 * c.val + r.val
    omega
  | ⟨1, _⟩ => rfl

/-- If the devices hold an array laid over them, the kernel leaves them the sorted array laid over them. -/
theorem out_block (h : Layout.Tiles (⟨2, ![8192, 1024]⟩ : Shape) Whole 0 8) (V : Whole.Idx → EReal) (X : Dev nD → S8192x1024.Idx → Ideal .f32)
    (hX : ∀ c : Dev nD, X c = Layout.block ⟨2, ![8192, 1024]⟩ Whole 0 8 c V h) (c : Dev nD) :
    outF X c = Layout.block ⟨2, ![8192, 1024]⟩ Whole 0 8 c (ref V) h := by
  funext i
  obtain ⟨r, q, rfl⟩ : ∃ (r : Fin 8192) (q : Fin 1024), i = ix2 r q := ⟨i 0, i 1, by funext d; match d with | ⟨0, _⟩ => rfl | ⟨1, _⟩ => rfl⟩
  have hc : c.val < 8 := c.isLt
  have hq := q.isLt
  have hr := r.isLt
  have h0 : allRows (inBlk X (q.val / 256)) ⟨q.val % 256, Nat.mod_lt _ (by norm_num)⟩ = column V q := by
    funext j
    obtain ⟨d, s, hs, hj⟩ := place j
    rw [allRows_at _ _ j d s hs hj]
    unfold inBlk column
    rw [hX]
    have e1 : (row s ⟨q.val % 256, Nat.mod_lt _ (by norm_num)⟩) 0 = (⟨s, hs⟩ : Fin 8192) := Fin.ext (Nat.mod_eq_of_lt hs)
    have e2 : (⟨(256 * (q.val / 256) + ((row s ⟨q.val % 256, Nat.mod_lt _ (by norm_num)⟩) 1).val) % 1024, Nat.mod_lt _ (by norm_num)⟩ : Fin 1024) = q :=
      Fin.ext (by show (256 * (q.val / 256) + q.val % 256) % 1024 = q.val; omega)
    rw [e1, e2, block_at]
    congr 2
    exact Fin.ext hj.symm
  obtain ⟨hm, hp⟩ := sorted_col (inBlk X (q.val / 256)) ⟨q.val % 256, Nat.mod_lt _ (by norm_num)⟩
  rw [h0] at hp
  obtain ⟨hm', hp'⟩ := column_ref_sorted V q
  have hE := congrFun (sorted_unique hm hm' hp hp') ⟨8192 * c.val + r.val, by norm_num; omega⟩
  rw [block_at]
  rw [allRows_at _ _ _ c r.val hr rfl] at hE
  refine Eq.trans ?_ hE
  show pre (inBlk X (q.val / 256)) 6 c (ix2 r _) = _
  congr 1
  unfold row
  congr 1
  exact Fin.ext (Nat.mod_eq_of_lt hr).symm

end Cert.Bitonic

end
-- ==== Proof.lean ====
/-
The certificate: the kernel's run on eight devices (Launch), the reference's run on one (Gen.ReferenceIdeal.Run), and
their equality at the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.RefSort
public import Idealize.ShloMosaic.Adequacy
public import Idealize.ShloMosaic.Init

@[expose] public section

noncomputable section

namespace Cert.Proof

open Idealize.ShloMosaic Idealize.ShloMosaic.TcCoe Idealize.SL.Sem

/-- The kernel on bit patterns runs, leaves its inputs alone and ends with every semaphore at zero. -/
theorem frame_kernel : Cert.quiescent_Kernel := fun m ρ _ =>
  (θ_run Cert.KernelIdeal.defs _ _).mono (fun _ h => ⟨fun c => (h.1 c).1, h.2⟩) (Cert.Bitonic.run_main (F := Bits) m ρ)

/-- So does the kernel on extended reals. -/
theorem frame_ideal : Cert.quiescent_KernelIdeal := fun m ρ _ =>
  (θ_run Cert.KernelIdeal.defs _ _).mono (fun _ h => ⟨fun c => (h.1 c).1, h.2⟩) (Cert.Bitonic.run_main (F := Ideal) m ρ)

/-- The reference on extended reals runs, leaves its input alone and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From one array laid over the devices, the kernel leaves the reference's result laid over the devices. -/
theorem algebraic : Cert.algebraic_KernelIdeal_ReferenceIdeal := by
  intro m g m' g' _ hin
  refine ⟨Cert.Bitonic.ref (m' (((0 : Dev 1).tc).loc Cert.ReferenceIdeal.main_arg0)), ?_, ?_⟩
  · refine (θ_run Cert.KernelIdeal.defs _ _).mono (fun r h c => ?_) (Cert.Bitonic.run_main (F := Ideal) m g)
    exact ⟨(h.1 c).2.trans (Cert.Bitonic.out_block _ _ (Cert.Bitonic.arg m) hin c), (h.1 c).1⟩
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, algebraic⟩

end Cert.Proof

end
